-- ==== Defs.lean ====
def Pre_Kernel [hPre_rows_ok : Cert.Pre_rows_ok.Facts] (m : (ℓ : Loc Cert.Kernel.nD Cert.Kernel.τ Cert.Kernel.sig) → Buf (Elt Bits) ℓ) : Prop :=
  ∀ c : Dev Cert.Kernel.nD,
    (Cert.Pre_rows_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_rows_ok : Cert.Pre_rows_ok.Facts] (m : (ℓ : Loc Cert.KernelIdeal.nD Cert.KernelIdeal.τ Cert.KernelIdeal.sig) → Buf (Elt Ideal) ℓ) : Prop :=
  ∀ c : Dev Cert.KernelIdeal.nD,
    (Cert.Pre_rows_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_KernelIdeal_args_ok [hPre_args_ok : Cert.Pre_args_ok.Facts] (m : (ℓ : Loc Cert.KernelIdeal.nD Cert.KernelIdeal.τ Cert.KernelIdeal.sig) → Buf (Elt Ideal) ℓ) : Prop :=
  ∀ c : Dev Cert.KernelIdeal.nD,
    (Cert.Pre_args_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_args_ok [hPre_args_ok : Cert.Pre_args_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_args_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def Pre_Nearest (m : (ℓ : Loc Cert.Nearest.nD Cert.Nearest.τ Cert.Nearest.sig) → Buf (Elt Bits) ℓ) : Prop :=
  True

def Pre_NearestIdeal (m : (ℓ : Loc Cert.NearestIdeal.nD Cert.NearestIdeal.τ Cert.NearestIdeal.sig) → Buf (Elt Ideal) ℓ) : Prop :=
  True

def Pre_NearestIdeal_coords_ok [hPre_coords_ok : Cert.Pre_coords_ok.Facts] (m : (ℓ : Loc Cert.NearestIdeal.nD Cert.NearestIdeal.τ Cert.NearestIdeal.sig) → Buf (Elt Ideal) ℓ) : Prop :=
  ∀ c : Dev Cert.NearestIdeal.nD,
    (Cert.Pre_coords_ok.fn (F := Ideal) (m ((c.tc : Thread Cert.NearestIdeal.nD Cert.NearestIdeal.τ).loc Cert.NearestIdeal.main_arg0))) = (fun _ => 1#1)

def Pre_FindKnnIdeal (m : (ℓ : Loc Cert.FindKnnIdeal.nD Cert.FindKnnIdeal.τ Cert.FindKnnIdeal.sig) → Buf (Elt Ideal) ℓ) : Prop :=
  True

def Pre_FindKnnIdeal_coords_ok [hPre_coords_ok : Cert.Pre_coords_ok.Facts] (m : (ℓ : Loc Cert.FindKnnIdeal.nD Cert.FindKnnIdeal.τ Cert.FindKnnIdeal.sig) → Buf (Elt Ideal) ℓ) : Prop :=
  ∀ c : Dev Cert.FindKnnIdeal.nD,
    (Cert.Pre_coords_ok.fn (F := Ideal) (m ((c.tc : Thread Cert.FindKnnIdeal.nD Cert.FindKnnIdeal.τ).loc Cert.FindKnnIdeal.main_arg0))) = (fun _ => 1#1)

def quiescent_Kernel [hKernel : Cert.Kernel.Facts] [hPre_rows_ok : Cert.Pre_rows_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] [hPre_rows_ok : Cert.Pre_rows_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_args_ok [hKernelIdeal : Cert.KernelIdeal.Facts] [hPre_args_ok : Cert.Pre_args_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_args_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_args_ok [hReferenceIdeal : Cert.ReferenceIdeal.Facts] [hPre_args_ok : Cert.Pre_args_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_args_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Nearest [hNearest : Cert.Nearest.Facts] : Prop :=
  ∀ (m : (ℓ : Loc Cert.Nearest.nD Cert.Nearest.τ Cert.Nearest.sig) → Buf (Elt Bits) ℓ) (g : Dev Cert.Nearest.nD → PrngReg), Pre_Nearest m →
    θ_run (Cert.Nearest.defs (F := Bits)) (onTc (τ := Cert.Nearest.τ) (Cert.Nearest.main (F := Bits))) ⟨m, fun _ => 0, g⟩ (fun r => (∀ c : Dev Cert.Nearest.nD,
      r.2.mem ((c.tc : Thread Cert.Nearest.nD Cert.Nearest.τ).loc Cert.Nearest.main_arg0) = m ((c.tc : Thread Cert.Nearest.nD Cert.Nearest.τ).loc Cert.Nearest.main_arg0))
      ∧ r.2.sem = fun _ => 0)

def quiescent_NearestIdeal [hNearestIdeal : Cert.NearestIdeal.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0))
      ∧ r.2.sem = fun _ => 0)

def quiescent_NearestIdeal_pre_coords_ok [hNearestIdeal : Cert.NearestIdeal.Facts] [hPre_coords_ok : Cert.Pre_coords_ok.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal_coords_ok m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0))
      ∧ r.2.sem = fun _ => 0)

def quiescent_FindKnnIdeal [hFindKnnIdeal : Cert.FindKnnIdeal.Facts] : Prop :=
  ∀ (m : (ℓ : Loc Cert.FindKnnIdeal.nD Cert.FindKnnIdeal.τ Cert.FindKnnIdeal.sig) → Buf (Elt Ideal) ℓ) (g : Dev Cert.FindKnnIdeal.nD → PrngReg), Pre_FindKnnIdeal m →
    θ_run (Cert.FindKnnIdeal.defs (F := Ideal)) (onTc (τ := Cert.FindKnnIdeal.τ) (Cert.FindKnnIdeal.main (F := Ideal))) ⟨m, fun _ => 0, g⟩ (fun r => (∀ c : Dev Cert.FindKnnIdeal.nD,
      r.2.mem ((c.tc : Thread Cert.FindKnnIdeal.nD Cert.FindKnnIdeal.τ).loc Cert.FindKnnIdeal.main_arg0) = m ((c.tc : Thread Cert.FindKnnIdeal.nD Cert.FindKnnIdeal.τ).loc Cert.FindKnnIdeal.main_arg0))
      ∧ r.2.sem = fun _ => 0)

def quiescent_FindKnnIdeal_pre_coords_ok [hFindKnnIdeal : Cert.FindKnnIdeal.Facts] [hPre_coords_ok : Cert.Pre_coords_ok.Facts] : Prop :=
  ∀ (m : (ℓ : Loc Cert.FindKnnIdeal.nD Cert.FindKnnIdeal.τ Cert.FindKnnIdeal.sig) → Buf (Elt Ideal) ℓ) (g : Dev Cert.FindKnnIdeal.nD → PrngReg), Pre_FindKnnIdeal_coords_ok m →
    θ_run (Cert.FindKnnIdeal.defs (F := Ideal)) (onTc (τ := Cert.FindKnnIdeal.τ) (Cert.FindKnnIdeal.main (F := Ideal))) ⟨m, fun _ => 0, g⟩ (fun r => (∀ c : Dev Cert.FindKnnIdeal.nD,
      r.2.mem ((c.tc : Thread Cert.FindKnnIdeal.nD Cert.FindKnnIdeal.τ).loc Cert.FindKnnIdeal.main_arg0) = m ((c.tc : Thread Cert.FindKnnIdeal.nD Cert.FindKnnIdeal.τ).loc Cert.FindKnnIdeal.main_arg0))
      ∧ r.2.sem = fun _ => 0)

def preserves_Kernel_KernelIdeal : Prop :=
  True

def algebraic_KernelIdeal_ReferenceIdeal_pre_args_ok [hKernelIdeal : Cert.KernelIdeal.Facts] [hReferenceIdeal : Cert.ReferenceIdeal.Facts] [hPre_args_ok : Cert.Pre_args_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_args_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Nearest_NearestIdeal : Prop :=
  True

def algebraic_NearestIdeal_FindKnnIdeal_pre_coords_ok [hNearestIdeal : Cert.NearestIdeal.Facts] [hFindKnnIdeal : Cert.FindKnnIdeal.Facts] [hPre_coords_ok : Cert.Pre_coords_ok.Facts] : Prop :=
  ∀ (m : (ℓ : Loc Cert.NearestIdeal.nD Cert.NearestIdeal.τ Cert.NearestIdeal.sig) → Buf (Elt Ideal) ℓ) (g : Dev Cert.NearestIdeal.nD → PrngReg)
    (m' : (ℓ : Loc Cert.FindKnnIdeal.nD Cert.FindKnnIdeal.τ Cert.FindKnnIdeal.sig) → Buf (Elt Ideal) ℓ) (g' : Dev Cert.FindKnnIdeal.nD → PrngReg), Pre_NearestIdeal_coords_ok m →
    (∀ c : Dev Cert.NearestIdeal.nD,
      m' ((c.tc : Thread Cert.FindKnnIdeal.nD Cert.FindKnnIdeal.τ).loc Cert.FindKnnIdeal.main_arg0) = m ((c.tc : Thread Cert.NearestIdeal.nD Cert.NearestIdeal.τ).loc Cert.NearestIdeal.main_arg0)) →
    ∃ (v0 : (c : Dev Cert.NearestIdeal.nD) → Buf (Elt Ideal) ((c.tc : Thread Cert.NearestIdeal.nD Cert.NearestIdeal.τ).loc Cert.NearestIdeal.main_v4)),
      θ_run (Cert.NearestIdeal.defs (F := Ideal)) (onTc (τ := Cert.NearestIdeal.τ) (Cert.NearestIdeal.main (F := Ideal))) ⟨m, fun _ => 0, g⟩ (fun r => ∀ c : Dev Cert.NearestIdeal.nD,
          r.2.mem ((c.tc : Thread Cert.NearestIdeal.nD Cert.NearestIdeal.τ).loc Cert.NearestIdeal.main_v4) = v0 c
          ∧ r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0))
      ∧ θ_run (Cert.FindKnnIdeal.defs (F := Ideal)) (onTc (τ := Cert.FindKnnIdeal.τ) (Cert.FindKnnIdeal.main (F := Ideal))) ⟨m', fun _ => 0, g'⟩ (fun r => ∀ c : Dev Cert.FindKnnIdeal.nD,
          r.2.mem ((c.tc : Thread Cert.FindKnnIdeal.nD Cert.FindKnnIdeal.τ).loc Cert.FindKnnIdeal.main_v18) = v0 c
          ∧ r.2.mem ((c.tc : Thread Cert.FindKnnIdeal.nD Cert.FindKnnIdeal.τ).loc Cert.FindKnnIdeal.main_arg0) = m' ((c.tc : Thread Cert.FindKnnIdeal.nD Cert.FindKnnIdeal.τ).loc Cert.FindKnnIdeal.main_arg0))

def Claim : Prop :=
  ∃ (hKernel : Cert.Kernel.Facts) (hKernelIdeal : Cert.KernelIdeal.Facts) (hReferenceIdeal : Cert.ReferenceIdeal.Facts) (hNearest : Cert.Nearest.Facts) (hNearestIdeal : Cert.NearestIdeal.Facts) (hFindKnnIdeal : Cert.FindKnnIdeal.Facts) (hPre_rows_ok : Cert.Pre_rows_ok.Facts) (hPre_args_ok : Cert.Pre_args_ok.Facts) (hPre_coords_ok : Cert.Pre_coords_ok.Facts),
    quiescent_Kernel (hKernel := hKernel) (hPre_rows_ok := hPre_rows_ok)
    ∧ quiescent_KernelIdeal (hKernelIdeal := hKernelIdeal) (hPre_rows_ok := hPre_rows_ok)
    ∧ quiescent_KernelIdeal_pre_args_ok (hKernelIdeal := hKernelIdeal) (hPre_args_ok := hPre_args_ok)
    ∧ quiescent_ReferenceIdeal (hReferenceIdeal := hReferenceIdeal)
    ∧ quiescent_ReferenceIdeal_pre_args_ok (hReferenceIdeal := hReferenceIdeal) (hPre_args_ok := hPre_args_ok)
    ∧ quiescent_Nearest (hNearest := hNearest)
    ∧ quiescent_NearestIdeal (hNearestIdeal := hNearestIdeal)
    ∧ quiescent_NearestIdeal_pre_coords_ok (hNearestIdeal := hNearestIdeal) (hPre_coords_ok := hPre_coords_ok)
    ∧ quiescent_FindKnnIdeal (hFindKnnIdeal := hFindKnnIdeal)
    ∧ quiescent_FindKnnIdeal_pre_coords_ok (hFindKnnIdeal := hFindKnnIdeal) (hPre_coords_ok := hPre_coords_ok)
    ∧ preserves_Kernel_KernelIdeal
    ∧ algebraic_KernelIdeal_ReferenceIdeal_pre_args_ok (hKernelIdeal := hKernelIdeal) (hReferenceIdeal := hReferenceIdeal) (hPre_args_ok := hPre_args_ok)
    ∧ preserves_Nearest_NearestIdeal
    ∧ algebraic_NearestIdeal_FindKnnIdeal_pre_coords_ok (hNearestIdeal := hNearestIdeal) (hFindKnnIdeal := hFindKnnIdeal) (hPre_coords_ok := hPre_coords_ok)
-- ==== Pre_args_ok.lean ====
abbrev S2x4096x3 : Shape := ⟨3, ![2, 4096, 3]⟩
abbrev S2x16x4096 : Shape := ⟨3, ![2, 16, 4096]⟩
abbrev S2x4096x256 : Shape := ⟨3, ![2, 4096, 256]⟩
abbrev S256x256 : Shape := ⟨2, ![256, 256]⟩
abbrev S256 : Shape := ⟨1, ![256]⟩
abbrev S256x3 : Shape := ⟨2, ![256, 3]⟩
abbrev S3x3 : Shape := ⟨2, ![3, 3]⟩
abbrev S3 : Shape := ⟨1, ![3]⟩
abbrev S_ : Shape := ⟨0, ![]⟩

class Facts : Prop where
  bcast_S_S2x16x4096 : S_.BroadcastsInDim S2x16x4096 (![] : Fin 0 → Fin S2x16x4096.rank)
  reducesTo_S2x16x4096_S_d0_1_2 : S2x16x4096.ReducesTo [0, 1, 2] S_
  h_S_ : 0 < S_.numel
  bcast_S_S2x4096x3 : S_.BroadcastsInDim S2x4096x3 (![] : Fin 0 → Fin S2x4096x3.rank)
  reducesTo_S2x4096x3_S_d0_1_2 : S2x4096x3.ReducesTo [0, 1, 2] S_
  bcast_S_S2x4096x256 : S_.BroadcastsInDim S2x4096x256 (![] : Fin 0 → Fin S2x4096x256.rank)
  reducesTo_S2x4096x256_S_d0_1_2 : S2x4096x256.ReducesTo [0, 1, 2] S_
  bcast_S_S256x256 : S_.BroadcastsInDim S256x256 (![] : Fin 0 → Fin S256x256.rank)
  reducesTo_S256x256_S_d0_1 : S256x256.ReducesTo [0, 1] S_
  bcast_S_S256x3 : S_.BroadcastsInDim S256x3 (![] : Fin 0 → Fin S256x3.rank)
  reducesTo_S256x3_S_d0_1 : S256x3.ReducesTo [0, 1] S_
  bcast_S_S3x3 : S_.BroadcastsInDim S3x3 (![] : Fin 0 → Fin S3x3.rank)
  reducesTo_S3x3_S_d0_1 : S3x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg12 : FVec F S3 .f32) (main_arg13 : FVec F S256x3 .f32) (main_v30 : IVec S_ 1) (main_v33 : IVec S3x3 1) : IVec S_ 1 :=
  let main_c_12 : IVec S_ 1 := constantI S_ 1 1#1
  let main_v34 : IVec S_ 1 := (fun x v => Host.reduce IntOp.andi x v reducesTo_S3x3_S_d0_1 h_S_) main_v33 main_c_12
  let main_v35 : IVec S_ 1 := andi main_v30 main_v34
  let main_v36 : FVec F S3 .f32 := Host.absf main_arg12
  let main_cst_13 : FVec F S_ .f32 := constant S_ .f32 0x7F800000#32
  let main_v37 : FVec F S3 .f32 := broadcastInDim S3 ![] bcast_S_S3 main_cst_13
  let main_v38 : IVec S3 1 := cmpf .olt main_v36 main_v37
  let main_c_14 : IVec S_ 1 := constantI S_ 1 1#1
  let main_v39 : IVec S_ 1 := (fun x v => Host.reduce IntOp.andi x v reducesTo_S3_S_d0 h_S_) main_v38 main_c_14
  let main_v40 : IVec S_ 1 := andi main_v35 main_v39
  let main_v41 : FVec F S256x3 .f32 := Host.absf main_arg13
  let main_cst_15 : FVec F S_ .f32 := constant S_ .f32 0x7F800000#32
  let main_v42 : FVec F S256x3 .f32 := broadcastInDim S256x3 ![] bcast_S_S256x3 main_cst_15
  let main_v43 : IVec S256x3 1 := cmpf .olt main_v41 main_v42
  let main_c_16 : IVec S_ 1 := constantI S_ 1 1#1
  let main_v44 : IVec S_ 1 := (fun x v => Host.reduce IntOp.andi x v reducesTo_S256x3_S_d0_1 h_S_) main_v43 main_c_16
  let main_v45 : IVec S_ 1 := andi main_v40 main_v44
  main_v45

def fn_part1 {F : FTy → Type} [FloatOps F] (main_arg5 : FVec F S256x3 .f32) (main_arg7 : FVec F S256x256 .f32) (main_arg11 : FVec F S3x3 .f32) (main_arg12 : FVec F S3 .f32) (main_arg13 : FVec F S256x3 .f32) (main_v15 : IVec S_ 1) (main_v16 : FVec F S256x256 .f32) : IVec S_ 1 :=
  let main_cst_5 : FVec F S_ .f32 := constant S_ .f32 0x7F800000#32
  let main_v17 : FVec F S256x256 .f32 := broadcastInDim S256x256 ![] bcast_S_S256x256 main_cst_5
  let main_v18 : IVec S256x256 1 := cmpf .olt main_v16 main_v17
  let main_c_6 : IVec S_ 1 := constantI S_ 1 1#1
  let main_v19 : IVec S_ 1 := (fun x v => Host.reduce IntOp.andi x v reducesTo_S256x256_S_d0_1 h_S_) main_v18 main_c_6
  let main_v20 : IVec S_ 1 := andi main_v15 main_v19
  let main_v21 : FVec F S256x3 .f32 := Host.absf main_arg5
  let main_cst_7 : FVec F S_ .f32 := constant S_ .f32 0x7F800000#32
  let main_v22 : FVec F S256x3 .f32 := broadcastInDim S256x3 ![] bcast_S_S256x3 main_cst_7
  let main_v23 : IVec S256x3 1 := cmpf .olt main_v21 main_v22
  let main_c_8 : IVec S_ 1 := constantI S_ 1 1#1
  let main_v24 : IVec S_ 1 := (fun x v => Host.reduce IntOp.andi x v reducesTo_S256x3_S_d0_1 h_S_) main_v23 main_c_8
  let main_v25 : IVec S_ 1 := andi main_v20 main_v24
  let main_v26 : FVec F S256x256 .f32 := Host.absf main_arg7
  let main_cst_9 : FVec F S_ .f32 := constant S_ .f32 0x7F800000#32
  let main_v27 : FVec F S256x256 .f32 := broadcastInDim S256x256 ![] bcast_S_S256x256 main_cst_9
  let main_v28 : IVec S256x256 1 := cmpf .olt main_v26 main_v27
  let main_c_10 : IVec S_ 1 := constantI S_ 1 1#1
  let main_v29 : IVec S_ 1 := (fun x v => Host.reduce IntOp.andi x v reducesTo_S256x256_S_d0_1 h_S_) main_v28 main_c_10
  let main_v30 : IVec S_ 1 := andi main_v25 main_v29
  let main_v31 : FVec F S3x3 .f32 := Host.absf main_arg11
  let main_cst_11 : FVec F S_ .f32 := constant S_ .f32 0x7F800000#32
  let main_v32 : FVec F S3x3 .f32 := broadcastInDim S3x3 ![] bcast_S_S3x3 main_cst_11
  let main_v33 : IVec S3x3 1 := cmpf .olt main_v31 main_v32
  fn_part2 (F := F) main_arg12 main_arg13 main_v30 main_v33

def fn {F : FTy → Type} [FloatOps F] (main_arg0 : FVec F S2x4096x3 .f32) (main_arg1 : IVec S2x16x4096 32) (main_arg2 : FVec F S2x4096x256 .f32) (main_arg3 : FVec F S256x256 .f32) (main_arg4 : FVec F S256 .f32) (main_arg5 : FVec F S256x3 .f32) (main_arg6 : FVec F S256 .f32) (main_arg7 : FVec F S256x256 .f32) (main_arg8 : FVec F S256 .f32) (main_arg9 : FVec F S256x256 .f32) (main_arg10 : FVec F S256 .f32) (main_arg11 : FVec F S3x3 .f32) (main_arg12 : FVec F S3 .f32) (main_arg13 : FVec F S256x3 .f32) (main_arg14 : FVec F S256 .f32) (main_arg15 : FVec F S256x3 .f32) (main_arg16 : FVec F S256 .f32) : IVec S_ 1 :=
  let main_c : IVec S_ 32 := constantI S_ 32 0#32
  let main_v0 : IVec S2x16x4096 32 := broadcastInDim S2x16x4096 ![] bcast_S_S2x16x4096 main_c
  let main_v1 : IVec S2x16x4096 1 := cmpi .sge main_arg1 main_v0
  let main_c_0 : IVec S_ 32 := constantI S_ 32 8192#32
  let main_v2 : IVec S2x16x4096 32 := broadcastInDim S2x16x4096 ![] bcast_S_S2x16x4096 main_c_0
  let main_v3 : IVec S2x16x4096 1 := cmpi .slt main_arg1 main_v2
  let main_v4 : IVec S2x16x4096 1 := andi main_v1 main_v3
  let main_c_1 : IVec S_ 1 := constantI S_ 1 1#1
  let main_v5 : IVec S_ 1 := (fun x v => Host.reduce IntOp.andi x v reducesTo_S2x16x4096_S_d0_1_2 h_S_) main_v4 main_c_1
  let main_v6 : FVec F S2x4096x3 .f32 := Host.absf main_arg0
  let main_cst : FVec F S_ .f32 := constant S_ .f32 0x7F800000#32
  let main_v7 : FVec F S2x4096x3 .f32 := broadcastInDim S2x4096x3 ![] bcast_S_S2x4096x3 main_cst
  let main_v8 : IVec S2x4096x3 1 := cmpf .olt main_v6 main_v7
  let main_c_2 : IVec S_ 1 := constantI S_ 1 1#1
  let main_v9 : IVec S_ 1 := (fun x v => Host.reduce IntOp.andi x v reducesTo_S2x4096x3_S_d0_1_2 h_S_) main_v8 main_c_2
  let main_v10 : IVec S_ 1 := andi main_v5 main_v9
  let main_v11 : FVec F S2x4096x256 .f32 := Host.absf main_arg2
  let main_cst_3 : FVec F S_ .f32 := constant S_ .f32 0x7F800000#32
  let main_v12 : FVec F S2x4096x256 .f32 := broadcastInDim S2x4096x256 ![] bcast_S_S2x4096x256 main_cst_3
  let main_v13 : IVec S2x4096x256 1 := cmpf .olt main_v11 main_v12
  let main_c_4 : IVec S_ 1 := constantI S_ 1 1#1
  let main_v14 : IVec S_ 1 := (fun x v => Host.reduce IntOp.andi x v reducesTo_S2x4096x256_S_d0_1_2 h_S_) main_v13 main_c_4
  let main_v15 : IVec S_ 1 := andi main_v10 main_v14
  let main_v16 : FVec F S256x256 .f32 := Host.absf main_arg3
  fn_part1 (F := F) main_arg5 main_arg7 main_arg11 main_arg12 main_arg13 main_v15 main_v16
-- ==== Pre_coords_ok.lean ====
abbrev S2x4096x3 : Shape := ⟨3, ![2, 4096, 3]⟩
abbrev S_ : Shape := ⟨0, ![]⟩

class Facts : Prop where
  bcast_S_S2x4096x3 : S_.BroadcastsInDim S2x4096x3 (![] : Fin 0 → Fin S2x4096x3.rank)
  reducesTo_S2x4096x3_S_d0_1_2 : S2x4096x3.ReducesTo [0, 1, 2] S_
  h_S_ : 0 < S_.numel

variable [Facts]

def fn {F : FTy → Type} [FloatOps F] (main_arg0 : FVec F S2x4096x3 .f32) : IVec S_ 1 :=
  let main_v0 : FVec F S2x4096x3 .f32 := Host.absf main_arg0
  let main_cst : FVec F S_ .f32 := constant S_ .f32 0x7F800000#32
  let main_v1 : FVec F S2x4096x3 .f32 := broadcastInDim S2x4096x3 ![] bcast_S_S2x4096x3 main_cst
  let main_v2 : IVec S2x4096x3 1 := cmpf .olt main_v0 main_v1
  let main_c : IVec S_ 1 := constantI S_ 1 1#1
  let main_v3 : IVec S_ 1 := (fun x v => Host.reduce IntOp.andi x v reducesTo_S2x4096x3_S_d0_1_2 h_S_) main_v2 main_c
  main_v3
-- ==== Pre_rows_ok.lean ====
abbrev S2x4096x3 : Shape := ⟨3, ![2, 4096, 3]⟩
abbrev S2x16x4096 : Shape := ⟨3, ![2, 16, 4096]⟩
abbrev S2x4096x256 : Shape := ⟨3, ![2, 4096, 256]⟩
abbrev S256x256 : Shape := ⟨2, ![256, 256]⟩
abbrev S256 : Shape := ⟨1, ![256]⟩
abbrev S256x3 : Shape := ⟨2, ![256, 3]⟩
abbrev S3x3 : Shape := ⟨2, ![3, 3]⟩
abbrev S3 : Shape := ⟨1, ![3]⟩
abbrev S_ : Shape := ⟨0, ![]⟩

class Facts : Prop where
  bcast_S_S2x16x4096 : S_.BroadcastsInDim S2x16x4096 (![] : Fin 0 → Fin S2x16x4096.rank)

variable [Facts]

def fn {F : FTy → Type} [FloatOps F] (main_arg0 : FVec F S2x4096x3 .f32) (main_arg1 : IVec S2x16x4096 32) (main_arg2 : FVec F S2x4096x256 .f32) (main_arg3 : FVec F S256x256 .f32) (main_arg4 : FVec F S256 .f32) (main_arg5 : FVec F S256x3 .f32) (main_arg6 : FVec F S256 .f32) (main_arg7 : FVec F S256x256 .f32) (main_arg8 : FVec F S256 .f32) (main_arg9 : FVec F S256x256 .f32) (main_arg10 : FVec F S256 .f32) (main_arg11 : FVec F S3x3 .f32) (main_arg12 : FVec F S3 .f32) (main_arg13 : FVec F S256x3 .f32) (main_arg14 : FVec F S256 .f32) (main_arg15 : FVec F S256x3 .f32) (main_arg16 : FVec F S256 .f32) : IVec S2x16x4096 1 :=
  let main_c : IVec S_ 32 := constantI S_ 32 0#32
  let main_v0 : IVec S2x16x4096 32 := broadcastInDim S2x16x4096 ![] bcast_S_S2x16x4096 main_c
  let main_v1 : IVec S2x16x4096 1 := cmpi .sge main_arg1 main_v0
  let main_c_0 : IVec S_ 32 := constantI S_ 32 8192#32
  let main_v2 : IVec S2x16x4096 32 := broadcastInDim S2x16x4096 ![] bcast_S_S2x16x4096 main_c_0
  let main_v3 : IVec S2x16x4096 1 := cmpi .slt main_arg1 main_v2
  let main_v4 : IVec S2x16x4096 1 := andi main_v1 main_v3
  main_v4
-- ==== Kernel.lean ====
abbrev S2x4096x3 : Shape := ⟨3, ![2, 4096, 3]⟩
abbrev S2x16x4096 : Shape := ⟨3, ![2, 16, 4096]⟩
abbrev S2x4096x256 : Shape := ⟨3, ![2, 4096, 256]⟩
abbrev S256x256 : Shape := ⟨2, ![256, 256]⟩
abbrev S256 : Shape := ⟨1, ![256]⟩
abbrev S256x3 : Shape := ⟨2, ![256, 3]⟩
abbrev S3x3 : Shape := ⟨2, ![3, 3]⟩
abbrev S3 : Shape := ⟨1, ![3]⟩
abbrev S_ : Shape := ⟨0, ![]⟩
abbrev S2x4096x16 : Shape := ⟨3, ![2, 4096, 16]⟩
abbrev S1 : Shape := ⟨1, ![1]⟩
abbrev S8192x16 : Shape := ⟨2, ![8192, 16]⟩
abbrev S131072 : Shape := ⟨1, ![131072]⟩
abbrev S131072x16 : Shape := ⟨2, ![131072, 16]⟩
abbrev S4096 : Shape := ⟨1, ![4096]⟩
abbrev S4096x16 : Shape := ⟨2, ![4096, 16]⟩
abbrev S2x16x4096x16 : Shape := ⟨4, ![2, 16, 4096, 16]⟩
abbrev S16x256 : Shape := ⟨2, ![16, 256]⟩
abbrev S3x256 : Shape := ⟨2, ![3, 256]⟩
abbrev S32x256 : Shape := ⟨2, ![32, 256]⟩
abbrev S16x16 : Shape := ⟨2, ![16, 16]⟩
abbrev S2 : Shape := ⟨1, ![2]⟩
abbrev S1x16 : Shape := ⟨2, ![1, 16]⟩
abbrev S1x256 : Shape := ⟨2, ![1, 256]⟩
abbrev S1x256x256 : Shape := ⟨3, ![1, 256, 256]⟩
abbrev S1x256x16 : Shape := ⟨3, ![1, 256, 16]⟩
abbrev S1x16x256x16 : Shape := ⟨4, ![1, 16, 256, 16]⟩
abbrev S256x16 : Shape := ⟨2, ![256, 16]⟩
abbrev S1x1x256x16 : Shape := ⟨4, ![1, 1, 256, 16]⟩
abbrev S256x32 : Shape := ⟨2, ![256, 32]⟩
abbrev S256x1 : Shape := ⟨2, ![256, 1]⟩

abbrev nBuf : Table → Nat
  | .hbm => 81
  | .local .tc .vmem => 22
  | .local .scVector .vmem => 2
  | _ => 0

abbrev bufTy : (tb : Table) → Fin (nBuf tb) → BufTy
  | .hbm, ⟨0, _⟩ => ⟨S2x4096x3, .f32⟩
  | .hbm, ⟨1, _⟩ => ⟨S2x16x4096, .i32⟩
  | .hbm, ⟨2, _⟩ => ⟨S2x4096x256, .f32⟩
  | .hbm, ⟨3, _⟩ => ⟨S256x256, .f32⟩
  | .hbm, ⟨4, _⟩ => ⟨S256, .f32⟩
  | .hbm, ⟨5, _⟩ => ⟨S256x3, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S3x3, .f32⟩
  | .hbm, ⟨12, _⟩ => ⟨S3, .f32⟩
  | .hbm, ⟨13, _⟩ => ⟨S256x3, .f32⟩
  | .hbm, ⟨14, _⟩ => ⟨S256, .f32⟩
  | .hbm, ⟨15, _⟩ => ⟨S256x3, .f32⟩
  | .hbm, ⟨16, _⟩ => ⟨S256, .f32⟩
  | .hbm, ⟨17, _⟩ => ⟨S_, .f32⟩
  | .hbm, ⟨18, _⟩ => ⟨S2x4096x16, .f32⟩
  | .hbm, ⟨19, _⟩ => ⟨S_, .i32⟩
  | .hbm, ⟨20, _⟩ => ⟨S1, .i32⟩
  | .hbm, ⟨21, _⟩ => ⟨S2x4096x16, .f32⟩
  | .hbm, ⟨22, _⟩ => ⟨S8192x16, .f32⟩
  | .hbm, ⟨23, _⟩ => ⟨S131072, .i32⟩
  | .hbm, ⟨24, _⟩ => ⟨S131072x16, .f32⟩
  | .hbm, ⟨25, _⟩ => ⟨S2x16x4096x16, .f32⟩
  | .hbm, ⟨26, _⟩ => ⟨S_, .f32⟩
  | .hbm, ⟨27, _⟩ => ⟨S16x256, .f32⟩
  | .hbm, ⟨28, _⟩ => ⟨S3x256, .f32⟩
  | .hbm, ⟨29, _⟩ => ⟨S_, .i32⟩
  | .hbm, ⟨30, _⟩ => ⟨S1, .i32⟩
  | .hbm, ⟨31, _⟩ => ⟨S16x256, .f32⟩
  | .hbm, ⟨32, _⟩ => ⟨S16x256, .f32⟩
  | .hbm, ⟨33, _⟩ => ⟨S_, .f32⟩
  | .hbm, ⟨34, _⟩ => ⟨S16x256, .f32⟩
  | .hbm, ⟨35, _⟩ => ⟨S3x256, .f32⟩
  | .hbm, ⟨36, _⟩ => ⟨S_, .i32⟩
  | .hbm, ⟨37, _⟩ => ⟨S1, .i32⟩
  | .hbm, ⟨38, _⟩ => ⟨S16x256, .f32⟩
  | .hbm, ⟨39, _⟩ => ⟨S32x256, .f32⟩
  | .hbm, ⟨40, _⟩ => ⟨S_, .f32⟩
  | .hbm, ⟨41, _⟩ => ⟨S16x256, .f32⟩
  | .hbm, ⟨42, _⟩ => ⟨S3x256, .f32⟩
  | .hbm, ⟨43, _⟩ => ⟨S_, .i32⟩
  | .hbm, ⟨44, _⟩ => ⟨S1, .i32⟩
  | .hbm, ⟨45, _⟩ => ⟨S16x256, .f32⟩
  | .hbm, ⟨46, _⟩ => ⟨S_, .f32⟩
  | .hbm, ⟨47, _⟩ => ⟨S16x256, .f32⟩
  | .hbm, ⟨48, _⟩ => ⟨S3x256, .f32⟩
  | .hbm, ⟨49, _⟩ => ⟨S_, .i32⟩
  | .hbm, ⟨50, _⟩ => ⟨S1, .i32⟩
  | .hbm, ⟨51, _⟩ => ⟨S16x256, .f32⟩
  | .hbm, ⟨52, _⟩ => ⟨S32x256, .f32⟩
  | .hbm, ⟨53, _⟩ => ⟨S_, .f32⟩
  | .hbm, ⟨54, _⟩ => ⟨S16x16, .f32⟩
  | .hbm, ⟨55, _⟩ => ⟨S3x3, .f32⟩
  | .hbm, ⟨56, _⟩ => ⟨S_, .i32⟩
  | .hbm, ⟨57, _⟩ => ⟨S1, .i32⟩
  | .hbm, ⟨58, _⟩ => ⟨S_, .i32⟩
  | .hbm, ⟨59, _⟩ => ⟨S1, .i32⟩
  | .hbm, ⟨60, _⟩ => ⟨S2, .i32⟩
  | .hbm, ⟨61, _⟩ => ⟨S16x16, .f32⟩
  | .hbm, ⟨62, _⟩ => ⟨S_, .f32⟩
  | .hbm, ⟨63, _⟩ => ⟨S1x16, .f32⟩
  | .hbm, ⟨64, _⟩ => ⟨S_, .i32⟩
  | .hbm, ⟨65, _⟩ => ⟨S1, .i32⟩
  | .hbm, ⟨66, _⟩ => ⟨S_, .i32⟩
  | .hbm, ⟨67, _⟩ => ⟨S1, .i32⟩
  | .hbm, ⟨68, _⟩ => ⟨S2, .i32⟩
  | .hbm, ⟨69, _⟩ => ⟨S1x16, .f32⟩
  | .hbm, ⟨70, _⟩ => ⟨S256, .f32⟩
  | .hbm, ⟨71, _⟩ => ⟨S256, .f32⟩
  | .hbm, ⟨72, _⟩ => ⟨S1x256, .f32⟩
  | .hbm, ⟨73, _⟩ => ⟨S256, .f32⟩
  | .hbm, ⟨74, _⟩ => ⟨S1x256, .f32⟩
  | .hbm, ⟨75, _⟩ => ⟨S256x256, .f32⟩
  | .hbm, ⟨76, _⟩ => ⟨S256x256, .f32⟩
  | .hbm, ⟨77, _⟩ => ⟨S256x256, .f32⟩
  | .hbm, ⟨78, _⟩ => ⟨S1x256, .f32⟩
  | .hbm, ⟨79, _⟩ => ⟨S1x256, .f32⟩
  | .hbm, ⟨80, _⟩ => ⟨S2x4096x256, .f32⟩
  | .local .tc .vmem, ⟨0, _⟩ => ⟨S1x256x256, .f32⟩
  | .local .tc .vmem, ⟨1, _⟩ => ⟨S1x256x256, .f32⟩
  | .local .tc .vmem, ⟨2, _⟩ => ⟨S1x256x16, .f32⟩
  | .local .tc .vmem, ⟨3, _⟩ => ⟨S1x256x16, .f32⟩
  | .local .tc .vmem, ⟨4, _⟩ => ⟨S1x16x256x16, .f32⟩
  | .local .tc .vmem, ⟨5, _⟩ => ⟨S1x16x256x16, .f32⟩
  | .local .tc .vmem, ⟨6, _⟩ => ⟨S256x256, .f32⟩
  | .local .tc .vmem, ⟨7, _⟩ => ⟨S256x256, .f32⟩
  | .local .tc .vmem, ⟨8, _⟩ => ⟨S256x256, .f32⟩
  | .local .tc .vmem, ⟨9, _⟩ => ⟨S32x256, .f32⟩
  | .local .tc .vmem, ⟨10, _⟩ => ⟨S32x256, .f32⟩
  | .local .tc .vmem, ⟨11, _⟩ => ⟨S16x16, .f32⟩
  | .local .tc .vmem, ⟨12, _⟩ => ⟨S1x16, .f32⟩
  | .local .tc .vmem, ⟨13, _⟩ => ⟨S1x256, .f32⟩
  | .local .tc .vmem, ⟨14, _⟩ => ⟨S1x256, .f32⟩
  | .local .tc .vmem, ⟨15, _⟩ => ⟨S1x256, .f32⟩
  | .local .tc .vmem, ⟨16, _⟩ => ⟨S1x256, .f32⟩
  | .local .tc .vmem, ⟨17, _⟩ => ⟨S1x256x256, .f32⟩
  | .local .tc .vmem, ⟨18, _⟩ => ⟨S1x256x256, .f32⟩
  | .local .tc .vmem, ⟨19, _⟩ => ⟨S256x256, .f32⟩
  | .local .tc .vmem, ⟨20, _⟩ => ⟨S32x256, .f32⟩
  | .local .tc .vmem, ⟨21, _⟩ => ⟨S1x256, .f32⟩
  | .local .scVector .vmem, ⟨0, _⟩ => ⟨S4096, .i32⟩
  | .local .scVector .vmem, ⟨1, _⟩ => ⟨S4096x16, .f32⟩
  | _, _ => ⟨S2x4096x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_c_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_v13 : Ref sig .tc := ⟨.hbm, 35, rfl⟩
abbrev main_c_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_4 : Ref sig .tc := ⟨.hbm, 40, rfl⟩
abbrev main_v17 : Ref sig .tc := ⟨.hbm, 41, rfl⟩
abbrev main_v18 : Ref sig .tc := ⟨.hbm, 42, rfl⟩
abbrev main_c_5 : Ref sig .tc := ⟨.hbm, 43, rfl⟩
abbrev main_v19 : Ref sig .tc := ⟨.hbm, 44, rfl⟩
abbrev main_v20 : Ref sig .tc := ⟨.hbm, 45, rfl⟩
abbrev main_cst_6 : Ref sig .tc := ⟨.hbm, 46, rfl⟩
abbrev main_v21 : Ref sig .tc := ⟨.hbm, 47, rfl⟩
abbrev main_v22 : Ref sig .tc := ⟨.hbm, 48, rfl⟩
abbrev main_c_7 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_8 : Ref sig .tc := ⟨.hbm, 53, rfl⟩
abbrev main_v26 : Ref sig .tc := ⟨.hbm, 54, rfl⟩
abbrev main_v27 : Ref sig .tc := ⟨.hbm, 55, rfl⟩
abbrev main_c_9 : Ref sig .tc := ⟨.hbm, 56, rfl⟩
abbrev main_v28 : Ref sig .tc := ⟨.hbm, 57, rfl⟩
abbrev main_c_10 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_11 : Ref sig .tc := ⟨.hbm, 62, rfl⟩
abbrev main_v32 : Ref sig .tc := ⟨.hbm, 63, rfl⟩
abbrev main_c_12 : Ref sig .tc := ⟨.hbm, 64, rfl⟩
abbrev main_v33 : Ref sig .tc := ⟨.hbm, 65, rfl⟩
abbrev main_c_13 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v3_scv : Ref sig .scVector := ⟨.hbm, 22, rfl⟩
abbrev main_v4_scv : Ref sig .scVector := ⟨.hbm, 23, rfl⟩
abbrev main_v5_scv : Ref sig .scVector := ⟨.hbm, 24, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg10_0 : Ref sig .tc := ⟨.vmem, 13, rfl⟩
abbrev cc1_stg11_0 : Ref sig .tc := ⟨.vmem, 14, rfl⟩
abbrev cc1_stg12_0 : Ref sig .tc := ⟨.vmem, 15, rfl⟩
abbrev cc1_stg13_0 : Ref sig .tc := ⟨.vmem, 16, rfl⟩
abbrev cc1_stg14_0 : Ref sig .tc := ⟨.vmem, 17, rfl⟩
abbrev cc1_stg14_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem12_0 : DmaSem sig := 18
abbrev cc1_sem13_0 : DmaSem sig := 19
abbrev cc1_sem14_0 : DmaSem sig := 20
abbrev cc1_sem14_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_3_r1 : BitVec 32 := 0#32
  ![v2.toNat, 0]
abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x16x256x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S32x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S32x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S16x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S1x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 2 → Memref sig .tc .vmem S1x256x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x4096x3 : Shape := ⟨3, ![2, 4096, 3]⟩
abbrev S2x16x4096 : Shape := ⟨3, ![2, 16, 4096]⟩
abbrev S2x4096x256 : Shape := ⟨3, ![2, 4096, 256]⟩
abbrev S256x256 : Shape := ⟨2, ![256, 256]⟩
abbrev S256 : Shape := ⟨1, ![256]⟩
abbrev S256x3 : Shape := ⟨2, ![256, 3]⟩
abbrev S3x3 : Shape := ⟨2, ![3, 3]⟩
abbrev S3 : Shape := ⟨1, ![3]⟩
abbrev S2x4096x1x256 : Shape := ⟨4, ![2, 4096, 1, 256]⟩
abbrev S8192x3 : Shape := ⟨2, ![8192, 3]⟩
abbrev S_ : Shape := ⟨0, ![]⟩
abbrev S2x16x4096x1 : Shape := ⟨4, ![2, 16, 4096, 1]⟩
abbrev S2x16x4096x3 : Shape := ⟨4, ![2, 16, 4096, 3]⟩
abbrev S2x4096x16x3 : Shape := ⟨4, ![2, 4096, 16, 3]⟩
abbrev S1x1x1x256 : Shape := ⟨4, ![1, 1, 1, 256]⟩
abbrev S3x256 : Shape := ⟨2, ![3, 256]⟩
abbrev S2x4096x16x256 : Shape := ⟨4, ![2, 4096, 16, 256]⟩
abbrev S2x4096x1x3 : Shape := ⟨4, ![2, 4096, 1, 3]⟩
abbrev S1x1x1x3 : Shape := ⟨4, ![1, 1, 1, 3]⟩
abbrev S2x4096x16 : Shape := ⟨3, ![2, 4096, 16]⟩
abbrev S2x4096x16x1 : Shape := ⟨4, ![2, 4096, 16, 1]⟩

abbrev nBuf : Space → Nat
  | .hbm => 94
  | .vmem => 0
  | .smem => 0
  | _ => 0

abbrev bufTy : (tb : Table) → Fin (tcTables nBuf tb) → BufTy
  | .hbm, ⟨0, _⟩ => ⟨S2x4096x3, .f32⟩
  | .hbm, ⟨1, _⟩ => ⟨S2x16x4096, .i32⟩
  | .hbm, ⟨2, _⟩ => ⟨S2x4096x256, .f32⟩
  | .hbm, ⟨3, _⟩ => ⟨S256x256, .f32⟩
  | .hbm, ⟨4, _⟩ => ⟨S256, .f32⟩
  | .hbm, ⟨5, _⟩ => ⟨S256x3, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S3x3, .f32⟩
  | .hbm, ⟨12, _⟩ => ⟨S3, .f32⟩
  | .hbm, ⟨13, _⟩ => ⟨S256x3, .f32⟩
  | .hbm, ⟨14, _⟩ => ⟨S256, .f32⟩
  | .hbm, ⟨15, _⟩ => ⟨S256x3, .f32⟩
  | .hbm, ⟨16, _⟩ => ⟨S256, .f32⟩
  | .hbm, ⟨17, _⟩ => ⟨S2x4096x1x256, .f32⟩
  | .hbm, ⟨18, _⟩ => ⟨S8192x3, .f32⟩
  | .hbm, ⟨19, _⟩ => ⟨S_, .i32⟩
  | .hbm, ⟨20, _⟩ => ⟨S2x16x4096, .i32⟩
  | .hbm, ⟨21, _⟩ => ⟨S2x16x4096, .i1⟩
  | .hbm, ⟨22, _⟩ => ⟨S_, .i32⟩
  | .hbm, ⟨23, _⟩ => ⟨S2x16x4096, .i32⟩
  | .hbm, ⟨24, _⟩ => ⟨S2x16x4096, .i32⟩
  | .hbm, ⟨25, _⟩ => ⟨S2x16x4096, .i32⟩
  | .hbm, ⟨26, _⟩ => ⟨S2x16x4096x1, .i32⟩
  | .hbm, ⟨27, _⟩ => ⟨S2x16x4096x3, .f32⟩
  | .hbm, ⟨28, _⟩ => ⟨S2x4096x16x3, .f32⟩
  | .hbm, ⟨29, _⟩ => ⟨S256x256, .f32⟩
  | .hbm, ⟨30, _⟩ => ⟨S2x4096x1x256, .f32⟩
  | .hbm, ⟨31, _⟩ => ⟨S1x1x1x256, .f32⟩
  | .hbm, ⟨32, _⟩ => ⟨S2x4096x1x256, .f32⟩
  | .hbm, ⟨33, _⟩ => ⟨S2x4096x1x256, .f32⟩
  | .hbm, ⟨34, _⟩ => ⟨S3x256, .f32⟩
  | .hbm, ⟨35, _⟩ => ⟨S2x4096x16x256, .f32⟩
  | .hbm, ⟨36, _⟩ => ⟨S1x1x1x256, .f32⟩
  | .hbm, ⟨37, _⟩ => ⟨S2x4096x16x256, .f32⟩
  | .hbm, ⟨38, _⟩ => ⟨S2x4096x16x256, .f32⟩
  | .hbm, ⟨39, _⟩ => ⟨S2x4096x1x3, .f32⟩
  | .hbm, ⟨40, _⟩ => ⟨S2x4096x16x3, .f32⟩
  | .hbm, ⟨41, _⟩ => ⟨S2x4096x16x3, .f32⟩
  | .hbm, ⟨42, _⟩ => ⟨S3x3, .f32⟩
  | .hbm, ⟨43, _⟩ => ⟨S2x4096x16x3, .f32⟩
  | .hbm, ⟨44, _⟩ => ⟨S1x1x1x3, .f32⟩
  | .hbm, ⟨45, _⟩ => ⟨S2x4096x16x3, .f32⟩
  | .hbm, ⟨46, _⟩ => ⟨S2x4096x16x3, .f32⟩
  | .hbm, ⟨47, _⟩ => ⟨S_, .f32⟩
  | .hbm, ⟨48, _⟩ => ⟨S2x4096x16x3, .f32⟩
  | .hbm, ⟨49, _⟩ => ⟨S2x4096x16x3, .f32⟩
  | .hbm, ⟨50, _⟩ => ⟨S3x256, .f32⟩
  | .hbm, ⟨51, _⟩ => ⟨S2x4096x16x256, .f32⟩
  | .hbm, ⟨52, _⟩ => ⟨S1x1x1x256, .f32⟩
  | .hbm, ⟨53, _⟩ => ⟨S2x4096x16x256, .f32⟩
  | .hbm, ⟨54, _⟩ => ⟨S2x4096x16x256, .f32⟩
  | .hbm, ⟨55, _⟩ => ⟨S2x4096x16x256, .f32⟩
  | .hbm, ⟨56, _⟩ => ⟨S2x4096x16x256, .f32⟩
  | .hbm, ⟨57, _⟩ => ⟨S2x4096x16x256, .f32⟩
  | .hbm, ⟨58, _⟩ => ⟨S256x256, .f32⟩
  | .hbm, ⟨59, _⟩ => ⟨S2x4096x16x256, .f32⟩
  | .hbm, ⟨60, _⟩ => ⟨S1x1x1x256, .f32⟩
  | .hbm, ⟨61, _⟩ => ⟨S2x4096x16x256, .f32⟩
  | .hbm, ⟨62, _⟩ => ⟨S2x4096x16x256, .f32⟩
  | .hbm, ⟨63, _⟩ => ⟨S_, .f32⟩
  | .hbm, ⟨64, _⟩ => ⟨S2x4096x16x256, .f32⟩
  | .hbm, ⟨65, _⟩ => ⟨S2x4096x16x256, .f32⟩
  | .hbm, ⟨66, _⟩ => ⟨S256x256, .f32⟩
  | .hbm, ⟨67, _⟩ => ⟨S2x4096x16x256, .f32⟩
  | .hbm, ⟨68, _⟩ => ⟨S1x1x1x256, .f32⟩
  | .hbm, ⟨69, _⟩ => ⟨S2x4096x16x256, .f32⟩
  | .hbm, ⟨70, _⟩ => ⟨S2x4096x16x256, .f32⟩
  | .hbm, ⟨71, _⟩ => ⟨S_, .f32⟩
  | .hbm, ⟨72, _⟩ => ⟨S2x4096x16, .f32⟩
  | .hbm, ⟨73, _⟩ => ⟨S_, .f32⟩
  | .hbm, ⟨74, _⟩ => ⟨S2x4096x16, .f32⟩
  | .hbm, ⟨75, _⟩ => ⟨S2x4096x16, .f32⟩
  | .hbm, ⟨76, _⟩ => ⟨S2x4096x16x1, .f32⟩
  | .hbm, ⟨77, _⟩ => ⟨S2x4096x16x256, .f32⟩
  | .hbm, ⟨78, _⟩ => ⟨S2x4096x16x256, .f32⟩
  | .hbm, ⟨79, _⟩ => ⟨S2x4096x16x256, .f32⟩
  | .hbm, ⟨80, _⟩ => ⟨S_, .f32⟩
  | .hbm, ⟨81, _⟩ => ⟨S2x4096x16, .f32⟩
  | .hbm, ⟨82, _⟩ => ⟨S2x4096x16x1, .f32⟩
  | .hbm, ⟨83, _⟩ => ⟨S2x4096x16x256, .f32⟩
  | .hbm, ⟨84, _⟩ => ⟨S2x4096x16x256, .f32⟩
  | .hbm, ⟨85, _⟩ => ⟨S3x256, .f32⟩
  | .hbm, ⟨86, _⟩ => ⟨S2x4096x16x256, .f32⟩
  | .hbm, ⟨87, _⟩ => ⟨S1x1x1x256, .f32⟩
  | .hbm, ⟨88, _⟩ => ⟨S2x4096x16x256, .f32⟩
  | .hbm, ⟨89, _⟩ => ⟨S2x4096x16x256, .f32⟩
  | .hbm, ⟨90, _⟩ => ⟨S2x4096x16x256, .f32⟩
  | .hbm, ⟨91, _⟩ => ⟨S2x4096x16x256, .f32⟩
  | .hbm, ⟨92, _⟩ => ⟨S_, .f32⟩
  | .hbm, ⟨93, _⟩ => ⟨S2x4096x256, .f32⟩
  | _, _ => ⟨S2x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call0_cst : Ref sig .tc := ⟨.hbm, 47, rfl⟩
abbrev main_call0_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call1_cst : Ref sig .tc := ⟨.hbm, 63, rfl⟩
abbrev main_call1_v0 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst : Ref sig .tc := ⟨.hbm, 71, rfl⟩
abbrev main_v48 : Ref sig .tc := ⟨.hbm, 72, rfl⟩
abbrev main_cst_1 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_2 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_3 : Ref sig .tc := ⟨.hbm, 92, rfl⟩
abbrev main_v66 : Ref sig .tc := ⟨.hbm, 93, rfl⟩

abbrev nD : Nat := 1
abbrev τ : Topo := Topo.v7x

variable {F : FTy → Type} [FloatOps F]
-- ==== Nearest.lean ====
abbrev S2x4096x3 : Shape := ⟨3, ![2, 4096, 3]⟩
abbrev S_ : Shape := ⟨0, ![]⟩
abbrev S2x4096x16 : Shape := ⟨3, ![2, 4096, 16]⟩
abbrev S1 : Shape := ⟨1, ![1]⟩
abbrev S2x16x4096 : Shape := ⟨3, ![2, 16, 4096]⟩
abbrev S1x256x16 : Shape := ⟨3, ![1, 256, 16]⟩
abbrev S1x16x4096 : Shape := ⟨3, ![1, 16, 4096]⟩
abbrev S1x16x256 : Shape := ⟨3, ![1, 16, 256]⟩
abbrev S256x16 : Shape := ⟨2, ![256, 16]⟩
abbrev S16x4096 : Shape := ⟨2, ![16, 4096]⟩
abbrev S256 : Shape := ⟨1, ![256]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S1x1x256 : Shape := ⟨3, ![1, 1, 256]⟩

abbrev nBuf : Space → Nat
  | .hbm => 8
  | .vmem => 6
  | .smem => 0
  | _ => 0

abbrev bufTy : (tb : Table) → Fin (tcTables nBuf tb) → BufTy
  | .hbm, ⟨0, _⟩ => ⟨S2x4096x3, .f32⟩
  | .hbm, ⟨1, _⟩ => ⟨S_, .f32⟩
  | .hbm, ⟨2, _⟩ => ⟨S2x4096x16, .f32⟩
  | .hbm, ⟨3, _⟩ => ⟨S_, .i32⟩
  | .hbm, ⟨4, _⟩ => ⟨S1, .i32⟩
  | .hbm, ⟨5, _⟩ => ⟨S2x4096x16, .f32⟩
  | .hbm, ⟨6, _⟩ => ⟨S2x16x4096, .f32⟩
  | .hbm, ⟨7, _⟩ => ⟨S2x16x4096, .i32⟩
  | .local _ .vmem, ⟨0, _⟩ => ⟨S1x256x16, .f32⟩
  | .local _ .vmem, ⟨1, _⟩ => ⟨S1x256x16, .f32⟩
  | .local _ .vmem, ⟨2, _⟩ => ⟨S1x16x4096, .f32⟩
  | .local _ .vmem, ⟨3, _⟩ => ⟨S1x16x4096, .f32⟩
  | .local _ .vmem, ⟨4, _⟩ => ⟨S1x16x256, .i32⟩
  | .local _ .vmem, ⟨5, _⟩ => ⟨S1x16x256, .i32⟩
  | _, _ => ⟨S2x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FindKnnIdeal.lean ====
abbrev S2x4096x3 : Shape := ⟨3, ![2, 4096, 3]⟩
abbrev S_ : Shape := ⟨0, ![]⟩
abbrev S2x4096 : Shape := ⟨2, ![2, 4096]⟩
abbrev S2x4096x1 : Shape := ⟨3, ![2, 4096, 1]⟩
abbrev S2x1x4096 : Shape := ⟨3, ![2, 1, 4096]⟩
abbrev S2x4096x4096 : Shape := ⟨3, ![2, 4096, 4096]⟩
abbrev S2x4096x16 : Shape := ⟨3, ![2, 4096, 16]⟩
abbrev S2 : Shape := ⟨1, ![2]⟩
abbrev S2x1x1 : Shape := ⟨3, ![2, 1, 1]⟩
abbrev S2x16x4096 : Shape := ⟨3, ![2, 16, 4096]⟩

abbrev nBuf : Space → Nat
  | .hbm => 25
  | .vmem => 0
  | .smem => 0
  | _ => 0

abbrev bufTy : (tb : Table) → Fin (tcTables nBuf tb) → BufTy
  | .hbm, ⟨0, _⟩ => ⟨S2x4096x3, .f32⟩
  | .hbm, ⟨1, _⟩ => ⟨S2x4096x3, .f32⟩
  | .hbm, ⟨2, _⟩ => ⟨S_, .f32⟩
  | .hbm, ⟨3, _⟩ => ⟨S2x4096, .f32⟩
  | .hbm, ⟨4, _⟩ => ⟨S2x4096x1, .f32⟩
  | .hbm, ⟨5, _⟩ => ⟨S2x1x4096, .f32⟩
  | .hbm, ⟨6, _⟩ => ⟨S2x4096x4096, .f32⟩
  | .hbm, ⟨7, _⟩ => ⟨S2x4096x4096, .f32⟩
  | .hbm, ⟨8, _⟩ => ⟨S2x4096x4096, .f32⟩
  | .hbm, ⟨9, _⟩ => ⟨S2x4096x4096, .f32⟩
  | .hbm, ⟨10, _⟩ => ⟨S_, .f32⟩
  | .hbm, ⟨11, _⟩ => ⟨S2x4096x4096, .f32⟩
  | .hbm, ⟨12, _⟩ => ⟨S2x4096x4096, .f32⟩
  | .hbm, ⟨13, _⟩ => ⟨S2x4096x4096, .f32⟩
  | .hbm, ⟨14, _⟩ => ⟨S2x4096x4096, .f32⟩
  | .hbm, ⟨15, _⟩ => ⟨S2x4096x16, .f32⟩
  | .hbm, ⟨16, _⟩ => ⟨S2x4096x16, .i32⟩
  | .hbm, ⟨17, _⟩ => ⟨S2, .i32⟩
  | .hbm, ⟨18, _⟩ => ⟨S2x1x1, .i32⟩
  | .hbm, ⟨19, _⟩ => ⟨S_, .i32⟩
  | .hbm, ⟨20, _⟩ => ⟨S2x1x1, .i32⟩
  | .hbm, ⟨21, _⟩ => ⟨S2x1x1, .i32⟩
  | .hbm, ⟨22, _⟩ => ⟨S2x4096x16, .i32⟩
  | .hbm, ⟨23, _⟩ => ⟨S2x4096x16, .i32⟩
  | .hbm, ⟨24, _⟩ => ⟨S2x16x4096, .i32⟩
  | _, _ => ⟨S2x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_values : Ref sig .tc := ⟨.hbm, 15, rfl⟩
abbrev main_indices : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.Ideal.Base.lean ====
/-
  The program as its proof sees it: the SparseCore call `K`, the TensorCore pipeline's family, the ghost state (the
  handshakes' rounds, the pipeline's rounds, the transfers' counters), and @main's host operations as two lists, one
  before the SparseCore call and one after it.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.Pf

open Cert.KernelIdeal Cert.KernelIdeal.Gen

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it -/

/-- The labels of the calls' bodies, lifted through the one TensorCore pipeline. -/
abbrev ΛP : Labels := Pipeline.Sig Λ₀ (Fin 1) fun p => (pcfgs (F := F) p).Adm
/-- The SparseCore call. -/
abbrev K : SparseCore.Cfg τ sig (ΛP (F := F)) 1 := sc (F := F)
/-- The table of the calls' bodies, lifted. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-- What the launch takes about the handshake semaphores and the SparseCores' buffers, decided. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := UR sig nD τ
abbrev UU : Type := UH × UP × Counters

local notation "𝕄" => MT nD τ sig (HIx 1) (Elt F) ℕ UU ℕ

/-- The handshakes' rounds, -/
abbrev EH : Emb UH (MT nD τ sig (HIx 1) (Elt F) ℕ UU ℕ) := embL
/-- and the pipeline's. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The buffers -/

/-- The table of padded coordinates, the flat indices and the gathered rows, on device `d`. -/
abbrev tabLoc (d : Dev nD) : Loc nD τ sig := (SparseCore.T d).loc main_v3
abbrev idxLoc (d : Dev nD) : Loc nD τ sig := (SparseCore.T d).loc main_v4
abbrev outLoc (d : Dev nD) : Loc nD τ sig := (SparseCore.T d).loc main_v5

/-- Row `j` of the gathered array is the table's row that index `j` names. -/
def gath (tab : S8192x16.Idx → Elt F .f32) (idx : S131072.Idx → BitVec 32) : S131072x16.Idx → Elt F .f32 :=
  fun j => tab fun
    | 0 => ⟨(idx fun | 0 => j 0).toNat % 8192, Nat.mod_lt _ (by decide)⟩
    | 1 => j 1

/-! ## @main's host operations -/

variable [FloatOps F]

/-- Before the SparseCore call: the coordinates padded to 16 lanes, their batches stacked, the indices flattened. -/
def opsA : List (HloOp τ sig (Elt F)) :=
  [StableHlo.nullary main_cst (constant S_ .f32 0x00000000#32),
    StableHlo.unary main_cst main_v0 (broadcastInDim S2x4096x16 ![] bcast_S_S2x4096x16 : (⟨S_, .f32⟩ : BufTy).Contents (Elt F) → (⟨S2x4096x16, .f32⟩ : BufTy).Contents (Elt F)),
    StableHlo.nullary main_c (constantI S_ 32 0#32),
    StableHlo.unary main_c main_v1 (broadcastInDim S1 ![] bcast_S_S1 : (⟨S_, .i32⟩ : BufTy).Contents (Elt F) → (⟨S1, .i32⟩ : BufTy).Contents (Elt F)),
    StableHlo.ternary main_v0 main_v1 main_arg0 main_v2 ((fun x i u => Host.scatter scatter_S2x4096x16_S1_S2x4096x3_012_n_2_0 (fun _ b => b) x i u) : (⟨S2x4096x16, .f32⟩ : BufTy).Contents (Elt F) → (⟨S1, .i32⟩ : BufTy).Contents (Elt F) → (⟨S2x4096x3, .f32⟩ : BufTy).Contents (Elt F) → (⟨S2x4096x16, .f32⟩ : BufTy).Contents (Elt F)),
    StableHlo.reshape main_v2 main_v3 (rfl : (.f32 : EltTy) = .f32) shapeCasts_S2x4096x16_S8192x16,
    StableHlo.reshape main_arg1 main_v4 (rfl : (.i32 : EltTy) = .i32) shapeCasts_S2x16x4096_S131072]
/-- After it: the attention kernel's operands. -/
def opsB : List (HloOp τ sig (Elt F)) :=
  [StableHlo.reshape main_v5 main_v6 (rfl : (.f32 : EltTy) = .f32) shapeCasts_S131072x16_S2x16x4096x16,
    StableHlo.nullary main_cst_0 (constant S_ .f32 0x00000000#32),
    StableHlo.unary main_cst_0 main_v7 (broadcastInDim S16x256 ![] bcast_S_S16x256 : (⟨S_, .f32⟩ : BufTy).Contents (Elt F) → (⟨S16x256, .f32⟩ : BufTy).Contents (Elt F)),
    StableHlo.unary main_arg5 main_v8 ((transpose S3x256 [1, 0] · transposes_S256x3_S3x256_1_0) : (⟨S256x3, .f32⟩ : BufTy).Contents (Elt F) → (⟨S3x256, .f32⟩ : BufTy).Contents (Elt F)),
    StableHlo.nullary main_c_1 (constantI S_ 32 0#32),
    StableHlo.unary main_c_1 main_v9 (broadcastInDim S1 ![] bcast_S_S1 : (⟨S_, .i32⟩ : BufTy).Contents (Elt F) → (⟨S1, .i32⟩ : BufTy).Contents (Elt F)),
    StableHlo.ternary main_v7 main_v9 main_v8 main_v10 ((fun x i u => Host.scatter scatter_S16x256_S1_S3x256_01_n_0_0 (fun _ b => b) x i u) : (⟨S16x256, .f32⟩ : BufTy).Contents (Elt F) → (⟨S1, .i32⟩ : BufTy).Contents (Elt F) → (⟨S3x256, .f32⟩ : BufTy).Contents (Elt F) → (⟨S16x256, .f32⟩ : BufTy).Contents (Elt F)),
    StableHlo.unary main_v10 main_v11 (Host.negf : (⟨S16x256, .f32⟩ : BufTy).Contents (Elt F) → (⟨S16x256, .f32⟩ : BufTy).Contents (Elt F)),
    StableHlo.nullary main_cst_2 (constant S_ .f32 0x00000000#32),
    StableHlo.unary main_cst_2 main_v12 (broadcastInDim S16x256 ![] bcast_S_S16x256 : (⟨S_, .f32⟩ : BufTy).Contents (Elt F) → (⟨S16x256, .f32⟩ : BufTy).Contents (Elt F)),
    StableHlo.unary main_arg13 main_v13 ((transpose S3x256 [1, 0] · transposes_S256x3_S3x256_1_0) : (⟨S256x3, .f32⟩ : BufTy).Contents (Elt F) → (⟨S3x256, .f32⟩ : BufTy).Contents (Elt F)),
    StableHlo.nullary main_c_3 (constantI S_ 32 0#32),
    StableHlo.unary main_c_3 main_v14 (broadcastInDim S1 ![] bcast_S_S1 : (⟨S_, .i32⟩ : BufTy).Contents (Elt F) → (⟨S1, .i32⟩ : BufTy).Contents (Elt F)),
    StableHlo.ternary main_v12 main_v14 main_v13 main_v15 ((fun x i u => Host.scatter scatter_S16x256_S1_S3x256_01_n_0_0 (fun _ b => b) x i u) : (⟨S16x256, .f32⟩ : BufTy).Contents (Elt F) → (⟨S1, .i32⟩ : BufTy).Contents (Elt F) → (⟨S3x256, .f32⟩ : BufTy).Contents (Elt F) → (⟨S16x256, .f32⟩ : BufTy).Contents (Elt F)),
    StableHlo.binary main_v11 main_v15 main_v16 ((fun a b => concatenate S32x256 0 [⟨S16x256, a⟩, ⟨S16x256, b⟩] concatenates_S16x256_S16x256_S32x256_d0) : (⟨S16x256, .f32⟩ : BufTy).Contents (Elt F) → (⟨S16x256, .f32⟩ : BufTy).Contents (Elt F) → (⟨S32x256, .f32⟩ : BufTy).Contents (Elt F)),
    StableHlo.nullary main_cst_4 (constant S_ .f32 0x00000000#32),
    StableHlo.unary main_cst_4 main_v17 (broadcastInDim S16x256 ![] bcast_S_S16x256 : (⟨S_, .f32⟩ : BufTy).Contents (Elt F) → (⟨S16x256, .f32⟩ : BufTy).Contents (Elt F)),
    StableHlo.unary main_arg15 main_v18 ((transpose S3x256 [1, 0] · transposes_S256x3_S3x256_1_0) : (⟨S256x3, .f32⟩ : BufTy).Contents (Elt F) → (⟨S3x256, .f32⟩ : BufTy).Contents (Elt F)),
    StableHlo.nullary main_c_5 (constantI S_ 32 0#32),
    StableHlo.unary main_c_5 main_v19 (broadcastInDim S1 ![] bcast_S_S1 : (⟨S_, .i32⟩ : BufTy).Contents (Elt F) → (⟨S1, .i32⟩ : BufTy).Contents (Elt F)),
    StableHlo.ternary main_v17 main_v19 main_v18 main_v20 ((fun x i u => Host.scatter scatter_S16x256_S1_S3x256_01_n_0_0 (fun _ b => b) x i u) : (⟨S16x256, .f32⟩ : BufTy).Contents (Elt F) → (⟨S1, .i32⟩ : BufTy).Contents (Elt F) → (⟨S3x256, .f32⟩ : BufTy).Contents (Elt F) → (⟨S16x256, .f32⟩ : BufTy).Contents (Elt F)),
    StableHlo.nullary main_cst_6 (constant S_ .f32 0x00000000#32),
    StableHlo.unary main_cst_6 main_v21 (broadcastInDim S16x256 ![] bcast_S_S16x256 : (⟨S_, .f32⟩ : BufTy).Contents (Elt F) → (⟨S16x256, .f32⟩ : BufTy).Contents (Elt F)),
    StableHlo.unary main_arg13 main_v22 ((transpose S3x256 [1, 0] · transposes_S256x3_S3x256_1_0) : (⟨S256x3, .f32⟩ : BufTy).Contents (Elt F) → (⟨S3x256, .f32⟩ : BufTy).Contents (Elt F)),
    StableHlo.nullary main_c_7 (constantI S_ 32 0#32),
    StableHlo.unary main_c_7 main_v23 (broadcastInDim S1 ![] bcast_S_S1 : (⟨S_, .i32⟩ : BufTy).Contents (Elt F) → (⟨S1, .i32⟩ : BufTy).Contents (Elt F)),
    StableHlo.ternary main_v21 main_v23 main_v22 main_v24 ((fun x i u => Host.scatter scatter_S16x256_S1_S3x256_01_n_0_0 (fun _ b => b) x i u) : (⟨S16x256, .f32⟩ : BufTy).Contents (Elt F) → (⟨S1, .i32⟩ : BufTy).Contents (Elt F) → (⟨S3x256, .f32⟩ : BufTy).Contents (Elt F) → (⟨S16x256, .f32⟩ : BufTy).Contents (Elt F)),
    StableHlo.binary main_v20 main_v24 main_v25 ((fun a b => concatenate S32x256 0 [⟨S16x256, a⟩, ⟨S16x256, b⟩] concatenates_S16x256_S16x256_S32x256_d0) : (⟨S16x256, .f32⟩ : BufTy).Contents (Elt F) → (⟨S16x256, .f32⟩ : BufTy).Contents (Elt F) → (⟨S32x256, .f32⟩ : BufTy).Contents (Elt F)),
    StableHlo.nullary main_cst_8 (constant S_ .f32 0x00000000#32),
    StableHlo.unary main_cst_8 main_v26 (broadcastInDim S16x16 ![] bcast_S_S16x16 : (⟨S_, .f32⟩ : BufTy).Contents (Elt F) → (⟨S16x16, .f32⟩ : BufTy).Contents (Elt F)),
    StableHlo.unary main_arg11 main_v27 ((transpose S3x3 [1, 0] · transposes_S3x3_S3x3_1_0) : (⟨S3x3, .f32⟩ : BufTy).Contents (Elt F) → (⟨S3x3, .f32⟩ : BufTy).Contents (Elt F)),
    StableHlo.nullary main_c_9 (constantI S_ 32 0#32),
    StableHlo.unary main_c_9 main_v28 (broadcastInDim S1 ![] bcast_S_S1 : (⟨S_, .i32⟩ : BufTy).Contents (Elt F) → (⟨S1, .i32⟩ : BufTy).Contents (Elt F)),
    StableHlo.nullary main_c_10 (constantI S_ 32 0#32),
    StableHlo.unary main_c_10 main_v29 (broadcastInDim S1 ![] bcast_S_S1 : (⟨S_, .i32⟩ : BufTy).Contents (Elt F) → (⟨S1, .i32⟩ : BufTy).Contents (Elt F)),
    StableHlo.binary main_v28 main_v29 main_v30 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v26 main_v30 main_v27 main_v31 ((fun x i u => Host.scatter scatter_S16x16_S2_S3x3_01_n_01_0 (fun _ b => b) x i u) : (⟨S16x16, .f32⟩ : BufTy).Contents (Elt F) → (⟨S2, .i32⟩ : BufTy).Contents (Elt F) → (⟨S3x3, .f32⟩ : BufTy).Contents (Elt F) → (⟨S16x16, .f32⟩ : BufTy).Contents (Elt F)),
    StableHlo.nullary main_cst_11 (constant S_ .f32 0x00000000#32),
    StableHlo.unary main_cst_11 main_v32 (broadcastInDim S1x16 ![] bcast_S_S1x16 : (⟨S_, .f32⟩ : BufTy).Contents (Elt F) → (⟨S1x16, .f32⟩ : BufTy).Contents (Elt F)),
    StableHlo.nullary main_c_12 (constantI S_ 32 0#32),
    StableHlo.unary main_c_12 main_v33 (broadcastInDim S1 ![] bcast_S_S1 : (⟨S_, .i32⟩ : BufTy).Contents (Elt F) → (⟨S1, .i32⟩ : BufTy).Contents (Elt F)),
    StableHlo.nullary main_c_13 (constantI S_ 32 0#32),
    StableHlo.unary main_c_13 main_v34 (broadcastInDim S1 ![] bcast_S_S1 : (⟨S_, .i32⟩ : BufTy).Contents (Elt F) → (⟨S1, .i32⟩ : BufTy).Contents (Elt F)),
    StableHlo.binary main_v33 main_v34 main_v35 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v32 main_v35 main_arg12 main_v36 ((fun x i u => Host.scatter scatter_S1x16_S2_S3_0_0_01_0 (fun _ b => b) x i u) : (⟨S1x16, .f32⟩ : BufTy).Contents (Elt F) → (⟨S2, .i32⟩ : BufTy).Contents (Elt F) → (⟨S3, .f32⟩ : BufTy).Contents (Elt F) → (⟨S1x16, .f32⟩ : BufTy).Contents (Elt F)),
    StableHlo.binary main_arg4 main_arg6 main_v37 (subf : (⟨S256, .f32⟩ : BufTy).Contents (Elt F) → (⟨S256, .f32⟩ : BufTy).Contents (Elt F) → (⟨S256, .f32⟩ : BufTy).Contents (Elt F)),
    StableHlo.binary main_v37 main_arg14 main_v38 (addf : (⟨S256, .f32⟩ : BufTy).Contents (Elt F) → (⟨S256, .f32⟩ : BufTy).Contents (Elt F) → (⟨S256, .f32⟩ : BufTy).Contents (Elt F)),
    StableHlo.unary main_v38 main_v39 (broadcastInDim S1x256 ![1] bcast_S256_S1x256_1 : (⟨S256, .f32⟩ : BufTy).Contents (Elt F) → (⟨S1x256, .f32⟩ : BufTy).Contents (Elt F)),
    StableHlo.binary main_arg16 main_arg14 main_v40 (addf : (⟨S256, .f32⟩ : BufTy).Contents (Elt F) → (⟨S256, .f32⟩ : BufTy).Contents (Elt F) → (⟨S256, .f32⟩ : BufTy).Contents (Elt F)),
    StableHlo.unary main_v40 main_v41 (broadcastInDim S1x256 ![1] bcast_S256_S1x256_1 : (⟨S256, .f32⟩ : BufTy).Contents (Elt F) → (⟨S1x256, .f32⟩ : BufTy).Contents (Elt F)),
    StableHlo.unary main_arg3 main_v42 ((transpose S256x256 [1, 0] · transposes_S256x256_S256x256_1_0) : (⟨S256x256, .f32⟩ : BufTy).Contents (Elt F) → (⟨S256x256, .f32⟩ : BufTy).Contents (Elt F)),
    StableHlo.unary main_arg7 main_v43 ((transpose S256x256 [1, 0] · transposes_S256x256_S256x256_1_0) : (⟨S256x256, .f32⟩ : BufTy).Contents (Elt F) → (⟨S256x256, .f32⟩ : BufTy).Contents (Elt F)),
    StableHlo.unary main_arg9 main_v44 ((transpose S256x256 [1, 0] · transposes_S256x256_S256x256_1_0) : (⟨S256x256, .f32⟩ : BufTy).Contents (Elt F) → (⟨S256x256, .f32⟩ : BufTy).Contents (Elt F)),
    StableHlo.unary main_arg8 main_v45 (broadcastInDim S1x256 ![1] bcast_S256_S1x256_1 : (⟨S256, .f32⟩ : BufTy).Contents (Elt F) → (⟨S1x256, .f32⟩ : BufTy).Contents (Elt F)),
    StableHlo.unary main_arg10 main_v46 (broadcastInDim S1x256 ![1] bcast_S256_S1x256_1 : (⟨S256, .f32⟩ : BufTy).Contents (Elt F) → (⟨S1x256, .f32⟩ : BufTy).Contents (Elt F))]
set_option maxRecDepth 65536 in
set_option maxHeartbeats 4000000 in
/-- @main is the first list, the SparseCore call, the second list and the attention kernel. -/
theorem main_eq (d : Dev nD) :
    main (F := F) d = (StableHlo.seq opsA >>= fun _ => sc.run d 0 >>= fun _ => StableHlo.seq opsB >>= fun _ =>
      Prog.lift (.customCall (SparseCore.inner (Pipeline.entry 0)) ())) := by
  rfl

end Cert.KernelIdeal.Pf

end
-- ==== Proof.Ideal.Tile.lean ====
/-
  One tile's task of the SparseCore call: 4096 indices fetched, the table's rows they name gathered, the rows written
  out. Tile `s` of SparseCore `c` works on part `2 s + c` of the 32 parts of the indices and of the rows; every tile
  reads the whole table, at a share of it.
-/
module

public import proofs.«01_k».proof.Proof.Ideal.Base
public import Idealize.ShloMosaic.Lib.SparseCore.ProtocolKit

@[expose] public section

noncomputable section

namespace Cert.KernelIdeal.Pf

open Cert.KernelIdeal Cert.KernelIdeal.Gen

open Idealize.ShloMosaic Idealize.ShloMosaic.TcCoe
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.KernelIdeal.main_v3_scv : Memref Cert.KernelIdeal.sig Kind.scVector Space.hbm Cert.KernelIdeal.S8192x16 EltTy.f32)
local notation "idxV" => (Memref.whole Cert.KernelIdeal.main_v4_scv : Memref Cert.KernelIdeal.sig Kind.scVector Space.hbm Cert.KernelIdeal.S131072 EltTy.i32)
local notation "outV" => (Memref.whole Cert.KernelIdeal.main_v5_scv : Memref Cert.KernelIdeal.sig Kind.scVector Space.hbm Cert.KernelIdeal.S131072x16 EltTy.f32)
local notation "lstV" => (Memref.whole Cert.KernelIdeal.cc0_scratch0 : Memref Cert.KernelIdeal.sig Kind.scVector Space.vmem Cert.KernelIdeal.S4096 EltTy.i32)
local notation "rowV" => (Memref.whole Cert.KernelIdeal.cc0_scratch1 : Memref Cert.KernelIdeal.sig Kind.scVector Space.vmem Cert.KernelIdeal.S4096x16 EltTy.f32)

/-! ## The parts of the indices and of the rows, the shares of the table -/

theorem idx_div : 32 ∣ S131072.size 0 := ⟨4096, rfl⟩
theorem out_div : 32 ∣ S131072x16.size 0 := ⟨4096, rfl⟩
abbrev idxPart (w : Fin 32) : Rect S131072 := Rect.part (s := S131072) (a₀ := 0) idx_div w
abbrev outPart (w : Fin 32) : Rect S131072x16 := Rect.part (s := S131072x16) (a₀ := 0) out_div w
abbrev idxSet (w : Fin 32) : Finset S131072.Idx := ((idxV).view.slice (idxPart w)).set
abbrev outSet (w : Fin 32) : Finset S131072x16.Idx := ((outV).view.slice (outPart w)).set

/-- What is left of the full share after `k` tiles have taken theirs: the right half of what was left before. -/
def leftOver : ℕ → PosShare TreeShare
  | 0 => fullShare
  | k + 1 => (leftOver k).right
/-- Tile `w`'s share of the table: the left half of what is left, the last tile's all of it. -/
def tabShare (w : Fin 32) : PosShare TreeShare := if w.val = 31 then leftOver 31 else (leftOver w.val).left

theorem tab_shares_from (d : Dev nD) (f : Buf (Elt F) (tabLoc d)) (n : ℕ) :
    ∀ k : ℕ, k + n = 31 →
      (tabLoc d ↦{leftOver k} f : sProp 𝕄) = bigSep (SparseCore.ProtocolKit.finFrom 32 k) fun w => tabLoc d ↦{tabShare w} f := by
  induction n with
  | zero =>
    intro k hk
    obtain rfl : k = 31 := hk
    rw [SparseCore.ProtocolKit.bigSep_finFrom_succ (by decide), SparseCore.ProtocolKit.bigSep_finFrom_self, tabShare, if_pos rfl]
    exact (BI.Entails.antisymm sep_emp.1 sep_emp.2).symm
  | succ n ih =>
    intro k hk
    have hk' : k < 32 := by omega
    rw [SparseCore.ProtocolKit.bigSep_finFrom_succ hk', ← ih (k + 1) (by omega), tabShare, if_neg (by simp only; omega)]
    exact BI.Entails.antisymm (pointsTo_share (PosShare.mem_left_op_right _)).1 (pointsTo_share (PosShare.mem_left_op_right _)).2

/-- The table whole is every tile's share of it at once. -/
theorem tab_shares (d : Dev nD) (f : Buf (Elt F) (tabLoc d)) :
    (tabLoc d ↦{fullShare} f : sProp 𝕄) = bigSep Finset.univ fun w : Fin 32 => tabLoc d ↦{tabShare w} f := by
  rw [← SparseCore.ProtocolKit.bigSep_finFrom_zero]; exact tab_shares_from d f 31 0 rfl

theorem idxSet_eq (w : Fin 32) : idxSet w = (idxPart w).set := by
  show ((View.whole (main_v4_scv : Ref sig .scVector)).slice (idxPart w)).set = _
  rw [View.set_slice]; exact Finset.map_refl
theorem outSet_eq (w : Fin 32) : outSet w = (outPart w).set := by
  show ((View.whole (main_v5_scv : Ref sig .scVector)).slice (outPart w)).set = _
  rw [View.set_slice]; exact Finset.map_refl

/-- The indices whole are their 32 parts, -/
theorem idx_parts (d : Dev nD) (f : Buf (Elt F) (idxLoc d)) :
    (idxLoc d ↦{fullShare} f : sProp 𝕄) = bigSep Finset.univ fun w : Fin 32 => idxLoc d ↦[idxSet w]{fullShare} f := by
  have hd : ∀ i ∈ (Finset.univ : Finset (Fin 32)), ∀ j ∈ (Finset.univ : Finset (Fin 32)), i ≠ j → Disjoint (idxSet i) (idxSet j) :=
    fun i _ j _ h => by rw [idxSet_eq, idxSet_eq]; exact Rect.part_disjoint idx_div h
  have hc : (Finset.univ : Finset (Fin 32)).biUnion idxSet = Finset.univ :=
    (Finset.biUnion_congr rfl fun i _ => idxSet_eq i).trans (Rect.biUnion_part idx_div)
  rw [← pointsTo_biUnion Finset.univ (ℓ := idxLoc d) idxSet hd, hc]
/-- and the rows whole are theirs. -/
theorem out_parts (d : Dev nD) (f : Buf (Elt F) (outLoc d)) :
    (outLoc d ↦{fullShare} f : sProp 𝕄) = bigSep Finset.univ fun w : Fin 32 => outLoc d ↦[outSet w]{fullShare} f := by
  have hd : ∀ i ∈ (Finset.univ : Finset (Fin 32)), ∀ j ∈ (Finset.univ : Finset (Fin 32)), i ≠ j → Disjoint (outSet i) (outSet j) :=
    fun i _ j _ h => by rw [outSet_eq, outSet_eq]; exact Rect.part_disjoint out_div h
  have hc : (Finset.univ : Finset (Fin 32)).biUnion outSet = Finset.univ :=
    (Finset.biUnion_congr rfl fun i _ => outSet_eq i).trans (Rect.biUnion_part out_div)
  rw [← pointsTo_biUnion Finset.univ (ℓ := outLoc d) outSet hd, hc]

/-! ## What a tile is handed, and hands back -/

/-- Part `w` of the indices, a share of the table, part `w` of the rows. -/
abbrev piece (d : Dev nD) (tab : Buf (Elt F) (tabLoc d)) (idx : Buf (Elt F) (idxLoc d)) (out : Buf (Elt F) (outLoc d)) (w : Fin 32) : sProp 𝕄 :=
  iprop((idxLoc d ↦[idxSet w]{fullShare} idx) ∗ (tabLoc d ↦{tabShare w} tab) ∗ (outLoc d ↦[outSet w]{fullShare} out))

/-- The three arrays whole are the 32 pieces. -/
theorem pieces_eq (d : Dev nD) (tab : Buf (Elt F) (tabLoc d)) (idx : Buf (Elt F) (idxLoc d)) (out : Buf (Elt F) (outLoc d)) :
    (bigSep Finset.univ fun w : Fin 32 => piece d tab idx out w)
      = (iprop((idxLoc d ↦{fullShare} idx) ∗ (tabLoc d ↦{fullShare} tab) ∗ (outLoc d ↦{fullShare} out)) : sProp 𝕄) := by
  rw [idx_parts, tab_shares, out_parts, ← bigSep_sep', ← bigSep_sep']

/-- The part that tile `s` of SparseCore `c` works on. -/
def part (c : Fin 2) (s : Fin 16) : Fin 32 := ⟨c.val + 2 * s.val, by omega⟩

theorem pieces_by_tile (Φ : Fin 32 → sProp 𝕄) :
    (bigSep Finset.univ fun c : Fin 2 => bigSep Finset.univ fun s : Fin 16 => Φ (part c s)) = bigSep Finset.univ Φ := by
  rw [Pipeline.bigSep_univ_comm, bigSep_univ_equiv (finProdFinEquiv (m := 16) (n := 2)) Φ,
    bigSep_univ_equiv (Equiv.sigmaEquivProd (Fin 16) (Fin 2)) (fun p => Φ (finProdFinEquiv p)), Pipeline.bigSep_univ_sigma]
  rfl

variable [FloatOps F]

/-! ## The task -/

section Tile

variable (d : Dev nD) (L : grid0.Coords)

abbrev cV (L : grid0.Coords) : Fin τ.nSC := (L 0).castLE hcore0
abbrev sV (L : grid0.Coords) : Fin τ.nSub := (L 1).castLE hsub0
/-- The tile at coordinates `L`. -/
abbrev tile (d : Dev nD) (L : grid0.Coords) : Thread nD τ := V d (cV L) (sV L)
/-- Its part. -/
abbrev partL (L : grid0.Coords) : Fin 32 := part ⟨(L 0).val, (L 0).isLt⟩ ⟨(L 1).val, (L 1).isLt⟩

abbrev idxRect (L : grid0.Coords) : Rect S131072 := Rect.unit (s := S131072) (k0_off1 L) S4096.size (k0_off1_inb L)
abbrev outRect (L : grid0.Coords) : Rect S131072x16 := Rect.unit (s := S131072x16) (k0_off2 L) S4096x16.size (k0_off2_inb L)
/-- The part of the indices and of the rows as the task addresses them. -/
abbrev idxM (L : grid0.Coords) : Memref sig .scVector .hbm S4096 .i32 := (idxV).slice (idxRect L) (fun _ => rfl)
abbrev outM (L : grid0.Coords) : Memref sig .scVector .hbm S4096x16 .f32 := (outV).slice (outRect L) (fun _ => rfl)

theorem idxRect_eq : idxRect L = idxPart (partL L) := by
  unfold idxRect idxPart Rect.part Rect.block
  congr 1 <;> funext a
  · rw [k0_off1_eq]
    match a with
    | 0 => simp [Shape.partIx, Shape.partSize, part]; omega
  · match a with
    | 0 => simp [Shape.partSize]
theorem outRect_eq : outRect L = outPart (partL L) := by
  unfold outRect outPart Rect.part Rect.block
  congr 1 <;> funext a
  · rw [k0_off2_eq]
    match a with
    | 0 => simp [Shape.partIx, Shape.partSize, part]; omega
    | 1 => simp [Shape.partIx, Shape.partSize]
  · match a with
    | 0 => simp [Shape.partSize]
    | 1 => simp [Shape.partSize]

theorem set_idxM : (idxM L).view.set = idxSet (partL L) := by
  show ((idxV).view.slice (idxRect L)).set = _
  exact idxRect_eq L ▸ rfl
theorem set_outM : (outM L).view.set = outSet (partL L) := by
  show ((outV).view.slice (outRect L)).set = _
  exact outRect_eq L ▸ rfl

theorem pts_idxM (f : Buf (Elt F) (idxLoc d)) :
    ((idxM L).view.loc (tile d L) ↦[(idxM L).view.set]{fullShare} f : sProp 𝕄) = idxLoc d ↦[idxSet (partL L)]{fullShare} f := by
  rw [set_idxM]
theorem pts_outM (f : Buf (Elt F) (outLoc d)) :
    ((outM L).view.loc (tile d L) ↦[(outM L).view.set]{fullShare} f : sProp 𝕄) = outLoc d ↦[outSet (partL L)]{fullShare} f := by
  rw [set_outM]
theorem pts_tabV (q : PosShare TreeShare) (f : Buf (Elt F) (tabLoc d)) :
    ((tabV).view.loc (tile d L) ↦{q} f : sProp 𝕄) = tabLoc d ↦{q} f := rfl
theorem pts_lstV (f : Buf (Elt F) ((tile d L).loc cc0_scratch0)) :
    ((lstV).view.loc (tile d L) ↦{fullShare} f : sProp 𝕄) = (tile d L).loc cc0_scratch0 ↦{fullShare} f := rfl
theorem pts_rowV (f : Buf (Elt F) ((tile d L).loc cc0_scratch1)) :
    ((rowV).view.loc (tile d L) ↦{fullShare} f : sProp 𝕄) = (tile d L).loc cc0_scratch1 ↦{fullShare} f := rfl

/-- The tile's three transfer semaphores: the fetch's, the gather's, the write-out's. -/
abbrev semF (thr : Thread nD τ) : GSem nD τ sig := (thr, .dma cc0_scoped0.sem)
abbrev semG (thr : Thread nD τ) : GSem nD τ sig := (thr, .dma cc0_scratch2.sem)
abbrev semW (thr : Thread nD τ) : GSem nD τ sig := (thr, .dma cc0_scoped1.sem)

theorem ownSems0_tile :
    (ownSems0 (tile d L) : sProp 𝕄)
      = iprop(semVal (semF (tile d L)) 0 ∗ semVal (semG (tile d L)) 0 ∗ semVal (semW (tile d L)) 0
          ∗ bigSep ((((ownCells (tile d L)).erase (semF (tile d L))).erase (semG (tile d L))).erase (semW (tile d L))) fun g => semVal g 0) := by
  unfold SparseCore.Cfg.ownSems0
  have hm : ∀ s : DmaSem sig, (SemLoc.dma s : SemLoc sig).isScoped .scVector = true → ((tile d L, .dma s) : GSem nD τ sig) ∈ ownCells (tile d L) :=
    fun s hs => (mem_ownCells (g := (tile d L, .dma s))).mpr ⟨rfl, hs⟩
  have hne : ∀ {a b : SemLoc sig}, a ≠ b → ((tile d L, a) : GSem nD τ sig) ≠ (tile d L, b) := fun h e => h (congrArg Prod.snd e)
  have hGF : semG (tile d L) ≠ semF (tile d L) := hne (by decide)
  have hWF : semW (tile d L) ≠ semF (tile d L) := hne (by decide)
  have hWG : semW (tile d L) ≠ semG (tile d L) := hne (by decide)
  rw [SparseCore.bigSep_erase' (hm cc0_scoped0.sem (by decide)), SparseCore.bigSep_erase' (Finset.mem_erase.mpr ⟨hGF, hm cc0_scratch2.sem (by decide)⟩),
    SparseCore.bigSep_erase' (Finset.mem_erase.mpr ⟨hWG, Finset.mem_erase.mpr ⟨hWF, hm cc0_scoped1.sem (by decide)⟩⟩)]

theorem ownBufs_tile :
    (ownBufs (tile d L) : sProp 𝕄)
      = iprop((∃ f, (tile d L).loc cc0_scratch0 ↦{fullShare} f) ∗ (∃ f, (tile d L).loc cc0_scratch1 ↦{fullShare} f)
          ∗ bigSep (((ownRefs (τ := τ) (.scVector (cV L) (sV L))).erase ((Proc.scVector (cV L) (sV L)).devRef cc0_scratch0)).erase
              ((Proc.scVector (cV L) (sV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (sV L))
    (b := (Proc.scVector (cV L) (sV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (sV L)) (b := (Proc.scVector (cV L) (sV L)).devRef cc0_scratch1) rfl⟩)]

/-- What a whole-shape store left, read back. -/
theorem read_whole_write {κ : Kind} {sp : Space} {s : Shape} {e : EltTy} (v : View sig κ sp s e) (f : v.ty.Contents (Elt F)) (w : s.Idx → Elt F e) :
    v.read (Elt F) (v.writes (Elt F) f [⟨Rect.whole s, w⟩]) = w := by
  funext x
  have h := View.read_writes_cons_emb v f (Rect.whole s) w [] x
  rwa [Rect.emb_whole_apply] at h

/-- What the gather reads for row `x` of the tile's part. -/
theorem gather_at (tab : Buf (Elt F) (tabLoc d)) (idx : Buf (Elt F) (idxLoc d)) (hidx : ∀ j, (idx j : BitVec 32).toNat < 8192)
    (fs : Buf (Elt F) ((tile d L).loc cc0_scratch0)) (hn : S4096.numel = S4096x16.size gathers_S8192x16_S4096x16.axis') (hs)
    (hin : ∀ x, ((lstV).view.read (Elt F) (View.write (Elt F) (lstV).view fs ((idxM L).view.read (Elt F) idx) Finset.univ) x).toNat
      < S8192x16.size gathers_S8192x16_S4096x16.axis) (x : S4096x16.Idx) :
    SparseCore.gatherPayload gathers_S8192x16_S4096x16
        (View.read (Elt F) ((tabV).slice (Rect.unit ![0, 0] S8192x16.size inb_S8192x16_S8192x16_0_0) hs).view tab)
        (SparseCore.rows (F := F) (View.read (Elt F) (lstV).view (View.write (Elt F) (lstV).view fs ((idxM L).view.read (Elt F) idx) Finset.univ)) hn hin) x
      = gath tab idx ((outM L).view.emb x) := by
  set r := (SparseCore.rows (F := F) (View.read (Elt F) (lstV).view (View.write (Elt F) (lstV).view fs ((idxM L).view.read (Elt F) idx) Finset.univ)) hn hin)
  have hrow : ∀ k, (r k).val = (idx ((idxM L).view.emb (S4096.rowMajor.symm (k.cast hn.symm))) : BitVec 32).toNat := by
    intro k
    show ((View.read (Elt F) (lstV).view (View.write (Elt F) (lstV).view fs ((idxM L).view.read (Elt F) idx) Finset.univ)
      (S4096.rowMajor.symm (k.cast hn.symm)) : BitVec 32)).toNat = _
    rw [View.write_whole_univ]
    simp only [Memref.view_whole, View.read_whole]
    rfl
  show tab _ = tab _
  refine congrArg tab (funext fun a => Fin.ext ?_)
  match a with
  | 0 =>
    show ![0, 0] (0 : Fin 2) + 1 * (gathers_S8192x16_S4096x16.idx r x gathers_S8192x16_S4096x16.axis).val = _
    rw [Shape.Gathers.idx_axis, hrow]
    show _ = (idx _ : BitVec 32).toNat % 8192
    rw [Nat.mod_eq_of_lt (hidx _), Matrix.cons_val_zero, Nat.one_mul, Nat.zero_add]
    congr 2
    funext b
    match b with
    | 0 =>
      refine Fin.ext ?_
      show k0_off1 L 0 + 1 * (S4096.rowMajor.symm _ 0).val = k0_off2 L 0 + 1 * (x 0).val
      rw [← Shape.rowMajor_val_one, Equiv.apply_symm_apply, k0_off1_eq, k0_off2_eq]
      rfl
  | 1 =>
    show ![0, 0] (1 : Fin 2) + 1 * (gathers_S8192x16_S4096x16.idx r x 1).val = k0_off2 L 1 + 1 * (x 1).val
    rw [Shape.Gathers.idx_of_ne _ _ _ _ (by decide), k0_off2_eq]
    rfl

set_option maxHeartbeats 4000000 in
/-- The task at coordinates `L`: its part of the rows is left at the gathered value. -/
theorem tile_body (tab : Buf (Elt F) (tabLoc d)) (idx : Buf (Elt F) (idxLoc d)) (out : Buf (Elt F) (outLoc d))
    (hidx : ∀ j, (idx j : BitVec 32).toNat < 8192)
    (hF : (K (F := F)).Facts) (O : CellTallies nD τ sig (HIx 1)) (W : Waits sig (HIx 1)) (hO : ∀ g, O g none = 0) :
    iprop(levAts (K (F := F)).L (K (F := F)).lev ∗ emp ∗ piece d tab idx out (partL L)
        ∗ scopedBufs (tile d L) ∗ scopedSems0 (tile d L) ∗ owes (tile d L) O W)
      ⊢ wp frame (wpE (defs₀ (F := F)) 𝒱₀ (tile d L) none) Set.univ
          (cc0_body L tabV (Memref.isWhole_whole _) idxV (Memref.isWhole_whole _) outV (Memref.isWhole_whole _)
            lstV (Memref.isWhole_whole _) rowV (Memref.isWhole_whole _) cc0_scratch2 cc0_scoped0 cc0_scoped1)
          fun _ => iprop(piece d tab idx (gath tab idx) (partL L)
            ∗ scopedBufs (tile d L) ∗ scopedSems0 (tile d L)
            ∗ ∃ W', ⌜∀ p ∈ W', p ∈ W ∨ p.2 = none⌝ ∗ owes (tile d L) O W') := by
  simp only [cc0_body_eq_skeleton]; unfold cc0_body_skel
  rw [(K (F := F)).scopedBufs_V hF d (cV L) (sV L), SparseCore.Cfg.scopedSems0_V (Val := Elt F) d (cV L) (sV L), ownSems0_tile, ownBufs_tile]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (tile d L) (default : HIx 1) O from
    (K (F := F)).mayWaits_none (thr := tile d L) hO) $$ Hlv
  ihave Hi' := (Entails.of_eq (pts_idxM (F := F) d L _).symm) $$ Hi
  ihave Ho' := (Entails.of_eq (pts_outM (F := F) d L _).symm) $$ Ho
  ihave Hx' := (Entails.of_eq (pts_tabV (F := F) d L _ _).symm) $$ Hx
  ihave Hs' := (Entails.of_eq (pts_lstV (F := F) d L _).symm) $$ Hs
  ihave Hr' := (Entails.of_eq (pts_rowV (F := F) d L _).symm) $$ Hr
  have hin : ∀ x, ((lstV).view.read (Elt F) (View.write (Elt F) (lstV).view fs ((idxM L).view.read (Elt F) idx) Finset.univ) x).toNat
      < S8192x16.size gathers_S8192x16_S4096x16.axis := by
    intro x
    rw [View.write_whole_univ]
    simp only [Memref.view_whole, View.read_whole]
    rw [show ∀ j, (idxM L).view.read (Elt F) idx j = idx ((idxM L).view.emb j) from fun j => (View.read_apply _ _).trans (cast_eq _ _)]
    exact hidx _
  sl_exec
  have hout : ∀ j ∈ (outM L).view.set, (outM L).view.writes (Elt F) out [⟨Rect.whole S4096x16, tile_body.sl.dma0_1 d L tab idx fs fr hin⟩] j = gath tab idx j := by
    intro j hj
    obtain ⟨x, -, rfl⟩ := Finset.mem_map.mp hj
    have h := congrFun (read_whole_write (outM L).view out (tile_body.sl.dma0_1 d L tab idx fs fr hin)) x
    rw [View.read_apply, cast_eq] at h
    rw [h]
    unfold tile_body.sl.dma0_1 tile_body.sl.gather1
    rw [ReadAs.apply_same, read_whole_write]
    exact gather_at d L tab idx hidx fs _ _ hin x
  sl_step
  isplitl [Hi' Hx' Ho']
  · isplitl [Hi']; · iapply (Entails.of_eq (pts_idxM (F := F) d L _)); iexact Hi'
    isplitl [Hx']; · iexact Hx'
    ihave Ho'' := (Entails.of_eq (pointsTo_congr hout)) $$ Ho'
    iapply (Entails.of_eq (pts_outM (F := F) d L _)); iexact Ho''
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  simp only [Finset.mem_insert] at hp
  rcases hp with hp | hp | hp | hp
  · exact .inr (hp ▸ rfl)
  · exact .inr (hp ▸ rfl)
  · exact .inr (hp ▸ rfl)
  · exact .inl hp

/-! ## The call's payloads and obligations -/

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

end Tile

variable (tab : (d : Dev nD) → Buf (Elt F) (tabLoc d)) (idx : (d : Dev nD) → Buf (Elt F) (idxLoc d)) (out : (d : Dev nD) → Buf (Elt F) (outLoc d))

/-- The call takes the tiles' pieces and brings them back with the rows gathered; each SparseCore gets its sixteen tiles'. -/
def P : (K (F := F)).Pay (nD := nD) (Val := Elt F) (Name := ℕ) (U := UU) where
  st := fun q d c => match q with
    | 0 => bigSep Finset.univ fun s : Fin 16 => piece d (tab d) (idx d) (out d) (part (Fin.cast nCore_zero c) s)
  dn := fun q d c => match q with
    | 0 => bigSep Finset.univ fun s : Fin 16 => piece d (tab d) (idx d) (gath (tab d) (idx d)) (part (Fin.cast nCore_zero c) s)
  go := fun q d c s => match q with
    | 0 => piece d (tab d) (idx d) (out d) (part (Fin.cast nCore_zero c) (Fin.cast nSub_zero s))
  td := fun q d c s => match q with
    | 0 => piece d (tab d) (idx d) (gath (tab d) (idx d)) (part (Fin.cast nCore_zero c) (Fin.cast nSub_zero s))
  x := fun _ _ => iprop(emp)

instance P_storable : (P tab idx out).IsStorable where
  st q d c := match q with
    | 0 => (inferInstance : BI.Storable (upEmb : UEmb _ 𝕄) (bigSep Finset.univ fun s : Fin 16 => piece d (tab d) (idx d) (out d) (part (Fin.cast nCore_zero c) s)))
  dn q d c := match q with
    | 0 => (inferInstance : BI.Storable (upEmb : UEmb _ 𝕄) (bigSep Finset.univ fun s : Fin 16 => piece d (tab d) (idx d) (gath (tab d) (idx d)) (part (Fin.cast nCore_zero c) s)))
  go q d c s := match q with
    | 0 => (inferInstance : BI.Storable (upEmb : UEmb _ 𝕄) (piece d (tab d) (idx d) (out d) (part (Fin.cast nCore_zero c) (Fin.cast nSub_zero s))))
  td q d c s := match q with
    | 0 => (inferInstance : BI.Storable (upEmb : UEmb _ 𝕄) (piece d (tab d) (idx d) (gath (tab d) (idx d)) (part (Fin.cast nCore_zero c) (Fin.cast nSub_zero s))))

theorem defs₀_vector (c : Fin τ.nSC) (s : Fin τ.nSub) :
    defs₀ (F := F) (.scVector c s) 0 ()
      = SparseCore.onTile hcore0 hsub0 (fun c s => cc0_body (coordsV c s)
          tabV (Memref.isWhole_whole _) idxV (Memref.isWhole_whole _) outV (Memref.isWhole_whole _)
          lstV (Memref.isWhole_whole _) rowV (Memref.isWhole_whole _) cc0_scratch2 cc0_scoped0 cc0_scoped1) ⟨⟩ c s := rfl

/-- A task waits at no handshake. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

set_option maxRecDepth 16384 in
/-- Every tile's task meets its obligation, the indices naming rows of the table. -/
theorem tileObl (hidx : ∀ d j, (idx d j : BitVec 32).toNat < 8192) : (K (F := F)).TileObl (D (F := F)) 𝒱 (P tab idx out) v₀ 0 := by
  intro d c i O W hO _ _
  simp only [show (P tab idx out).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (tab d) (idx d) (out d) (hidx d) scFacts O W hO).trans (wp_mono frame _ _ fun _ => waits_weaken)

/-- A SparseCore's pieces are its tiles' already. -/
theorem vecSplit : (K (F := F)).VecSplit' (P tab idx out) 0 := by
  intro d c
  show (bigSep Finset.univ fun s : Fin 16 => piece d (tab d) (idx d) (out d) (part (Fin.cast nCore_zero c) s))
    ⊢ |={Set.univ}=> iprop((bigSep Finset.univ fun s : Fin 16 => piece d (tab d) (idx d) (out d) (part (Fin.cast nCore_zero c) s))
      ∗ ((bigSep Finset.univ fun s : Fin 16 => piece d (tab d) (idx d) (gath (tab d) (idx d)) (part (Fin.cast nCore_zero c) s))
        -∗ bigSep Finset.univ fun s : Fin 16 => piece d (tab d) (idx d) (gath (tab d) (idx d)) (part (Fin.cast nCore_zero c) s)))
  iintro H; imodintro
  isplitl [H]; · iexact H
  iintro H; iexact H

/-- What the call takes over all SparseCores: the three arrays whole, -/
theorem st_eq (d : Dev nD) : (bigSep Finset.univ fun c : Fin ((K (F := F)).nCore 0) => (P tab idx out).st 0 d c)
    = (iprop((idxLoc d ↦{fullShare} idx d) ∗ (tabLoc d ↦{fullShare} tab d) ∗ (outLoc d ↦{fullShare} out d)) : sProp 𝕄) :=
  (pieces_by_tile fun w => piece d (tab d) (idx d) (out d) w).trans (pieces_eq d _ _ _)
/-- and what it brings back: the rows gathered. -/
theorem dn_eq (d : Dev nD) : (bigSep Finset.univ fun c : Fin ((K (F := F)).nCore 0) => (P tab idx out).dn 0 d c)
    = (iprop((idxLoc d ↦{fullShare} idx d) ∗ (tabLoc d ↦{fullShare} tab d) ∗ (outLoc d ↦{fullShare} gath (tab d) (idx d))) : sProp 𝕄) :=
  (pieces_by_tile fun w => piece d (tab d) (idx d) (gath (tab d) (idx d)) w).trans (pieces_eq d _ _ _)

end Cert.KernelIdeal.Pf

end
-- ==== Proof.Ideal.AttnVal.lean ====
/-
  What one grid point of the attention kernel computes, as a value. `k1_pay15` is the step for one neighbour: the
  printed body repeats it sixteen times, cut at different places; here every repetition is that step, so the block
  stored is the step folded over the sixteen neighbours.
-/
module

public import proofs.«01_k».proof.Proof.Ideal.Tile
public import Idealize.ShloMosaic.Lib.WholeRead
public import Idealize.ShloMosaic.Lib.Pointwise

@[expose] public section

set_option maxRecDepth 16384

noncomputable section

namespace Cert.KernelIdeal.Pf

open Cert.KernelIdeal Cert.KernelIdeal.Gen

open Idealize.ShloMosaic Idealize.ShloMosaic.TcCoe Idealize.ShloMosaic.ValueIdx

variable {F : FTy → Type} [FloatOps F]

/-- The product of the feature weights with the first weight layer, as the first point keeps it. -/
def afOf (x3 x4 : Vec F S256x256 .f32) : Vec F S256x256 .f32 := k1_pay3 x4 x3

/-- The lane weights times the first weight layer. -/
def ucOf (x4 : Vec F S256x256 .f32) (x6 : Vec F S32x256 .f32) : Vec F S32x256 .f32 := k1_pay4 x4 x6

/-- The summed biases through the first weight layer, plus its own bias. -/
def buOf (x4 : Vec F S256x256 .f32) (x10 x11 : Vec F S1x256 .f32) : Vec F S1x256 .f32 := k1_pay5 x4 x10 x11

/-- The coordinates of every point's `k`-th neighbour, out of a block of all sixteen. -/
def nbr (x2 : Vec F S1x16x256x16 .f32) (k : Fin 16) : Vec F S1x1x256x16 .f32 :=
  fun j => x2 (ValueIdx.ix4 (j 0) k (j 2) (j 3))

/-- One neighbour's step, from the point's blocks: `acc` plus the softmax weights times the neighbour's values. -/
def nbrStep (x0 : Vec F S1x256x256 .f32) (x1 : Vec F S1x256x16 .f32) (x5 : Vec F S256x256 .f32) (x7 : Vec F S32x256 .f32)
    (x8 : Vec F S16x16 .f32) (x9 : Vec F S1x16 .f32) (x12 x13 : Vec F S1x256 .f32) (af : Vec F S256x256 .f32)
    (uc : Vec F S32x256 .f32) (bu : Vec F S1x256 .f32) (acc : FVec F S256x256 .f32) (c : Vec F S1x1x256x16 .f32) :
    FVec F S256x256 .f32 :=
  k1_pay15 (k1_pay6 x0 af bu) (k1_pay7 x1) (k1_pay8 x5) (k1_pay9 x12) (k1_pay10 x13) (k1_pay11 x8) (k1_pay12 x9) uc
    (k1_pay13 x7) acc c

/-- The block a grid point stores: the steps of its sixteen neighbours, from zero. -/
def attnBlk (x0 : Vec F S1x256x256 .f32) (x1 : Vec F S1x256x16 .f32) (x2 : Vec F S1x16x256x16 .f32)
    (x5 : Vec F S256x256 .f32) (x7 : Vec F S32x256 .f32)
    (x8 : Vec F S16x16 .f32) (x9 : Vec F S1x16 .f32) (x12 x13 : Vec F S1x256 .f32) (af : Vec F S256x256 .f32)
    (uc : Vec F S32x256 .f32) (bu : Vec F S1x256 .f32) : Vec F S1x256x256 .f32 :=
  shapeCast S1x256x256 ((List.finRange 16).foldl (fun acc k => nbrStep x0 x1 x5 x7 x8 x9 x12 x13 af uc bu acc (nbr x2 k))
    k1_pay14) shapeCasts_S256x256_S1x256x256

theorem inb_nbr {k : ℕ} (inb : ∀ a, ![0, k, 0, 0] a + S1x1x256x16.size a ≤ S1x16x256x16.size a) : k < 16 :=
  Nat.lt_of_succ_le (inb 1)

/-- A load of one neighbour's slice reads `nbr`. -/
theorem readAt_nbr {sp : Space} (M : Memref sig .tc sp S1x16x256x16 .f32) (hM : M.IsWhole) (x2 : Vec F S1x16x256x16 .f32) (k : ℕ)
    (inb : ∀ a, ![0, k, 0, 0] a + S1x1x256x16.size a ≤ S1x16x256x16.size a) :
    M.view.readAt (Elt F) (Rect.unit (s := S1x16x256x16) ![0, k, 0, 0] S1x1x256x16.size inb).toLoadRect (hM.unread x2)
      = nbr x2 ⟨k, inb_nbr inb⟩ := by
  funext j
  rw [hM.readAt_unread]
  show x2 _ = x2 _
  congr 1
  funext a
  fin_cases a <;> apply Fin.ext
  · show 0 + 1 * (j 0).val = (j 0).val; omega
  · show k + 1 * (j 1).val = k
    have : (j 1).val < 1 := (j 1).isLt
    omega
  · show 0 + 1 * (j 2).val = (j 2).val; omega
  · show 0 + 1 * (j 3).val = (j 3).val; omega

theorem finRange16 : List.finRange 16 = [0, 1, 2, 3, 4, 5, 6, 7, 8, 9, 10, 11, 12, 13, 14, 15] := rfl

section
variable (v11 : FVec F S256x256 .f32) (v13 : FVec F S256x16 .f32) (v15 : FVec F S256x256 .f32) (v17 v19 : FVec F S1x256 .f32)
  (v21 : FVec F S16x16 .f32) (v23 : FVec F S1x16 .f32) (v24 : Vec F S32x256 .f32) (v26 : FVec F S32x256 .f32)
  (acc : FVec F S256x256 .f32) (c c' : Vec F S1x1x256x16 .f32)

/-! Every repetition of the step in the printed body, as it is cut there. -/

theorem step_18 : k1_pay18 v15 v17 v19 v26 acc (k1_pay16 v13 v21 v23 c) (k1_pay17 v11 v13 v21 v23 v24 c) = k1_pay15 v11 v13 v15 v17 v19 v21 v23 v24 v26 acc c := rfl
theorem step_21 : k1_pay21 v11 v13 v15 v17 v19 v21 v23 v24 v26 acc (k1_pay19 v13 v21 v23 c) (k1_pay20 v11 v13 v15 v17 v21 v23 v24 c) c' = k1_pay15 v11 v13 v15 v17 v19 v21 v23 v24 v26 (k1_pay15 v11 v13 v15 v17 v19 v21 v23 v24 v26 acc c) c' := rfl
theorem step_24 : k1_pay24 v11 v15 v17 v19 v24 v26 acc (k1_pay22 c) (k1_pay23 v13 v21 v23 c) (FloatOps.ofBits FTy.f32 0#32) = k1_pay15 v11 v13 v15 v17 v19 v21 v23 v24 v26 acc c := rfl
theorem step_27 : k1_pay27 v11 v13 v15 v17 v19 v21 v23 v24 v26 acc (k1_pay25 v13 v21 v23 c) (k1_pay26 v11 v13 v15 v17 v21 v23 v24 c) c' = k1_pay15 v11 v13 v15 v17 v19 v21 v23 v24 v26 (k1_pay15 v11 v13 v15 v17 v19 v21 v23 v24 v26 acc c) c' := rfl
theorem step_29 : k1_pay29 v11 v13 v15 v17 v19 v21 v23 v24 v26 acc (k1_pay28 c) = k1_pay15 v11 v13 v15 v17 v19 v21 v23 v24 v26 acc c := rfl
theorem step_33 : k1_pay33 v11 v13 v15 v17 v19 v21 v23 v24 v26 acc (k1_pay30 v13 v21 v23 c) (k1_pay31 v11 v13 v15 v21 v23 v24 c) (k1_pay32 v17) c' = k1_pay15 v11 v13 v15 v17 v19 v21 v23 v24 v26 (k1_pay15 v11 v13 v15 v17 v19 v21 v23 v24 v26 acc c) c' := rfl
theorem step_34 : k1_pay34 v11 v13 v15 v17 v19 v21 v23 v24 v26 acc c = k1_pay15 v11 v13 v15 v17 v19 v21 v23 v24 v26 acc c := rfl
theorem step_37 : k1_pay37 v15 v17 v19 v26 acc (k1_pay35 v13 v21 v23 c) (k1_pay36 v11 v13 v21 v23 v24 c) = k1_pay15 v11 v13 v15 v17 v19 v21 v23 v24 v26 acc c := rfl
theorem step_40 : k1_pay40 v11 v13 v15 v17 v19 v21 v23 v24 v26 acc (k1_pay38 v13 v21 v23 c) (k1_pay39 v11 v13 v15 v17 v21 v23 v24 c) c' = k1_pay15 v11 v13 v15 v17 v19 v21 v23 v24 v26 (k1_pay15 v11 v13 v15 v17 v19 v21 v23 v24 v26 acc c) c' := rfl
theorem step_43 : k1_pay43 v11 v15 v17 v19 v24 v26 acc (k1_pay41 c) (k1_pay42 v13 v21 v23 c) (FloatOps.ofBits FTy.f32 0#32) = k1_pay15 v11 v13 v15 v17 v19 v21 v23 v24 v26 acc c := rfl
theorem step_1 : k1_pay1 v19 v26 acc (k1_pay44 v13 v21 v23 c) (k1_pay45 v11 v13 v15 v17 v21 v23 v24 c)
    = shapeCast S1x256x256 (k1_pay15 v11 v13 v15 v17 v19 v21 v23 v24 v26 acc c) shapeCasts_S256x256_S1x256x256 := rfl

end

end Cert.KernelIdeal.Pf
-- ==== Proof.Ideal.BodyBase.lean ====
/-
  The branch test of the attention kernel's body, and how its loads and stores of whole buffers read.
-/
module

public import proofs.«01_k».proof.Proof.Ideal.AttnVal
public import Idealize.ShloMosaic.Lib.WordCmp
public import Idealize.ShloMosaic.Lib.VecWindow

@[expose] public section

set_option maxRecDepth 16384

noncomputable section

namespace Cert.KernelIdeal.Pf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (Idealize.ShloMosaic.SparseCore.Cfg.HIx 1) (Elt F) ℕ UU ℕ

/-- The test of the body's first branch, from the grid coordinates. -/
abbrev atFirst (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem atFirst_iff (t : Fin cfg1.N) : atFirst (grid1.coords t) ↔ t.val = 0 := by
  have ht : t.val < 32 := Nat.lt_of_lt_of_eq t.isLt N_1
  have e0 : (grid1.coords t 0).val = t.val / 16 % 2 := Pipeline.Grid.coords_val t 0 (by decide) rfl
  have e1 : (grid1.coords t 1).val = t.val / 1 % 16 := Pipeline.Grid.coords_val t 1 (by decide) rfl
  have key : atFirst (grid1.coords t) ↔ t.val % 32 = 0 := by
    simp only [atFirst, e0, e1]
    word_cmp
  rw [key]; omega

/-! A load of a whole buffer. -/

theorem rd_S1x256x256 {sp : Space} (M : Memref sig .tc sp S1x256x256 .f32) (hM : M.IsWhole) (x : Vec F S1x256x256 .f32) {off : Fin S1x256x256.rank → ℕ} (inb : ∀ a, off a + S1x256x256.size a ≤ S1x256x256.size a) :
    M.view.readAt (Elt F) (Rect.unit (s := S1x256x256) off S1x256x256.size inb).toLoadRect (hM.unread x) = x := (View.readAt_full _ _ _).trans (hM.read_unread x)
theorem rd_S1x256x16 {sp : Space} (M : Memref sig .tc sp S1x256x16 .f32) (hM : M.IsWhole) (x : Vec F S1x256x16 .f32) {off : Fin S1x256x16.rank → ℕ} (inb : ∀ a, off a + S1x256x16.size a ≤ S1x256x16.size a) :
    M.view.readAt (Elt F) (Rect.unit (s := S1x256x16) off S1x256x16.size inb).toLoadRect (hM.unread x) = x := (View.readAt_full _ _ _).trans (hM.read_unread x)
theorem rd_S256x256 {sp : Space} (M : Memref sig .tc sp S256x256 .f32) (hM : M.IsWhole) (x : Vec F S256x256 .f32) {off : Fin S256x256.rank → ℕ} (inb : ∀ a, off a + S256x256.size a ≤ S256x256.size a) :
    M.view.readAt (Elt F) (Rect.unit (s := S256x256) off S256x256.size inb).toLoadRect (hM.unread x) = x := (View.readAt_full _ _ _).trans (hM.read_unread x)
theorem rd_S32x256 {sp : Space} (M : Memref sig .tc sp S32x256 .f32) (hM : M.IsWhole) (x : Vec F S32x256 .f32) {off : Fin S32x256.rank → ℕ} (inb : ∀ a, off a + S32x256.size a ≤ S32x256.size a) :
    M.view.readAt (Elt F) (Rect.unit (s := S32x256) off S32x256.size inb).toLoadRect (hM.unread x) = x := (View.readAt_full _ _ _).trans (hM.read_unread x)
theorem rd_S16x16 {sp : Space} (M : Memref sig .tc sp S16x16 .f32) (hM : M.IsWhole) (x : Vec F S16x16 .f32) {off : Fin S16x16.rank → ℕ} (inb : ∀ a, off a + S16x16.size a ≤ S16x16.size a) :
    M.view.readAt (Elt F) (Rect.unit (s := S16x16) off S16x16.size inb).toLoadRect (hM.unread x) = x := (View.readAt_full _ _ _).trans (hM.read_unread x)
theorem rd_S1x16 {sp : Space} (M : Memref sig .tc sp S1x16 .f32) (hM : M.IsWhole) (x : Vec F S1x16 .f32) {off : Fin S1x16.rank → ℕ} (inb : ∀ a, off a + S1x16.size a ≤ S1x16.size a) :
    M.view.readAt (Elt F) (Rect.unit (s := S1x16) off S1x16.size inb).toLoadRect (hM.unread x) = x := (View.readAt_full _ _ _).trans (hM.read_unread x)
theorem rd_S1x256 {sp : Space} (M : Memref sig .tc sp S1x256 .f32) (hM : M.IsWhole) (x : Vec F S1x256 .f32) {off : Fin S1x256.rank → ℕ} (inb : ∀ a, off a + S1x256.size a ≤ S1x256.size a) :
    M.view.readAt (Elt F) (Rect.unit (s := S1x256) off S1x256.size inb).toLoadRect (hM.unread x) = x := (View.readAt_full _ _ _).trans (hM.read_unread x)

/-! A load of a whole scratch array that was stored whole. -/

theorem rc_S256x256 {sp : Space} (M : Memref sig .tc sp S256x256 .f32) (x : Vec F S256x256 .f32) {off : Fin S256x256.rank → ℕ} (inb : ∀ a, off a + S256x256.size a ≤ S256x256.size a) :
    M.view.readCov [⟨Rect.unit (s := S256x256) off S256x256.size inb, x⟩] (Rect.unit (s := S256x256) off S256x256.size inb).toLoadRect = x := View.readCov_full _ _ _ _ _
theorem rc_S32x256 {sp : Space} (M : Memref sig .tc sp S32x256 .f32) (x : Vec F S32x256 .f32) {off : Fin S32x256.rank → ℕ} (inb : ∀ a, off a + S32x256.size a ≤ S32x256.size a) :
    M.view.readCov [⟨Rect.unit (s := S32x256) off S32x256.size inb, x⟩] (Rect.unit (s := S32x256) off S32x256.size inb).toLoadRect = x := View.readCov_full _ _ _ _ _
theorem rc_S1x256 {sp : Space} (M : Memref sig .tc sp S1x256 .f32) (x : Vec F S1x256 .f32) {off : Fin S1x256.rank → ℕ} (inb : ∀ a, off a + S1x256.size a ≤ S1x256.size a) :
    M.view.readCov [⟨Rect.unit (s := S1x256) off S1x256.size inb, x⟩] (Rect.unit (s := S1x256) off S1x256.size inb).toLoadRect = x := View.readCov_full _ _ _ _ _

/-! A buffer stored whole reads what was stored. -/

theorem own_S256x256 (c : Dev nD) {sp : Space} (M : Memref sig .tc sp S256x256 .f32) (x : Vec F S256x256 .f32) {off : Fin S256x256.rank → ℕ} (inb : ∀ a, off a + S256x256.size a ≤ S256x256.size a)
    {L : List (View.Piece (Elt F) S256x256 .f32)} (hL : L = [⟨Rect.unit (s := S256x256) off S256x256.size inb, x⟩]) :
    (iprop(∃ f, M.view.loc (c : Thread nD τ) ↦[M.view.set]{fullShare} M.view.writes (Elt F) f L) : sProp 𝕄) ⊢ owns (c : Thread nD τ) M fullShare x := by
  unfold owns
  subst hL
  iintro ⟨%f, H⟩
  iexists _; isplitr; swap
  · iexact H
  · ipureintro; exact View.read_writes_full _ _ _ _ _
theorem own_S32x256 (c : Dev nD) {sp : Space} (M : Memref sig .tc sp S32x256 .f32) (x : Vec F S32x256 .f32) {off : Fin S32x256.rank → ℕ} (inb : ∀ a, off a + S32x256.size a ≤ S32x256.size a)
    {L : List (View.Piece (Elt F) S32x256 .f32)} (hL : L = [⟨Rect.unit (s := S32x256) off S32x256.size inb, x⟩]) :
    (iprop(∃ f, M.view.loc (c : Thread nD τ) ↦[M.view.set]{fullShare} M.view.writes (Elt F) f L) : sProp 𝕄) ⊢ owns (c : Thread nD τ) M fullShare x := by
  unfold owns
  subst hL
  iintro ⟨%f, H⟩
  iexists _; isplitr; swap
  · iexact H
  · ipureintro; exact View.read_writes_full _ _ _ _ _
theorem own_S1x256 (c : Dev nD) {sp : Space} (M : Memref sig .tc sp S1x256 .f32) (x : Vec F S1x256 .f32) {off : Fin S1x256.rank → ℕ} (inb : ∀ a, off a + S1x256.size a ≤ S1x256.size a)
    {L : List (View.Piece (Elt F) S1x256 .f32)} (hL : L = [⟨Rect.unit (s := S1x256) off S1x256.size inb, x⟩]) :
    (iprop(∃ f, M.view.loc (c : Thread nD τ) ↦[M.view.set]{fullShare} M.view.writes (Elt F) f L) : sProp 𝕄) ⊢ owns (c : Thread nD τ) M fullShare x := by
  unfold owns
  subst hL
  iintro ⟨%f, H⟩
  iexists _; isplitr; swap
  · iexact H
  · ipureintro; exact View.read_writes_full _ _ _ _ _
theorem own_S1x256x256 (c : Dev nD) {sp : Space} (M : Memref sig .tc sp S1x256x256 .f32) (x : Vec F S1x256x256 .f32) {off : Fin S1x256x256.rank → ℕ} (inb : ∀ a, off a + S1x256x256.size a ≤ S1x256x256.size a)
    {L : List (View.Piece (Elt F) S1x256x256 .f32)} (hL : L = [⟨Rect.unit (s := S1x256x256) off S1x256x256.size inb, x⟩]) :
    (iprop(∃ f, M.view.loc (c : Thread nD τ) ↦[M.view.set]{fullShare} M.view.writes (Elt F) f L) : sProp 𝕄) ⊢ owns (c : Thread nD τ) M fullShare x := by
  unfold owns
  subst hL
  iintro ⟨%f, H⟩
  iexists _; isplitr; swap
  · iexact H
  · ipureintro; exact View.read_writes_full _ _ _ _ _

end Cert.KernelIdeal.Pf
-- ==== Proof.Ideal.Body.lean ====
/-
  The run of the attention kernel's body at the first grid point, which also works out three small arrays from the
  weights and keeps them in scratch.
-/
module

public import proofs.«01_k».proof.Proof.Ideal.BodyBase

@[expose] public section

set_option maxRecDepth 16384

noncomputable section

namespace Cert.KernelIdeal.Pf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (Idealize.ShloMosaic.SparseCore.Cfg.HIx 1) (Elt F) ℕ UU ℕ

set_option maxHeartbeats 2000000 in
/-- What the body's stores leave at the first point, with the body's run: from the windows' buffers and the scratch arrays at any contents, to the windows' as they were and the pieces written. -/
def bodyRun0 (c : Dev nD) (i : grid1.Coords)
    (arg2 : Memref sig .tc .vmem S1x256x256 .f32) (harg2 : arg2.IsWhole)
    (arg3 : Memref sig .tc .vmem S1x256x16 .f32) (harg3 : arg3.IsWhole)
    (arg4 : Memref sig .tc .vmem S1x16x256x16 .f32) (harg4 : arg4.IsWhole)
    (arg5 : Memref sig .tc .vmem S256x256 .f32) (harg5 : arg5.IsWhole)
    (arg6 : Memref sig .tc .vmem S256x256 .f32) (harg6 : arg6.IsWhole)
    (arg7 : Memref sig .tc .vmem S256x256 .f32) (harg7 : arg7.IsWhole)
    (arg8 : Memref sig .tc .vmem S32x256 .f32) (harg8 : arg8.IsWhole)
    (arg9 : Memref sig .tc .vmem S32x256 .f32) (harg9 : arg9.IsWhole)
    (arg10 : Memref sig .tc .vmem S16x16 .f32) (harg10 : arg10.IsWhole)
    (arg11 : Memref sig .tc .vmem S1x16 .f32) (harg11 : arg11.IsWhole)
    (arg12 : Memref sig .tc .vmem S1x256 .f32) (harg12 : arg12.IsWhole)
    (arg13 : Memref sig .tc .vmem S1x256 .f32) (harg13 : arg13.IsWhole)
    (arg14 : Memref sig .tc .vmem S1x256 .f32) (harg14 : arg14.IsWhole)
    (arg15 : Memref sig .tc .vmem S1x256 .f32) (harg15 : arg15.IsWhole)
    (arg16 : Memref sig .tc .vmem S1x256x256 .f32) (harg16 : arg16.IsWhole)
    (arg17 : Memref sig .tc .vmem S256x256 .f32) (harg17 : arg17.IsWhole)
    (arg18 : Memref sig .tc .vmem S32x256 .f32) (harg18 : arg18.IsWhole)
    (arg19 : Memref sig .tc .vmem S1x256 .f32) (harg19 : arg19.IsWhole)
    (hc0 : atFirst i)
    (x0 : Vec F S1x256x256 .f32) (x1 : Vec F S1x256x16 .f32) (x2 : Vec F S1x16x256x16 .f32) (x3 : Vec F S256x256 .f32) (x4 : Vec F S256x256 .f32) (x5 : Vec F S256x256 .f32) (x6 : Vec F S32x256 .f32) (x7 : Vec F S32x256 .f32) (x8 : Vec F S16x16 .f32) (x9 : Vec F S1x16 .f32) (x10 : Vec F S1x256 .f32) (x11 : Vec F S1x256 .f32) (x12 : Vec F S1x256 .f32) (x13 : Vec F S1x256 .f32) :
    Σ' (L14 : List (View.Piece (Elt F) S1x256x256 .f32)), Σ' (L0 : List (View.Piece (Elt F) S256x256 .f32)), Σ' (L1 : List (View.Piece (Elt F) S32x256 .f32)), { L2 : List (View.Piece (Elt F) S1x256 .f32) //
      ∀ (E : Set ℕ) (Q : PUnit → sProp 𝕄),
      iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ owns (c : Thread nD τ) arg13 fullShare x11
          ∗ owns (c : Thread nD τ) arg14 fullShare x12
          ∗ owns (c : Thread nD τ) arg15 fullShare x13
          ∗ (∃ d, owns (c : Thread nD τ) arg16 fullShare d)
          ∗ (∃ d, owns (c : Thread nD τ) arg17 fullShare d) ∗ (∃ d, owns (c : Thread nD τ) arg18 fullShare d) ∗ (∃ d, owns (c : Thread nD τ) arg19 fullShare d)
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ owns (c : Thread nD τ) arg13 fullShare x11
          ∗ owns (c : Thread nD τ) arg14 fullShare x12
          ∗ owns (c : Thread nD τ) arg15 fullShare x13
          ∗ (∃ f, arg16.view.loc (c : Thread nD τ) ↦[arg16.view.set]{fullShare} arg16.view.writes (Elt F) f L14)
          ∗ (∃ f, arg17.view.loc (c : Thread nD τ) ↦[arg17.view.set]{fullShare} arg17.view.writes (Elt F) f L0)
          ∗ (∃ f, arg18.view.loc (c : Thread nD τ) ↦[arg18.view.set]{fullShare} arg18.view.writes (Elt F) f L1)
          ∗ (∃ f, arg19.view.loc (c : Thread nD τ) ↦[arg19.view.set]{fullShare} arg19.view.writes (Elt F) f L2)) -∗ Q ⟨⟩))
        ⊢ wp frame (wpE (defs₀ (F := F)) Variants.none c none) E (cc1__attn_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q } := by
  refine ⟨?_, ?_, ?_, ?_, fun E Q => ?run⟩
  case run =>
    simp only [cc1__attn_body_eq_skeleton]; unfold cc1__attn_body_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0)
    sl_step
    iapply Hk
    isplitl [H0]
    · iexists _; isplitr
      · ipureintro; exact harg2.read_unread _
      · iexact H0
    isplitl [H1]
    · iexists _; isplitr
      · ipureintro; exact harg3.read_unread _
      · iexact H1
    isplitl [H2]
    · iexists _; isplitr
      · ipureintro; exact harg4.read_unread _
      · iexact H2
    isplitl [H3]
    · iexists _; isplitr
      · ipureintro; exact harg5.read_unread _
      · iexact H3
    isplitl [H4]
    · iexists _; isplitr
      · ipureintro; exact harg6.read_unread _
      · iexact H4
    isplitl [H5]
    · iexists _; isplitr
      · ipureintro; exact harg7.read_unread _
      · iexact H5
    isplitl [H6]
    · iexists _; isplitr
      · ipureintro; exact harg8.read_unread _
      · iexact H6
    isplitl [H7]
    · iexists _; isplitr
      · ipureintro; exact harg9.read_unread _
      · iexact H7
    isplitl [H8]
    · iexists _; isplitr
      · ipureintro; exact harg10.read_unread _
      · iexact H8
    isplitl [H9]
    · iexists _; isplitr
      · ipureintro; exact harg11.read_unread _
      · iexact H9
    isplitl [H10]
    · iexists _; isplitr
      · ipureintro; exact harg12.read_unread _
      · iexact H10
    isplitl [H11]
    · iexists _; isplitr
      · ipureintro; exact harg13.read_unread _
      · iexact H11
    isplitl [H12]
    · iexists _; isplitr
      · ipureintro; exact harg14.read_unread _
      · iexact H12
    isplitl [H13]
    · iexists _; isplitr
      · ipureintro; exact harg15.read_unread _
      · iexact H13
    isplitl [H14]; · iexists _; iexact H14
    isplitl [HS0]
    · iexists _; iexact HS0
    isplitl [HS1]
    · iexists _; iexact HS1
    iexists _; iexact HS2

end Cert.KernelIdeal.Pf
-- ==== Proof.Ideal.BodyLater.lean ====
/-
  The run of the attention kernel's body at every grid point after the first.
-/
module

public import proofs.«01_k».proof.Proof.Ideal.Body

@[expose] public section

set_option maxRecDepth 16384

noncomputable section

namespace Cert.KernelIdeal.Pf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (Idealize.ShloMosaic.SparseCore.Cfg.HIx 1) (Elt F) ℕ UU ℕ

set_option maxHeartbeats 2000000 in
/-- The same at a later point: the scratch arrays are read, and stay as they were. -/
def bodyRun1 (c : Dev nD) (i : grid1.Coords)
    (arg2 : Memref sig .tc .vmem S1x256x256 .f32) (harg2 : arg2.IsWhole)
    (arg3 : Memref sig .tc .vmem S1x256x16 .f32) (harg3 : arg3.IsWhole)
    (arg4 : Memref sig .tc .vmem S1x16x256x16 .f32) (harg4 : arg4.IsWhole)
    (arg5 : Memref sig .tc .vmem S256x256 .f32) (harg5 : arg5.IsWhole)
    (arg6 : Memref sig .tc .vmem S256x256 .f32) (harg6 : arg6.IsWhole)
    (arg7 : Memref sig .tc .vmem S256x256 .f32) (harg7 : arg7.IsWhole)
    (arg8 : Memref sig .tc .vmem S32x256 .f32) (harg8 : arg8.IsWhole)
    (arg9 : Memref sig .tc .vmem S32x256 .f32) (harg9 : arg9.IsWhole)
    (arg10 : Memref sig .tc .vmem S16x16 .f32) (harg10 : arg10.IsWhole)
    (arg11 : Memref sig .tc .vmem S1x16 .f32) (harg11 : arg11.IsWhole)
    (arg12 : Memref sig .tc .vmem S1x256 .f32) (harg12 : arg12.IsWhole)
    (arg13 : Memref sig .tc .vmem S1x256 .f32) (harg13 : arg13.IsWhole)
    (arg14 : Memref sig .tc .vmem S1x256 .f32) (harg14 : arg14.IsWhole)
    (arg15 : Memref sig .tc .vmem S1x256 .f32) (harg15 : arg15.IsWhole)
    (arg16 : Memref sig .tc .vmem S1x256x256 .f32) (harg16 : arg16.IsWhole)
    (arg17 : Memref sig .tc .vmem S256x256 .f32) (harg17 : arg17.IsWhole)
    (arg18 : Memref sig .tc .vmem S32x256 .f32) (harg18 : arg18.IsWhole)
    (arg19 : Memref sig .tc .vmem S1x256 .f32) (harg19 : arg19.IsWhole)
    (hc0 : ¬atFirst i)
    (x0 : Vec F S1x256x256 .f32) (x1 : Vec F S1x256x16 .f32) (x2 : Vec F S1x16x256x16 .f32) (x3 : Vec F S256x256 .f32) (x4 : Vec F S256x256 .f32) (x5 : Vec F S256x256 .f32) (x6 : Vec F S32x256 .f32) (x7 : Vec F S32x256 .f32) (x8 : Vec F S16x16 .f32) (x9 : Vec F S1x16 .f32) (x10 : Vec F S1x256 .f32) (x11 : Vec F S1x256 .f32) (x12 : Vec F S1x256 .f32) (x13 : Vec F S1x256 .f32)
    (s0 : Vec F S256x256 .f32) (s1 : Vec F S32x256 .f32) (s2 : Vec F S1x256 .f32) :
    { L14 : List (View.Piece (Elt F) S1x256x256 .f32) //
      ∀ (E : Set ℕ) (Q : PUnit → sProp 𝕄),
      iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ owns (c : Thread nD τ) arg13 fullShare x11
          ∗ owns (c : Thread nD τ) arg14 fullShare x12
          ∗ owns (c : Thread nD τ) arg15 fullShare x13
          ∗ (∃ d, owns (c : Thread nD τ) arg16 fullShare d)
          ∗ owns (c : Thread nD τ) arg17 fullShare s0
          ∗ owns (c : Thread nD τ) arg18 fullShare s1
          ∗ owns (c : Thread nD τ) arg19 fullShare s2
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ owns (c : Thread nD τ) arg13 fullShare x11
          ∗ owns (c : Thread nD τ) arg14 fullShare x12
          ∗ owns (c : Thread nD τ) arg15 fullShare x13
          ∗ (∃ f, arg16.view.loc (c : Thread nD τ) ↦[arg16.view.set]{fullShare} arg16.view.writes (Elt F) f L14)
          ∗ owns (c : Thread nD τ) arg17 fullShare s0
          ∗ owns (c : Thread nD τ) arg18 fullShare s1
          ∗ owns (c : Thread nD τ) arg19 fullShare s2) -∗ Q ⟨⟩))
        ⊢ wp frame (wpE (defs₀ (F := F)) Variants.none c none) E (cc1__attn_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q } := by
  refine ⟨?_, fun E Q => ?run⟩
  case run =>
    simp only [cc1__attn_body_eq_skeleton]; unfold cc1__attn_body_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hfs0; obtain rfl := harg18.eq_unread hfs1; obtain rfl := harg19.eq_unread hfs2
    sl_exec (disch := first | sl_exact hc0)
    sl_step
    iapply Hk
    isplitl [H0]
    · iexists _; isplitr
      · ipureintro; exact harg2.read_unread _
      · iexact H0
    isplitl [H1]
    · iexists _; isplitr
      · ipureintro; exact harg3.read_unread _
      · iexact H1
    isplitl [H2]
    · iexists _; isplitr
      · ipureintro; exact harg4.read_unread _
      · iexact H2
    isplitl [H3]
    · iexists _; isplitr
      · ipureintro; exact harg5.read_unread _
      · iexact H3
    isplitl [H4]
    · iexists _; isplitr
      · ipureintro; exact harg6.read_unread _
      · iexact H4
    isplitl [H5]
    · iexists _; isplitr
      · ipureintro; exact harg7.read_unread _
      · iexact H5
    isplitl [H6]
    · iexists _; isplitr
      · ipureintro; exact harg8.read_unread _
      · iexact H6
    isplitl [H7]
    · iexists _; isplitr
      · ipureintro; exact harg9.read_unread _
      · iexact H7
    isplitl [H8]
    · iexists _; isplitr
      · ipureintro; exact harg10.read_unread _
      · iexact H8
    isplitl [H9]
    · iexists _; isplitr
      · ipureintro; exact harg11.read_unread _
      · iexact H9
    isplitl [H10]
    · iexists _; isplitr
      · ipureintro; exact harg12.read_unread _
      · iexact H10
    isplitl [H11]
    · iexists _; isplitr
      · ipureintro; exact harg13.read_unread _
      · iexact H11
    isplitl [H12]
    · iexists _; isplitr
      · ipureintro; exact harg14.read_unread _
      · iexact H12
    isplitl [H13]
    · iexists _; isplitr
      · ipureintro; exact harg15.read_unread _
      · iexact H13
    isplitl [H14]; · iexists _; iexact H14
    isplitl [HS0]
    · iexists _; isplitr
      · ipureintro; exact harg17.read_unread _
      · iexact HS0
    isplitl [HS1]
    · iexists _; isplitr
      · ipureintro; exact harg18.read_unread _
      · iexact HS1
    iexists _; isplitr
    · ipureintro; exact harg19.read_unread _
    · iexact HS2

end Cert.KernelIdeal.Pf
-- ==== Proof.Ideal.BodyVal.lean ====
/-
  The values the attention kernel's body leaves (`attnBlk` in the result's buffer, `afOf`, `ucOf`, `buOf` in the
  scratch arrays), and its two triples.
-/
module

public import proofs.«01_k».proof.Proof.Ideal.BodyLater

@[expose] public section

set_option maxRecDepth 16384

noncomputable section

namespace Cert.KernelIdeal.Pf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (Idealize.ShloMosaic.SparseCore.Cfg.HIx 1) (Elt F) ℕ UU ℕ

/-! The scratch arrays, read back after they were stored. -/

theorem ev7 (c : Dev nD) (M5 : Memref sig .tc .vmem S256x256 .f32) (h5 : M5.IsWhole) (M6 : Memref sig .tc .vmem S256x256 .f32) (h6 : M6.IsWhole) (M : Memref sig .tc .vmem S256x256 .f32) (x3 x4 : Vec F S256x256 .f32) :
    bodyRun0.sl.v7 c M5 h5 M6 h6 M x3 x4 = afOf x3 x4 := by
  unfold bodyRun0.sl.v7 bodyRun0.sl.HS0_1
  rw [rc_S256x256, rd_S256x256, rd_S256x256]
  rfl
theorem ev24 (c : Dev nD) (M5 : Memref sig .tc .vmem S256x256 .f32) (h5 : M5.IsWhole) (M6 : Memref sig .tc .vmem S32x256 .f32) (h6 : M6.IsWhole) (M : Memref sig .tc .vmem S32x256 .f32) (x4 : Vec F S256x256 .f32) (x6 : Vec F S32x256 .f32) :
    bodyRun0.sl.v24 c M5 h5 M6 h6 M x4 x6 = ucOf x4 x6 := by
  unfold bodyRun0.sl.v24 bodyRun0.sl.HS1_1
  rw [rc_S32x256, rd_S256x256, rd_S32x256]
  rfl
theorem ev9 (c : Dev nD) (M6 : Memref sig .tc .vmem S256x256 .f32) (h6 : M6.IsWhole) (M12 : Memref sig .tc .vmem S1x256 .f32) (h12 : M12.IsWhole) (M13 : Memref sig .tc .vmem S1x256 .f32) (h13 : M13.IsWhole) (M : Memref sig .tc .vmem S1x256 .f32) (x4 : Vec F S256x256 .f32) (x10 x11 : Vec F S1x256 .f32) :
    bodyRun0.sl.v9 c M6 h6 M12 h12 M13 h13 M x4 x10 x11 = buOf x4 x10 x11 := by
  unfold bodyRun0.sl.v9 bodyRun0.sl.HS2_1
  rw [rc_S1x256, rd_S256x256, rd_S1x256, rd_S1x256]
  rfl

theorem out_first (c : Dev nD) (i : grid1.Coords)
    (arg2 : Memref sig .tc .vmem S1x256x256 .f32) (harg2 : arg2.IsWhole)
    (arg3 : Memref sig .tc .vmem S1x256x16 .f32) (harg3 : arg3.IsWhole)
    (arg4 : Memref sig .tc .vmem S1x16x256x16 .f32) (harg4 : arg4.IsWhole)
    (arg5 : Memref sig .tc .vmem S256x256 .f32) (harg5 : arg5.IsWhole)
    (arg6 : Memref sig .tc .vmem S256x256 .f32) (harg6 : arg6.IsWhole)
    (arg7 : Memref sig .tc .vmem S256x256 .f32) (harg7 : arg7.IsWhole)
    (arg8 : Memref sig .tc .vmem S32x256 .f32) (harg8 : arg8.IsWhole)
    (arg9 : Memref sig .tc .vmem S32x256 .f32) (harg9 : arg9.IsWhole)
    (arg10 : Memref sig .tc .vmem S16x16 .f32) (harg10 : arg10.IsWhole)
    (arg11 : Memref sig .tc .vmem S1x16 .f32) (harg11 : arg11.IsWhole)
    (arg12 : Memref sig .tc .vmem S1x256 .f32) (harg12 : arg12.IsWhole)
    (arg13 : Memref sig .tc .vmem S1x256 .f32) (harg13 : arg13.IsWhole)
    (arg14 : Memref sig .tc .vmem S1x256 .f32) (harg14 : arg14.IsWhole)
    (arg15 : Memref sig .tc .vmem S1x256 .f32) (harg15 : arg15.IsWhole)
    (arg16 : Memref sig .tc .vmem S1x256x256 .f32) (harg16 : arg16.IsWhole)
    (arg17 : Memref sig .tc .vmem S256x256 .f32) (harg17 : arg17.IsWhole)
    (arg18 : Memref sig .tc .vmem S32x256 .f32) (harg18 : arg18.IsWhole)
    (arg19 : Memref sig .tc .vmem S1x256 .f32) (harg19 : arg19.IsWhole)
    (hc0 : atFirst i)
    (x0 : Vec F S1x256x256 .f32) (x1 : Vec F S1x256x16 .f32) (x2 : Vec F S1x16x256x16 .f32) (x3 : Vec F S256x256 .f32) (x4 : Vec F S256x256 .f32) (x5 : Vec F S256x256 .f32) (x6 : Vec F S32x256 .f32) (x7 : Vec F S32x256 .f32) (x8 : Vec F S16x16 .f32) (x9 : Vec F S1x16 .f32) (x10 : Vec F S1x256 .f32) (x11 : Vec F S1x256 .f32) (x12 : Vec F S1x256 .f32) (x13 : Vec F S1x256 .f32) :
    (bodyRun0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13).1 = [⟨Rect.unit (s := S1x256x256) ![0, 0, 0] S1x256x256.size inb_S1x256x256_S1x256x256_0_0_0, attnBlk x0 x1 x2 x5 x7 x8 x9 x12 x13 (afOf x3 x4) (ucOf x4 x6) (buOf x4 x10 x11)⟩] := by
  unfold bodyRun0; dsimp only
  simp only [bodyRun0.sl.r, bodyRun0.sl.r_1, bodyRun0.sl.r_2, bodyRun0.sl.r_3, bodyRun0.sl.r_4, bodyRun0.sl.r_5, bodyRun0.sl.r_6, bodyRun0.sl.r_7, bodyRun0.sl.r_8, bodyRun0.sl.r_9, bodyRun0.sl.r_10, bodyRun0.sl.r_11, bodyRun0.sl.r_12, bodyRun0.sl.r_13, bodyRun0.sl.r_14, bodyRun0.sl.r_15, bodyRun0.sl.r_16, bodyRun0.sl.r_17, bodyRun0.sl.r_18, bodyRun0.sl.r_19, bodyRun0.sl.r_20, bodyRun0.sl.r_21, bodyRun0.sl.r_22, bodyRun0.sl.r_23, bodyRun0.sl.r_24, bodyRun0.sl.r_25, bodyRun0.sl.r_26, bodyRun0.sl.r_27, bodyRun0.sl.r_28, bodyRun0.sl.r_29, bodyRun0.sl.r_30, bodyRun0.sl.r_31, bodyRun0.sl.r_32, bodyRun0.sl.r_33, bodyRun0.sl.r_34, bodyRun0.sl.r_35, bodyRun0.sl.r_36, bodyRun0.sl.r_37, bodyRun0.sl.r_38, bodyRun0.sl.cst_75, ev7, ev9, ev24, ↓rd_S1x256x256, ↓rd_S1x256x16, ↓rd_S256x256, ↓rd_S32x256, ↓rd_S16x16, ↓rd_S1x16, ↓rd_S1x256, ↓readAt_nbr, step_1, step_18, step_21, step_24, step_27, step_29, step_33, step_34, step_37, step_40, step_43, attnBlk, nbrStep, finRange16, List.foldl_cons, List.foldl_nil]
  rfl

theorem scr0_first (c : Dev nD) (i : grid1.Coords)
    (arg2 : Memref sig .tc .vmem S1x256x256 .f32) (harg2 : arg2.IsWhole)
    (arg3 : Memref sig .tc .vmem S1x256x16 .f32) (harg3 : arg3.IsWhole)
    (arg4 : Memref sig .tc .vmem S1x16x256x16 .f32) (harg4 : arg4.IsWhole)
    (arg5 : Memref sig .tc .vmem S256x256 .f32) (harg5 : arg5.IsWhole)
    (arg6 : Memref sig .tc .vmem S256x256 .f32) (harg6 : arg6.IsWhole)
    (arg7 : Memref sig .tc .vmem S256x256 .f32) (harg7 : arg7.IsWhole)
    (arg8 : Memref sig .tc .vmem S32x256 .f32) (harg8 : arg8.IsWhole)
    (arg9 : Memref sig .tc .vmem S32x256 .f32) (harg9 : arg9.IsWhole)
    (arg10 : Memref sig .tc .vmem S16x16 .f32) (harg10 : arg10.IsWhole)
    (arg11 : Memref sig .tc .vmem S1x16 .f32) (harg11 : arg11.IsWhole)
    (arg12 : Memref sig .tc .vmem S1x256 .f32) (harg12 : arg12.IsWhole)
    (arg13 : Memref sig .tc .vmem S1x256 .f32) (harg13 : arg13.IsWhole)
    (arg14 : Memref sig .tc .vmem S1x256 .f32) (harg14 : arg14.IsWhole)
    (arg15 : Memref sig .tc .vmem S1x256 .f32) (harg15 : arg15.IsWhole)
    (arg16 : Memref sig .tc .vmem S1x256x256 .f32) (harg16 : arg16.IsWhole)
    (arg17 : Memref sig .tc .vmem S256x256 .f32) (harg17 : arg17.IsWhole)
    (arg18 : Memref sig .tc .vmem S32x256 .f32) (harg18 : arg18.IsWhole)
    (arg19 : Memref sig .tc .vmem S1x256 .f32) (harg19 : arg19.IsWhole)
    (hc0 : atFirst i)
    (x0 : Vec F S1x256x256 .f32) (x1 : Vec F S1x256x16 .f32) (x2 : Vec F S1x16x256x16 .f32) (x3 : Vec F S256x256 .f32) (x4 : Vec F S256x256 .f32) (x5 : Vec F S256x256 .f32) (x6 : Vec F S32x256 .f32) (x7 : Vec F S32x256 .f32) (x8 : Vec F S16x16 .f32) (x9 : Vec F S1x16 .f32) (x10 : Vec F S1x256 .f32) (x11 : Vec F S1x256 .f32) (x12 : Vec F S1x256 .f32) (x13 : Vec F S1x256 .f32) :
    (bodyRun0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13).2.1 = [⟨Rect.unit (s := S256x256) ![0, 0] S256x256.size inb_S256x256_S256x256_0_0, afOf x3 x4⟩] := by
  unfold bodyRun0; dsimp only
  unfold bodyRun0.sl.HS0_1
  rw [rd_S256x256, rd_S256x256]
  rfl

theorem scr1_first (c : Dev nD) (i : grid1.Coords)
    (arg2 : Memref sig .tc .vmem S1x256x256 .f32) (harg2 : arg2.IsWhole)
    (arg3 : Memref sig .tc .vmem S1x256x16 .f32) (harg3 : arg3.IsWhole)
    (arg4 : Memref sig .tc .vmem S1x16x256x16 .f32) (harg4 : arg4.IsWhole)
    (arg5 : Memref sig .tc .vmem S256x256 .f32) (harg5 : arg5.IsWhole)
    (arg6 : Memref sig .tc .vmem S256x256 .f32) (harg6 : arg6.IsWhole)
    (arg7 : Memref sig .tc .vmem S256x256 .f32) (harg7 : arg7.IsWhole)
    (arg8 : Memref sig .tc .vmem S32x256 .f32) (harg8 : arg8.IsWhole)
    (arg9 : Memref sig .tc .vmem S32x256 .f32) (harg9 : arg9.IsWhole)
    (arg10 : Memref sig .tc .vmem S16x16 .f32) (harg10 : arg10.IsWhole)
    (arg11 : Memref sig .tc .vmem S1x16 .f32) (harg11 : arg11.IsWhole)
    (arg12 : Memref sig .tc .vmem S1x256 .f32) (harg12 : arg12.IsWhole)
    (arg13 : Memref sig .tc .vmem S1x256 .f32) (harg13 : arg13.IsWhole)
    (arg14 : Memref sig .tc .vmem S1x256 .f32) (harg14 : arg14.IsWhole)
    (arg15 : Memref sig .tc .vmem S1x256 .f32) (harg15 : arg15.IsWhole)
    (arg16 : Memref sig .tc .vmem S1x256x256 .f32) (harg16 : arg16.IsWhole)
    (arg17 : Memref sig .tc .vmem S256x256 .f32) (harg17 : arg17.IsWhole)
    (arg18 : Memref sig .tc .vmem S32x256 .f32) (harg18 : arg18.IsWhole)
    (arg19 : Memref sig .tc .vmem S1x256 .f32) (harg19 : arg19.IsWhole)
    (hc0 : atFirst i)
    (x0 : Vec F S1x256x256 .f32) (x1 : Vec F S1x256x16 .f32) (x2 : Vec F S1x16x256x16 .f32) (x3 : Vec F S256x256 .f32) (x4 : Vec F S256x256 .f32) (x5 : Vec F S256x256 .f32) (x6 : Vec F S32x256 .f32) (x7 : Vec F S32x256 .f32) (x8 : Vec F S16x16 .f32) (x9 : Vec F S1x16 .f32) (x10 : Vec F S1x256 .f32) (x11 : Vec F S1x256 .f32) (x12 : Vec F S1x256 .f32) (x13 : Vec F S1x256 .f32) :
    (bodyRun0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13).2.2.1 = [⟨Rect.unit (s := S32x256) ![0, 0] S32x256.size inb_S32x256_S32x256_0_0, ucOf x4 x6⟩] := by
  unfold bodyRun0; dsimp only
  unfold bodyRun0.sl.HS1_1
  rw [rd_S256x256, rd_S32x256]
  rfl

theorem scr2_first (c : Dev nD) (i : grid1.Coords)
    (arg2 : Memref sig .tc .vmem S1x256x256 .f32) (harg2 : arg2.IsWhole)
    (arg3 : Memref sig .tc .vmem S1x256x16 .f32) (harg3 : arg3.IsWhole)
    (arg4 : Memref sig .tc .vmem S1x16x256x16 .f32) (harg4 : arg4.IsWhole)
    (arg5 : Memref sig .tc .vmem S256x256 .f32) (harg5 : arg5.IsWhole)
    (arg6 : Memref sig .tc .vmem S256x256 .f32) (harg6 : arg6.IsWhole)
    (arg7 : Memref sig .tc .vmem S256x256 .f32) (harg7 : arg7.IsWhole)
    (arg8 : Memref sig .tc .vmem S32x256 .f32) (harg8 : arg8.IsWhole)
    (arg9 : Memref sig .tc .vmem S32x256 .f32) (harg9 : arg9.IsWhole)
    (arg10 : Memref sig .tc .vmem S16x16 .f32) (harg10 : arg10.IsWhole)
    (arg11 : Memref sig .tc .vmem S1x16 .f32) (harg11 : arg11.IsWhole)
    (arg12 : Memref sig .tc .vmem S1x256 .f32) (harg12 : arg12.IsWhole)
    (arg13 : Memref sig .tc .vmem S1x256 .f32) (harg13 : arg13.IsWhole)
    (arg14 : Memref sig .tc .vmem S1x256 .f32) (harg14 : arg14.IsWhole)
    (arg15 : Memref sig .tc .vmem S1x256 .f32) (harg15 : arg15.IsWhole)
    (arg16 : Memref sig .tc .vmem S1x256x256 .f32) (harg16 : arg16.IsWhole)
    (arg17 : Memref sig .tc .vmem S256x256 .f32) (harg17 : arg17.IsWhole)
    (arg18 : Memref sig .tc .vmem S32x256 .f32) (harg18 : arg18.IsWhole)
    (arg19 : Memref sig .tc .vmem S1x256 .f32) (harg19 : arg19.IsWhole)
    (hc0 : atFirst i)
    (x0 : Vec F S1x256x256 .f32) (x1 : Vec F S1x256x16 .f32) (x2 : Vec F S1x16x256x16 .f32) (x3 : Vec F S256x256 .f32) (x4 : Vec F S256x256 .f32) (x5 : Vec F S256x256 .f32) (x6 : Vec F S32x256 .f32) (x7 : Vec F S32x256 .f32) (x8 : Vec F S16x16 .f32) (x9 : Vec F S1x16 .f32) (x10 : Vec F S1x256 .f32) (x11 : Vec F S1x256 .f32) (x12 : Vec F S1x256 .f32) (x13 : Vec F S1x256 .f32) :
    (bodyRun0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13).2.2.2.1 = [⟨Rect.unit (s := S1x256) ![0, 0] S1x256.size inb_S1x256_S1x256_0_0, buOf x4 x10 x11⟩] := by
  unfold bodyRun0; dsimp only
  unfold bodyRun0.sl.HS2_1
  rw [rd_S256x256, rd_S1x256, rd_S1x256]
  rfl

theorem out_later (c : Dev nD) (i : grid1.Coords)
    (arg2 : Memref sig .tc .vmem S1x256x256 .f32) (harg2 : arg2.IsWhole)
    (arg3 : Memref sig .tc .vmem S1x256x16 .f32) (harg3 : arg3.IsWhole)
    (arg4 : Memref sig .tc .vmem S1x16x256x16 .f32) (harg4 : arg4.IsWhole)
    (arg5 : Memref sig .tc .vmem S256x256 .f32) (harg5 : arg5.IsWhole)
    (arg6 : Memref sig .tc .vmem S256x256 .f32) (harg6 : arg6.IsWhole)
    (arg7 : Memref sig .tc .vmem S256x256 .f32) (harg7 : arg7.IsWhole)
    (arg8 : Memref sig .tc .vmem S32x256 .f32) (harg8 : arg8.IsWhole)
    (arg9 : Memref sig .tc .vmem S32x256 .f32) (harg9 : arg9.IsWhole)
    (arg10 : Memref sig .tc .vmem S16x16 .f32) (harg10 : arg10.IsWhole)
    (arg11 : Memref sig .tc .vmem S1x16 .f32) (harg11 : arg11.IsWhole)
    (arg12 : Memref sig .tc .vmem S1x256 .f32) (harg12 : arg12.IsWhole)
    (arg13 : Memref sig .tc .vmem S1x256 .f32) (harg13 : arg13.IsWhole)
    (arg14 : Memref sig .tc .vmem S1x256 .f32) (harg14 : arg14.IsWhole)
    (arg15 : Memref sig .tc .vmem S1x256 .f32) (harg15 : arg15.IsWhole)
    (arg16 : Memref sig .tc .vmem S1x256x256 .f32) (harg16 : arg16.IsWhole)
    (arg17 : Memref sig .tc .vmem S256x256 .f32) (harg17 : arg17.IsWhole)
    (arg18 : Memref sig .tc .vmem S32x256 .f32) (harg18 : arg18.IsWhole)
    (arg19 : Memref sig .tc .vmem S1x256 .f32) (harg19 : arg19.IsWhole)
    (hc0 : ¬atFirst i)
    (x0 : Vec F S1x256x256 .f32) (x1 : Vec F S1x256x16 .f32) (x2 : Vec F S1x16x256x16 .f32) (x3 : Vec F S256x256 .f32) (x4 : Vec F S256x256 .f32) (x5 : Vec F S256x256 .f32) (x6 : Vec F S32x256 .f32) (x7 : Vec F S32x256 .f32) (x8 : Vec F S16x16 .f32) (x9 : Vec F S1x16 .f32) (x10 : Vec F S1x256 .f32) (x11 : Vec F S1x256 .f32) (x12 : Vec F S1x256 .f32) (x13 : Vec F S1x256 .f32)
    (s0 : Vec F S256x256 .f32) (s1 : Vec F S32x256 .f32) (s2 : Vec F S1x256 .f32) :
    (bodyRun1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 s0 s1 s2).1 = [⟨Rect.unit (s := S1x256x256) ![0, 0, 0] S1x256x256.size inb_S1x256x256_S1x256x256_0_0_0, attnBlk x0 x1 x2 x5 x7 x8 x9 x12 x13 s0 s1 s2⟩] := by
  unfold bodyRun1; dsimp only
  simp only [bodyRun1.sl.r, bodyRun1.sl.r_1, bodyRun1.sl.r_2, bodyRun1.sl.r_3, bodyRun1.sl.r_4, bodyRun1.sl.r_5, bodyRun1.sl.r_6, bodyRun1.sl.r_7, bodyRun1.sl.r_8, bodyRun1.sl.r_9, bodyRun1.sl.r_10, bodyRun1.sl.r_11, bodyRun1.sl.r_12, bodyRun1.sl.r_13, bodyRun1.sl.r_14, bodyRun1.sl.r_15, bodyRun1.sl.r_16, bodyRun1.sl.r_17, bodyRun1.sl.r_18, bodyRun1.sl.r_19, bodyRun1.sl.r_20, bodyRun1.sl.r_21, bodyRun1.sl.r_22, bodyRun1.sl.r_23, bodyRun1.sl.r_24, bodyRun1.sl.r_25, bodyRun1.sl.r_26, bodyRun1.sl.r_27, bodyRun1.sl.r_28, bodyRun1.sl.r_29, bodyRun1.sl.r_30, bodyRun1.sl.r_31, bodyRun1.sl.r_32, bodyRun1.sl.r_33, bodyRun1.sl.r_34, bodyRun1.sl.r_35, bodyRun1.sl.r_36, bodyRun1.sl.r_37, bodyRun1.sl.r_38, bodyRun1.sl.cst_75, bodyRun1.sl.r_39, ↓rd_S1x256x256, ↓rd_S1x256x16, ↓rd_S256x256, ↓rd_S32x256, ↓rd_S16x16, ↓rd_S1x16, ↓rd_S1x256, ↓readAt_nbr, step_1, step_18, step_21, step_24, step_27, step_29, step_33, step_34, step_37, step_40, step_43, attnBlk, nbrStep, finRange16, List.foldl_cons, List.foldl_nil]
  rfl

/-- The first point: the scratch arrays are made, and one block is stored. -/
theorem body_first (c : Dev nD) (i : grid1.Coords)
    (arg2 : Memref sig .tc .vmem S1x256x256 .f32) (harg2 : arg2.IsWhole)
    (arg3 : Memref sig .tc .vmem S1x256x16 .f32) (harg3 : arg3.IsWhole)
    (arg4 : Memref sig .tc .vmem S1x16x256x16 .f32) (harg4 : arg4.IsWhole)
    (arg5 : Memref sig .tc .vmem S256x256 .f32) (harg5 : arg5.IsWhole)
    (arg6 : Memref sig .tc .vmem S256x256 .f32) (harg6 : arg6.IsWhole)
    (arg7 : Memref sig .tc .vmem S256x256 .f32) (harg7 : arg7.IsWhole)
    (arg8 : Memref sig .tc .vmem S32x256 .f32) (harg8 : arg8.IsWhole)
    (arg9 : Memref sig .tc .vmem S32x256 .f32) (harg9 : arg9.IsWhole)
    (arg10 : Memref sig .tc .vmem S16x16 .f32) (harg10 : arg10.IsWhole)
    (arg11 : Memref sig .tc .vmem S1x16 .f32) (harg11 : arg11.IsWhole)
    (arg12 : Memref sig .tc .vmem S1x256 .f32) (harg12 : arg12.IsWhole)
    (arg13 : Memref sig .tc .vmem S1x256 .f32) (harg13 : arg13.IsWhole)
    (arg14 : Memref sig .tc .vmem S1x256 .f32) (harg14 : arg14.IsWhole)
    (arg15 : Memref sig .tc .vmem S1x256 .f32) (harg15 : arg15.IsWhole)
    (arg16 : Memref sig .tc .vmem S1x256x256 .f32) (harg16 : arg16.IsWhole)
    (arg17 : Memref sig .tc .vmem S256x256 .f32) (harg17 : arg17.IsWhole)
    (arg18 : Memref sig .tc .vmem S32x256 .f32) (harg18 : arg18.IsWhole)
    (arg19 : Memref sig .tc .vmem S1x256 .f32) (harg19 : arg19.IsWhole)
    (hc0 : atFirst i)
    (x0 : Vec F S1x256x256 .f32) (x1 : Vec F S1x256x16 .f32) (x2 : Vec F S1x16x256x16 .f32) (x3 : Vec F S256x256 .f32) (x4 : Vec F S256x256 .f32) (x5 : Vec F S256x256 .f32) (x6 : Vec F S32x256 .f32) (x7 : Vec F S32x256 .f32) (x8 : Vec F S16x16 .f32) (x9 : Vec F S1x16 .f32) (x10 : Vec F S1x256 .f32) (x11 : Vec F S1x256 .f32) (x12 : Vec F S1x256 .f32) (x13 : Vec F S1x256 .f32) (E : Set ℕ) (Q : PUnit → sProp 𝕄) :
    iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ owns (c : Thread nD τ) arg13 fullShare x11
          ∗ owns (c : Thread nD τ) arg14 fullShare x12
          ∗ owns (c : Thread nD τ) arg15 fullShare x13
          ∗ (∃ d, owns (c : Thread nD τ) arg16 fullShare d)
          ∗ (∃ d, owns (c : Thread nD τ) arg17 fullShare d) ∗ (∃ d, owns (c : Thread nD τ) arg18 fullShare d) ∗ (∃ d, owns (c : Thread nD τ) arg19 fullShare d)
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ owns (c : Thread nD τ) arg13 fullShare x11
          ∗ owns (c : Thread nD τ) arg14 fullShare x12
          ∗ owns (c : Thread nD τ) arg15 fullShare x13
          ∗ owns (c : Thread nD τ) arg16 fullShare (attnBlk x0 x1 x2 x5 x7 x8 x9 x12 x13 (afOf x3 x4) (ucOf x4 x6) (buOf x4 x10 x11))
          ∗ owns (c : Thread nD τ) arg17 fullShare (afOf x3 x4)
          ∗ owns (c : Thread nD τ) arg18 fullShare (ucOf x4 x6)
          ∗ owns (c : Thread nD τ) arg19 fullShare (buOf x4 x10 x11)) -∗ Q ⟨⟩))
      ⊢ wp frame (wpE (defs₀ (F := F)) Variants.none c none) E (cc1__attn_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  iintro ⟨H0, H1, H2, H3, H4, H5, H6, H7, H8, H9, H10, H11, H12, H13, H14, HS0, HS1, HS2, Hk⟩
  iapply ((bodyRun0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13).2.2.2.2 E Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  iintro ⟨H0, H1, H2, H3, H4, H5, H6, H7, H8, H9, H10, H11, H12, H13, H14, HS0, HS1, HS2⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (own_S1x256x256 c arg16 _ inb_S1x256x256_S1x256x256_0_0_0 (out_first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13)); iexact H14
  isplitl [HS0]; · iapply (own_S256x256 c arg17 _ inb_S256x256_S256x256_0_0 (scr0_first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13)); iexact HS0
  isplitl [HS1]; · iapply (own_S32x256 c arg18 _ inb_S32x256_S32x256_0_0 (scr1_first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13)); iexact HS1
  iapply (own_S1x256 c arg19 _ inb_S1x256_S1x256_0_0 (scr2_first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13)); iexact HS2

/-- A later point: the scratch arrays are read as the first point left them, and one block is stored. -/
theorem body_later (c : Dev nD) (i : grid1.Coords)
    (arg2 : Memref sig .tc .vmem S1x256x256 .f32) (harg2 : arg2.IsWhole)
    (arg3 : Memref sig .tc .vmem S1x256x16 .f32) (harg3 : arg3.IsWhole)
    (arg4 : Memref sig .tc .vmem S1x16x256x16 .f32) (harg4 : arg4.IsWhole)
    (arg5 : Memref sig .tc .vmem S256x256 .f32) (harg5 : arg5.IsWhole)
    (arg6 : Memref sig .tc .vmem S256x256 .f32) (harg6 : arg6.IsWhole)
    (arg7 : Memref sig .tc .vmem S256x256 .f32) (harg7 : arg7.IsWhole)
    (arg8 : Memref sig .tc .vmem S32x256 .f32) (harg8 : arg8.IsWhole)
    (arg9 : Memref sig .tc .vmem S32x256 .f32) (harg9 : arg9.IsWhole)
    (arg10 : Memref sig .tc .vmem S16x16 .f32) (harg10 : arg10.IsWhole)
    (arg11 : Memref sig .tc .vmem S1x16 .f32) (harg11 : arg11.IsWhole)
    (arg12 : Memref sig .tc .vmem S1x256 .f32) (harg12 : arg12.IsWhole)
    (arg13 : Memref sig .tc .vmem S1x256 .f32) (harg13 : arg13.IsWhole)
    (arg14 : Memref sig .tc .vmem S1x256 .f32) (harg14 : arg14.IsWhole)
    (arg15 : Memref sig .tc .vmem S1x256 .f32) (harg15 : arg15.IsWhole)
    (arg16 : Memref sig .tc .vmem S1x256x256 .f32) (harg16 : arg16.IsWhole)
    (arg17 : Memref sig .tc .vmem S256x256 .f32) (harg17 : arg17.IsWhole)
    (arg18 : Memref sig .tc .vmem S32x256 .f32) (harg18 : arg18.IsWhole)
    (arg19 : Memref sig .tc .vmem S1x256 .f32) (harg19 : arg19.IsWhole)
    (hc0 : ¬atFirst i)
    (x0 : Vec F S1x256x256 .f32) (x1 : Vec F S1x256x16 .f32) (x2 : Vec F S1x16x256x16 .f32) (x3 : Vec F S256x256 .f32) (x4 : Vec F S256x256 .f32) (x5 : Vec F S256x256 .f32) (x6 : Vec F S32x256 .f32) (x7 : Vec F S32x256 .f32) (x8 : Vec F S16x16 .f32) (x9 : Vec F S1x16 .f32) (x10 : Vec F S1x256 .f32) (x11 : Vec F S1x256 .f32) (x12 : Vec F S1x256 .f32) (x13 : Vec F S1x256 .f32) (E : Set ℕ) (Q : PUnit → sProp 𝕄) :
    iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ owns (c : Thread nD τ) arg13 fullShare x11
          ∗ owns (c : Thread nD τ) arg14 fullShare x12
          ∗ owns (c : Thread nD τ) arg15 fullShare x13
          ∗ (∃ d, owns (c : Thread nD τ) arg16 fullShare d)
          ∗ owns (c : Thread nD τ) arg17 fullShare (afOf x3 x4)
          ∗ owns (c : Thread nD τ) arg18 fullShare (ucOf x4 x6)
          ∗ owns (c : Thread nD τ) arg19 fullShare (buOf x4 x10 x11)
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ owns (c : Thread nD τ) arg13 fullShare x11
          ∗ owns (c : Thread nD τ) arg14 fullShare x12
          ∗ owns (c : Thread nD τ) arg15 fullShare x13
          ∗ owns (c : Thread nD τ) arg16 fullShare (attnBlk x0 x1 x2 x5 x7 x8 x9 x12 x13 (afOf x3 x4) (ucOf x4 x6) (buOf x4 x10 x11))
          ∗ owns (c : Thread nD τ) arg17 fullShare (afOf x3 x4)
          ∗ owns (c : Thread nD τ) arg18 fullShare (ucOf x4 x6)
          ∗ owns (c : Thread nD τ) arg19 fullShare (buOf x4 x10 x11)) -∗ Q ⟨⟩))
      ⊢ wp frame (wpE (defs₀ (F := F)) Variants.none c none) E (cc1__attn_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  iintro ⟨H0, H1, H2, H3, H4, H5, H6, H7, H8, H9, H10, H11, H12, H13, H14, HS0, HS1, HS2, Hk⟩
  iapply ((bodyRun1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 (afOf x3 x4) (ucOf x4 x6) (buOf x4 x10 x11)).2 E Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  iintro ⟨H0, H1, H2, H3, H4, H5, H6, H7, H8, H9, H10, H11, H12, H13, H14, HS0, HS1, HS2⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (own_S1x256x256 c arg16 _ inb_S1x256x256_S1x256x256_0_0_0 (out_later c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 (afOf x3 x4) (ucOf x4 x6) (buOf x4 x10 x11))); iexact H14
  isplitl [HS0]; · iexact HS0
  isplitl [HS1]; · iexact HS1
  iexact HS2

end Cert.KernelIdeal.Pf
-- ==== Proof.Ideal.AttnDat.lean ====
/-
  The attention kernel as a pipeline over its 32 grid points: what every staging buffer and the scratch hold before
  and after each point, and the result array, entry by entry.
-/
module

public import proofs.«01_k».proof.Proof.Ideal.BodyBase

@[expose] public section

set_option maxRecDepth 16384

noncomputable section

namespace Cert.KernelIdeal.Pf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open Idealize.ShloMosaic.SparseCore.Cfg (HIx)

variable {F : FTy → Type} [FloatOps F]

local notation "𝕄" => MT nD τ sig (HIx 1) (Elt F) ℕ UU ℕ

variable (V : (c : Dev nD) → (b : Ref sig .tc) → Buf (Elt F) ((c : Thread nD τ).loc b))

/-! ## The windows' blocks -/

/-- Window `w`'s block at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem idx2 {n0 n1 : ℕ} {p q : (⟨2, ![n0, n1]⟩ : Shape).Idx} (h0 : (p 0).val = 0 * n0 + 1 * (q 0).val) (h1 : (p 1).val = 0 * n1 + 1 * (q 1).val) : p = q :=
  funext fun a => Fin.ext (match a with
    | ⟨0, _⟩ => h0.trans (by rw [Nat.zero_mul, Nat.zero_add, Nat.one_mul]; rfl)
    | ⟨1, _⟩ => h1.trans (by rw [Nat.zero_mul, Nat.zero_add, Nat.one_mul]; rfl))

/-! The weights' windows are their whole arrays, at every point. -/

theorem iblk_3 (c : Dev nD) (t : Fin cfg1.N) : iblk V c 3 t = V c main_v42 := funext fun j => congrArg (V c main_v42) (idx2 rfl rfl)
theorem iblk_4 (c : Dev nD) (t : Fin cfg1.N) : iblk V c 4 t = V c main_v43 := funext fun j => congrArg (V c main_v43) (idx2 rfl rfl)
theorem iblk_5 (c : Dev nD) (t : Fin cfg1.N) : iblk V c 5 t = V c main_v44 := funext fun j => congrArg (V c main_v44) (idx2 rfl rfl)
theorem iblk_6 (c : Dev nD) (t : Fin cfg1.N) : iblk V c 6 t = V c main_v16 := funext fun j => congrArg (V c main_v16) (idx2 rfl rfl)
theorem iblk_7 (c : Dev nD) (t : Fin cfg1.N) : iblk V c 7 t = V c main_v25 := funext fun j => congrArg (V c main_v25) (idx2 rfl rfl)
theorem iblk_8 (c : Dev nD) (t : Fin cfg1.N) : iblk V c 8 t = V c main_v31 := funext fun j => congrArg (V c main_v31) (idx2 rfl rfl)
theorem iblk_9 (c : Dev nD) (t : Fin cfg1.N) : iblk V c 9 t = V c main_v36 := funext fun j => congrArg (V c main_v36) (idx2 rfl rfl)
theorem iblk_10 (c : Dev nD) (t : Fin cfg1.N) : iblk V c 10 t = V c main_v39 := funext fun j => congrArg (V c main_v39) (idx2 rfl rfl)
theorem iblk_11 (c : Dev nD) (t : Fin cfg1.N) : iblk V c 11 t = V c main_v45 := funext fun j => congrArg (V c main_v45) (idx2 rfl rfl)
theorem iblk_12 (c : Dev nD) (t : Fin cfg1.N) : iblk V c 12 t = V c main_v46 := funext fun j => congrArg (V c main_v46) (idx2 rfl rfl)
theorem iblk_13 (c : Dev nD) (t : Fin cfg1.N) : iblk V c 13 t = V c main_v41 := funext fun j => congrArg (V c main_v41) (idx2 rfl rfl)

/-- The scratch as the first point leaves it. -/
def AF (c : Dev nD) : Vec F S256x256 .f32 := afOf (V c main_v42) (V c main_v43)
def UC (c : Dev nD) : Vec F S32x256 .f32 := ucOf (V c main_v43) (V c main_v16)
def BU (c : Dev nD) : Vec F S1x256 .f32 := buOf (V c main_v43) (V c main_v39) (V c main_v45)

/-- The block point `t` stores. -/
def oblk (c : Dev nD) (t : Fin cfg1.N) : Vec F S1x256x256 .f32 :=
  attnBlk (iblk V c 0 t) (iblk V c 1 t) (iblk V c 2 t) (V c main_v44) (V c main_v25) (V c main_v31) (V c main_v36) (V c main_v46) (V c main_v41)
    (AF V c) (UC V c) (BU V c)

abbrev scr0 : Memref sig .tc .vmem S256x256 .f32 := Memref.whole cc1_scratch0
abbrev scr1 : Memref sig .tc .vmem S32x256 .f32 := Memref.whole cc1_scratch1
abbrev scr2 : Memref sig .tc .vmem S1x256 .f32 := Memref.whole cc1_scratch2

/-- What the kernel keeps between points: nothing before the first, then the scratch as the first point left it. -/
def keep (c : Dev nD) : ℕ → sProp 𝕄
  | 0 => iprop((∃ d, owns (c : Thread nD τ) scr0 fullShare d) ∗ (∃ d, owns (c : Thread nD τ) scr1 fullShare d) ∗ (∃ d, owns (c : Thread nD τ) scr2 fullShare d))
  | _ + 1 => iprop(owns (c : Thread nD τ) scr0 fullShare (AF V c) ∗ owns (c : Thread nD τ) scr1 fullShare (UC V c) ∗ owns (c : Thread nD τ) scr2 fullShare (BU V c))

theorem keep_zero (c : Dev nD) : (Pipeline.scopedRest spec1 c : sProp 𝕄) = keep V c 0 := by
  rw [scopedRest1_eq]; simp only [keep, scr0, scr1, scr2, owns_whole]; try rfl

theorem keep_pos (c : Dev nD) (n : ℕ) (h : n ≠ 0) : keep V c n = iprop(owns (c : Thread nD τ) scr0 fullShare (AF V c) ∗ owns (c : Thread nD τ) scr1 fullShare (UC V c) ∗ owns (c : Thread nD τ) scr2 fullShare (BU V c)) := by
  cases n with
  | zero => exact absurd rfl h
  | succ n => rfl

/-- The pipeline's proof data, from the arrays' contents `V`. -/
def dat (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => oblk V c t
  Φ t := keep V c t.val
  q _ := fullShare
  owed _ := 0
  recorded _ := {p | (K (F := F)).lev (SparseCore.T c, p.1) p.2 ≤ 8}

theorem dat_A (c : Dev nD) (w : Fin cfg1.W) : (dat V c).A w = V c (Pipeline.arrRef spec1 w) := by dsimp only [dat]

/-! An input's staging buffer holds its block at every point: the body leaves the block where it was fetched. -/

theorem after_0 (c : Dev nD) (t : Fin cfg1.N) : (dat V c).after 0 t = iblk V c 0 t := by dsimp only [dat]
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [dat_A]; try rfl) t d).trans
    (by unfold Dat.fetched Dat.blockOf iblk; rw [dat_A]; try rfl)
theorem after_1 (c : Dev nD) (t : Fin cfg1.N) : (dat V c).after 1 t = iblk V c 1 t := by dsimp only [dat]
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [dat_A]; try rfl) t d).trans
    (by unfold Dat.fetched Dat.blockOf iblk; rw [dat_A]; try rfl)
theorem after_2 (c : Dev nD) (t : Fin cfg1.N) : (dat V c).after 2 t = iblk V c 2 t := by dsimp only [dat]
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [dat_A]; try rfl) t d).trans
    (by unfold Dat.fetched Dat.blockOf iblk; rw [dat_A]; try rfl)
theorem after_3 (c : Dev nD) (t : Fin cfg1.N) : (dat V c).after 3 t = iblk V c 3 t := by dsimp only [dat]
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [dat_A]; try rfl) t d).trans
    (by unfold Dat.fetched Dat.blockOf iblk; rw [dat_A]; try rfl)
theorem after_4 (c : Dev nD) (t : Fin cfg1.N) : (dat V c).after 4 t = iblk V c 4 t := by dsimp only [dat]
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [dat_A]; try rfl) t d).trans
    (by unfold Dat.fetched Dat.blockOf iblk; rw [dat_A]; try rfl)
theorem after_5 (c : Dev nD) (t : Fin cfg1.N) : (dat V c).after 5 t = iblk V c 5 t := by dsimp only [dat]
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [dat_A]; try rfl) t d).trans
    (by unfold Dat.fetched Dat.blockOf iblk; rw [dat_A]; try rfl)
theorem after_6 (c : Dev nD) (t : Fin cfg1.N) : (dat V c).after 6 t = iblk V c 6 t := by dsimp only [dat]
theorem before_6 (c : Dev nD) (t : Fin cfg1.N) (d) : (dat V c).before 6 t d = iblk V c 6 t :=
  ((dat V c).before_in_eq_fetched 6 rfl (fun _ => rfl) (fun _ _ _ => rfl) (fun t => by rw [after_6]; unfold Dat.blockOf iblk; rw [dat_A]; try rfl) t d).trans
    (by unfold Dat.fetched Dat.blockOf iblk; rw [dat_A]; try rfl)
theorem after_7 (c : Dev nD) (t : Fin cfg1.N) : (dat V c).after 7 t = iblk V c 7 t := by dsimp only [dat]
theorem before_7 (c : Dev nD) (t : Fin cfg1.N) (d) : (dat V c).before 7 t d = iblk V c 7 t :=
  ((dat V c).before_in_eq_fetched 7 rfl (fun _ => rfl) (fun _ _ _ => rfl) (fun t => by rw [after_7]; unfold Dat.blockOf iblk; rw [dat_A]; try rfl) t d).trans
    (by unfold Dat.fetched Dat.blockOf iblk; rw [dat_A]; try rfl)
theorem after_8 (c : Dev nD) (t : Fin cfg1.N) : (dat V c).after 8 t = iblk V c 8 t := by dsimp only [dat]
theorem before_8 (c : Dev nD) (t : Fin cfg1.N) (d) : (dat V c).before 8 t d = iblk V c 8 t :=
  ((dat V c).before_in_eq_fetched 8 rfl (fun _ => rfl) (fun _ _ _ => rfl) (fun t => by rw [after_8]; unfold Dat.blockOf iblk; rw [dat_A]; try rfl) t d).trans
    (by unfold Dat.fetched Dat.blockOf iblk; rw [dat_A]; try rfl)
theorem after_9 (c : Dev nD) (t : Fin cfg1.N) : (dat V c).after 9 t = iblk V c 9 t := by dsimp only [dat]
theorem before_9 (c : Dev nD) (t : Fin cfg1.N) (d) : (dat V c).before 9 t d = iblk V c 9 t :=
  ((dat V c).before_in_eq_fetched 9 rfl (fun _ => rfl) (fun _ _ _ => rfl) (fun t => by rw [after_9]; unfold Dat.blockOf iblk; rw [dat_A]; try rfl) t d).trans
    (by unfold Dat.fetched Dat.blockOf iblk; rw [dat_A]; try rfl)
theorem after_10 (c : Dev nD) (t : Fin cfg1.N) : (dat V c).after 10 t = iblk V c 10 t := by dsimp only [dat]
theorem before_10 (c : Dev nD) (t : Fin cfg1.N) (d) : (dat V c).before 10 t d = iblk V c 10 t :=
  ((dat V c).before_in_eq_fetched 10 rfl (fun _ => rfl) (fun _ _ _ => rfl) (fun t => by rw [after_10]; unfold Dat.blockOf iblk; rw [dat_A]; try rfl) t d).trans
    (by unfold Dat.fetched Dat.blockOf iblk; rw [dat_A]; try rfl)
theorem after_11 (c : Dev nD) (t : Fin cfg1.N) : (dat V c).after 11 t = iblk V c 11 t := by dsimp only [dat]
theorem before_11 (c : Dev nD) (t : Fin cfg1.N) (d) : (dat V c).before 11 t d = iblk V c 11 t :=
  ((dat V c).before_in_eq_fetched 11 rfl (fun _ => rfl) (fun _ _ _ => rfl) (fun t => by rw [after_11]; unfold Dat.blockOf iblk; rw [dat_A]; try rfl) t d).trans
    (by unfold Dat.fetched Dat.blockOf iblk; rw [dat_A]; try rfl)
theorem after_12 (c : Dev nD) (t : Fin cfg1.N) : (dat V c).after 12 t = iblk V c 12 t := by dsimp only [dat]
theorem before_12 (c : Dev nD) (t : Fin cfg1.N) (d) : (dat V c).before 12 t d = iblk V c 12 t :=
  ((dat V c).before_in_eq_fetched 12 rfl (fun _ => rfl) (fun _ _ _ => rfl) (fun t => by rw [after_12]; unfold Dat.blockOf iblk; rw [dat_A]; try rfl) t d).trans
    (by unfold Dat.fetched Dat.blockOf iblk; rw [dat_A]; try rfl)
theorem after_13 (c : Dev nD) (t : Fin cfg1.N) : (dat V c).after 13 t = iblk V c 13 t := by dsimp only [dat]
theorem before_13 (c : Dev nD) (t : Fin cfg1.N) (d) : (dat V c).before 13 t d = iblk V c 13 t :=
  ((dat V c).before_in_eq_fetched 13 rfl (fun _ => rfl) (fun _ _ _ => rfl) (fun t => by rw [after_13]; unfold Dat.blockOf iblk; rw [dat_A]; try rfl) t d).trans
    (by unfold Dat.fetched Dat.blockOf iblk; rw [dat_A]; try rfl)

end Cert.KernelIdeal.Pf
-- ==== Proof.Ideal.Attn.lean ====
/-
  The attention kernel's body does its part at every grid point.
-/
module

public import proofs.«01_k».proof.Proof.Ideal.BodyVal
public import proofs.«01_k».proof.Proof.Ideal.AttnDat

@[expose] public section

set_option maxRecDepth 16384

noncomputable section

namespace Cert.KernelIdeal.Pf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open Idealize.ShloMosaic.SparseCore.Cfg (HIx)

variable {F : FTy → Type} [FloatOps F]

local notation "𝕄" => MT nD τ sig (HIx 1) (Elt F) ℕ UU ℕ

variable (V : (c : Dev nD) → (b : Ref sig .tc) → Buf (Elt F) ((c : Thread nD τ).loc b))

/-! ## The body's obligation -/

/-- What the body is called with at point `t`, -/
def bodyPre (c : Dev nD) (t : Fin cfg1.N) : sProp 𝕄 :=
  iprop((dat V c).Φ t.castSucc ∗ (dat V c).owesAt none t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d))
    ∗ (∃ d, owns (c : Thread nD τ) (st1_14 t) fullShare ((dat V c).before 14 t d)))

/-- and what it returns. -/
def bodyPost (c : Dev nD) (t : Fin cfg1.N) : sProp 𝕄 :=
  iprop((dat V c).Φ t.succ ∗ (dat V c).owesAt none t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t)
    ∗ owns (c : Thread nD τ) (st1_14 t) fullShare ((dat V c).after 14 t))

set_option maxHeartbeats 8000000 in
/-- The body at any point: at the first the scratch is made from the weights, at a later one it is as the first left it. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8, before_9, before_10, before_11, before_12, before_13]
  rw [show (dat V c).owesAt none t.succ = (dat V c).owesAt none t.castSucc from rfl,
    show (dat V c).Φ t.succ = keep V c (t.val + 1) from rfl, show (dat V c).Φ t.castSucc = keep V c t.val from rfl]
  dsimp only [dat]
  rw [keep_pos V c (t.val + 1) (Nat.succ_ne_zero _)]
  unfold AF UC BU oblk
  unfold AF UC BU
  rw [← iblk_3 V c t, ← iblk_4 V c t, ← iblk_5 V c t, ← iblk_6 V c t, ← iblk_7 V c t, ← iblk_8 V c t, ← iblk_9 V c t, ← iblk_10 V c t, ← iblk_11 V c t, ← iblk_12 V c t, ← iblk_13 V c t]
  by_cases h0 : t.val = 0
  · rw [h0]
    unfold keep
    iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (body_first c (grid1.coords t) _ _ _ _ _ _ _ _ _ _ _ _ _ _ _ _ _ _ _ _ _ _ _ _ _ _ _ _ _ _ _ _ _ _ _ _ ((atFirst_iff t).mpr h0) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [HS0]; · iexact HS0
    isplitl [HS1]; · iexact HS1
    isplitl [HS2]; · iexact HS2
    iintro ⟨H0, H1, H2, H3, H4, H5, H6, H7, H8, H9, H10, H11, H12, H13, H14, HS0, HS1, HS2⟩
    isplitl [HS0 HS1 HS2]
    · isplitl [HS0]
      · iexact HS0
      isplitl [HS1]
      · iexact HS1
      iexact HS2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · rw [keep_pos V c t.val h0]
    unfold AF UC BU
    rw [← iblk_3 V c t, ← iblk_4 V c t, ← iblk_6 V c t, ← iblk_10 V c t, ← iblk_11 V c t]
    iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (body_later c (grid1.coords t) _ _ _ _ _ _ _ _ _ _ _ _ _ _ _ _ _ _ _ _ _ _ _ _ _ _ _ _ _ _ _ _ _ _ _ _ (fun h => h0 ((atFirst_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [HS0]; · iexact HS0
    isplitl [HS1]; · iexact HS1
    isplitl [HS2]; · iexact HS2
    iintro ⟨H0, H1, H2, H3, H4, H5, H6, H7, H8, H9, H10, H11, H12, H13, H14, HS0, HS1, HS2⟩
    isplitl [HS0 HS1 HS2]
    · isplitl [HS0]
      · iexact HS0
      isplitl [HS1]
      · iexact HS1
      iexact HS2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem defs₀_row (t : Fin cfg1.N) :
    defs₀ (F := F) .tc cfg1.body (cfg1.bodyArgs t (cfg1.slots t)) = bodyAt1 t := by
  rfl

/-- The pipeline's obligation on its body, at every point. -/
theorem body_obligation (c : Dev nD) : BodyObligation (dat (F := F) V c) (defs₀ (F := F)) Variants.none none Set.univ := fun t => by
  rw [bigSep_W1, bigSep_W1, defs₀_row]
  exact triple_restated (sound_body V c t) rfl .rfl fun _ => .rfl

end Cert.KernelIdeal.Pf
-- ==== Proof.Ideal.AttnArr.lean ====
/-
  The attention kernel's result array, entry by entry: every entry lies in exactly one grid point's block.
-/
module

public import proofs.«01_k».proof.Proof.Ideal.AttnDat

@[expose] public section

set_option maxRecDepth 16384

noncomputable section

namespace Cert.KernelIdeal.Pf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open Idealize.ShloMosaic.SparseCore.Cfg (HIx)

variable {F : FTy → Type} [FloatOps F]

local notation "𝕄" => MT nD τ sig (HIx 1) (Elt F) ℕ UU ℕ

variable (V : (c : Dev nD) → (b : Ref sig .tc) → Buf (Elt F) ((c : Thread nD τ).loc b))

/-! ## The result array -/

/-- Block `(b, t)` of the features, of the padded coordinates, and of the gathered neighbours. -/
def blkF (a : Vec F S2x4096x256 .f32) (b : Fin 2) (t : Fin 16) : Vec F S1x256x256 .f32 :=
  fun j => a (ValueIdx.ix3 b ⟨256 * t.val + (j 1).val, by have : (j 1).val < 256 := (j 1).isLt; omega⟩ (j 2))
def blkC (a : Vec F S2x4096x16 .f32) (b : Fin 2) (t : Fin 16) : Vec F S1x256x16 .f32 :=
  fun j => a (ValueIdx.ix3 b ⟨256 * t.val + (j 1).val, by have : (j 1).val < 256 := (j 1).isLt; omega⟩ (j 2))
def blkN (a : Vec F S2x16x4096x16 .f32) (b : Fin 2) (t : Fin 16) : Vec F S1x16x256x16 .f32 :=
  fun j => a (ValueIdx.ix4 b (j 1) ⟨256 * t.val + (j 2).val, by have : (j 2).val < 256 := (j 2).isLt; omega⟩ (j 3))

/-- The grid coordinates of a point. -/
def pb (t : Fin cfg1.N) : Fin 2 := ⟨t.val / 16, by have : t.val < 32 := Nat.lt_of_lt_of_eq t.isLt N_1; omega⟩
def pt (t : Fin cfg1.N) : Fin 16 := ⟨t.val % 16, Nat.mod_lt _ (by decide)⟩

theorem coord0 (t : Fin cfg1.N) : (BitVec.ofNat 32 (grid1.coords t 0).val).toNat = (pb t).val := by
  have ht : t.val < 32 := Nat.lt_of_lt_of_eq t.isLt N_1
  have e0 : (grid1.coords t 0).val = t.val / 16 % 2 := Pipeline.Grid.coords_val t 0 (by decide) rfl
  rw [BitVec.toNat_ofNat, e0]; show _ = t.val / 16; omega
theorem coord1 (t : Fin cfg1.N) : (BitVec.ofNat 32 (grid1.coords t 1).val).toNat = (pt t).val := by
  have ht : t.val < 32 := Nat.lt_of_lt_of_eq t.isLt N_1
  have e1 : (grid1.coords t 1).val = t.val / 1 % 16 := Pipeline.Grid.coords_val t 1 (by decide) rfl
  rw [BitVec.toNat_ofNat, e1]; show _ = t.val % 16; omega

theorem iblk_0 (c : Dev nD) (t : Fin cfg1.N) : iblk V c 0 t = blkF (V c main_arg2) (pb t) (pt t) := by
  refine funext fun j => congrArg (V c main_arg2) (funext fun a => Fin.ext ?_)
  have h0 : (j 0).val < 1 := (j 0).isLt
  match a with
  | ⟨0, _⟩ => show (BitVec.ofNat 32 (grid1.coords t 0).val).toNat * 1 + 1 * (j 0).val = (pb t).val; rw [coord0]; omega
  | ⟨1, _⟩ => show (BitVec.ofNat 32 (grid1.coords t 1).val).toNat * 256 + 1 * (j 1).val = 256 * (pt t).val + (j 1).val; rw [coord1]; omega
  | ⟨2, _⟩ => show 0 * 256 + 1 * (j 2).val = (j 2).val; omega
theorem iblk_1 (c : Dev nD) (t : Fin cfg1.N) : iblk V c 1 t = blkC (V c main_v2) (pb t) (pt t) := by
  refine funext fun j => congrArg (V c main_v2) (funext fun a => Fin.ext ?_)
  have h0 : (j 0).val < 1 := (j 0).isLt
  match a with
  | ⟨0, _⟩ => show (BitVec.ofNat 32 (grid1.coords t 0).val).toNat * 1 + 1 * (j 0).val = (pb t).val; rw [coord0]; omega
  | ⟨1, _⟩ => show (BitVec.ofNat 32 (grid1.coords t 1).val).toNat * 256 + 1 * (j 1).val = 256 * (pt t).val + (j 1).val; rw [coord1]; omega
  | ⟨2, _⟩ => show 0 * 16 + 1 * (j 2).val = (j 2).val; omega
theorem iblk_2 (c : Dev nD) (t : Fin cfg1.N) : iblk V c 2 t = blkN (V c main_v6) (pb t) (pt t) := by
  refine funext fun j => congrArg (V c main_v6) (funext fun a => Fin.ext ?_)
  have h0 : (j 0).val < 1 := (j 0).isLt
  match a with
  | ⟨0, _⟩ => show (BitVec.ofNat 32 (grid1.coords t 0).val).toNat * 1 + 1 * (j 0).val = (pb t).val; rw [coord0]; omega
  | ⟨1, _⟩ => show 0 * 16 + 1 * (j 1).val = (j 1).val; omega
  | ⟨2, _⟩ => show (BitVec.ofNat 32 (grid1.coords t 1).val).toNat * 256 + 1 * (j 2).val = 256 * (pt t).val + (j 2).val; rw [coord1]; omega
  | ⟨3, _⟩ => show 0 * 16 + 1 * (j 3).val = (j 3).val; omega

/-- The result array: entry `(b, n, o)` is entry `(n % 256, o)` of the block of grid point `(b, n / 256)`. -/
def attnArr (c : Dev nD) : Vec F S2x4096x256 .f32 := fun i =>
  attnBlk (blkF (V c main_arg2) (i 0) ⟨(i 1).val / 256, by have : (i 1).val < 4096 := (i 1).isLt; omega⟩)
    (blkC (V c main_v2) (i 0) ⟨(i 1).val / 256, by have : (i 1).val < 4096 := (i 1).isLt; omega⟩)
    (blkN (V c main_v6) (i 0) ⟨(i 1).val / 256, by have : (i 1).val < 4096 := (i 1).isLt; omega⟩)
    (V c main_v44) (V c main_v25) (V c main_v31) (V c main_v36) (V c main_v46) (V c main_v41)
    (AF V c) (UC V c) (BU V c) (ValueIdx.ix3 0 ⟨(i 1).val % 256, Nat.mod_lt _ (by decide)⟩ (i 2))

/-- Where entry `j` of point `t`'s block lies in the array. -/
theorem emb14 (t : Fin cfg1.N) (j : S1x256x256.Idx) :
    ((cfg1.win 14).blk t).view.emb j = (ValueIdx.ix3 (pb t) ⟨256 * (pt t).val + (j 1).val, by have : (j 1).val < 256 := (j 1).isLt; omega⟩ (j 2) : S2x4096x256.Idx) := by
  refine funext fun a => Fin.ext ?_
  have h0 : (j 0).val < 1 := (j 0).isLt
  match a with
  | ⟨0, _⟩ => show (BitVec.ofNat 32 (grid1.coords t 0).val).toNat * 1 + 1 * (j 0).val = (pb t).val; rw [coord0]; omega
  | ⟨1, _⟩ => show (BitVec.ofNat 32 (grid1.coords t 1).val).toNat * 256 + 1 * (j 1).val = 256 * (pt t).val + (j 1).val; rw [coord1]; omega
  | ⟨2, _⟩ => show 0 * 256 + 1 * (j 2).val = (j 2).val; omega

/-- The point that stores entry `i`, and where in its block. -/
def ptOf (i : S2x4096x256.Idx) : Fin cfg1.N :=
  ⟨16 * (i 0).val + (i 1).val / 256, by
    have h0 : (i 0).val < 2 := (i 0).isLt
    have h1 : (i 1).val < 4096 := (i 1).isLt
    rw [show cfg1.N = 32 from N_1]; omega⟩
def inBlk (i : S2x4096x256.Idx) : S1x256x256.Idx := ValueIdx.ix3 0 ⟨(i 1).val % 256, Nat.mod_lt _ (by decide)⟩ (i 2)

theorem emb_ptOf (i : S2x4096x256.Idx) : ((cfg1.win 14).blk (ptOf i)).view.emb (inBlk i) = i := by
  rw [emb14]
  have h0 : (i 0).val < 2 := (i 0).isLt
  have h1 : (i 1).val < 4096 := (i 1).isLt
  refine funext fun a => Fin.ext ?_
  match a with
  | ⟨0, _⟩ => show (16 * (i 0).val + (i 1).val / 256) / 16 = (i 0).val; omega
  | ⟨1, _⟩ => show 256 * ((16 * (i 0).val + (i 1).val / 256) % 16) + (i 1).val % 256 = (i 1).val; omega
  | ⟨2, _⟩ => rfl

/-- Every entry lies in the block of its point. -/
theorem mem_ptOf (i : S2x4096x256.Idx) : i ∈ ((cfg1.win 14).blk (ptOf i)).view.set := by
  have h := ((cfg1.win 14).blk (ptOf i)).view.emb_mem_set (inBlk i)
  rw [emb_ptOf] at h
  exact h

theorem blk_attnArr (c : Dev nD) (t : Fin cfg1.N) (j : S1x256x256.Idx) :
    oblk V c t j = attnArr V c (ValueIdx.ix3 (pb t) ⟨256 * (pt t).val + (j 1).val, by have : (j 1).val < 256 := (j 1).isLt; have := (pt t).isLt; omega⟩ (j 2)) := by
  have hj0 : (j 0).val < 1 := (j 0).isLt
  have hj1 : (j 1).val < 256 := (j 1).isLt
  have hp : (pt t).val < 16 := (pt t).isLt
  unfold oblk attnArr
  rw [iblk_0, iblk_1, iblk_2]
  have e1 : (⟨(256 * (pt t).val + (j 1).val) / 256, by omega⟩ : Fin 16) = pt t := Fin.ext (by show (256 * (pt t).val + (j 1).val) / 256 = (pt t).val; omega)
  have e2 : (ValueIdx.ix3 0 ⟨(256 * (pt t).val + (j 1).val) % 256, Nat.mod_lt _ (by decide)⟩ (j 2) : S1x256x256.Idx) = j := by
    refine funext fun a => Fin.ext ?_
    match a with
    | ⟨0, _⟩ => show 0 = (j 0).val; omega
    | ⟨1, _⟩ => show (256 * (pt t).val + (j 1).val) % 256 = (j 1).val; omega
    | ⟨2, _⟩ => rfl
  show _ = attnBlk (blkF _ (pb t) ⟨(256 * (pt t).val + (j 1).val) / 256, _⟩) (blkC _ (pb t) ⟨(256 * (pt t).val + (j 1).val) / 256, _⟩)
    (blkN _ (pb t) ⟨(256 * (pt t).val + (j 1).val) / 256, _⟩) _ _ _ _ _ _ _ _ _ (ValueIdx.ix3 0 ⟨(256 * (pt t).val + (j 1).val) % 256, _⟩ (j 2))
  rw [e1, e2]

/-- The result array after the last point. -/
theorem arr14 (c : Dev nD) : (dat V c).arrAt 14 cfg1.N = attnArr V c :=
  (dat V c).arrAt_eq_of_cover 14 (attnArr V c)
    (fun t _ => funext fun j => (blk_attnArr V c t j).trans (congrArg (attnArr V c) (emb14 t j).symm))
    fun i => ⟨ptOf i, flush1_14 _, mem_ptOf i⟩

end Cert.KernelIdeal.Pf
-- ==== Proof.Ideal.Region.lean ====
/-
  The attention kernel's region of @main: entered with every unscoped buffer of the TensorCore held at a valuation,
  left with the result's array at `attnArr` and every other buffer as it was.
-/
module

public import proofs.«01_k».proof.Proof.Ideal.Attn
public import proofs.«01_k».proof.Proof.Ideal.AttnArr
public import Idealize.ShloMosaic.Lib.Pipeline.RegionsLoop

@[expose] public section

set_option maxRecDepth 16384

noncomputable section

namespace Cert.KernelIdeal.Pf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open Idealize.ShloMosaic.SparseCore.Cfg (HIx)

variable {F : FTy → Type} [FloatOps F]

local notation "𝕄" => MT nD τ sig (HIx 1) (Elt F) ℕ UU ℕ

variable (V : (c : Dev nD) → (b : Ref sig .tc) → Buf (Elt F) ((c : Thread nD τ).loc b))

/-- The pipeline prefetches no table. -/
abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

/-- The TensorCore's unscoped references. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- The core owes nothing, and what it waited for sits below the call's levels. -/
def owesNone (c : Dev nD) : sProp 𝕄 :=
  iprop(∃ W, ⌜(K (F := F)).WBelow (SparseCore.T c) W 8⌝ ∗ owes (SparseCore.T c : Thread nD τ) (0 : CellTallies nD τ sig (HIx 1)) W)

theorem bound_le (c : Dev nD) (t : Fin (cfg1.N + 1)) (W : Waits sig (HIx 1)) (h : (↑W : Set _) ⊆ (dat V c).bound none t) :
    (K (F := F)).WBelow (SparseCore.T c) W 8 := fun p hp => by
  rcases h hp with h | ⟨w, s, rfl⟩
  · exact h
  · exact Nat.zero_le 8

/-- Every window but the last is an input's, and its array is not the result's. -/
theorem win_in : ∀ w : Fin 15, w ≠ 14 → (cfg1.win w).isOut = false := by decide
theorem win_ne : ∀ w : Fin 15, w ≠ 14 → Pipeline.arrRef spec1 w ≠ main_v47 := by decide

variable (Vp : (c : Dev nD) → (b : Ref sig .tc) → Buf (Elt F) ((c : Thread nD τ).loc b))

set_option backward.isDefEq.respectTransparency.types false in
/-- The region: the windows' arrays are split out of the unscoped buffers, and put back with the result written. -/
def reg (hout : ∀ c, Vp c main_v47 = attnArr V c) (hne : ∀ c (b : Ref sig .tc), b ≠ main_v47 → Vp c b = V c b) :
    Pipeline.RegionSeg (pcfgs (F := F)) adm (pdats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ owesNone c)
  post c := iprop(unscopedBufs c (Vp c) ∗ owesNone c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesNone
      icases HO with ⟨%W, %hW, HO⟩; iexists W; isplitr; · ipureintro; exact fun p hp => Or.inl (hW p hp)
      iexact HO
    isplitr; · iempintro
    iexact Hrest
  hin c := by
    rw [show (pdats V 0 c).Φ 0 = keep V c 0 from rfl, ← keep_zero]
    iintro ⟨-, -, Hr⟩; iexact Hr
  hout c := by
    rw [Pipeline.ownSems0_none, show (pdats V 0 c).Φ (Fin.last _) = keep V c cfg1.N from rfl,
      show (Pipeline.scopedRest (pcfgs (F := F) 0).spec c : sProp 𝕄) = keep V c 0 from keep_zero V c,
      keep_pos V c cfg1.N (by rw [show cfg1.N = 32 from N_1]; decide)]
    unfold keep
    iintro ⟨H0, H1, H2⟩
    isplitr; · iempintro
    isplitr; · iempintro
    isplitl [H0]; · iexists _; iexact H0
    isplitl [H1]; · iexists _; iexact H1
    iexists _; iexact H2
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        by_cases h : w = 14
        · subst h; exact (arr14 V c).trans (hout c).symm
        · exact ((pdats V 0 c).arrAt_in w (win_in w h) _).trans (hne c (Pipeline.arrRef spec1 w) (win_ne w h)).symm)
      (fun b hb => hne c b fun h => hb (h ▸ Finset.mem_image.mpr ⟨14, Finset.mem_univ _, rfl⟩))
    iintro ⟨Ha, HO, -, Hrest⟩
    imodintro
    isplitl [Ha Hrest]
    · iapply hjoin; isplitl [Ha] <;> iassumption
    unfold Pipeline.Dat.owesAt Pipeline.owesWithin owesNone
    icases HO with ⟨%W, %hW, HO⟩; iexists W; isplitr; · ipureintro; exact bound_le V c _ W hW
    iexact HO

end Cert.KernelIdeal.Pf

end
-- ==== Proof.Ideal.Launch.lean ====
/-
  @main from the launch to its end: the host operations before the SparseCore call, the call, the host operations
  after it, the attention kernel's region; every final memory is the launch memory with the results written.
-/
module

public import proofs.«01_k».proof.Proof.Ideal.Region
public import proofs.«01_k».proof.Proof.Ideal.Tile

@[expose] public section

set_option maxRecDepth 16384

noncomputable section

namespace Cert.KernelIdeal.Pf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after)
open Idealize.ShloMosaic.SparseCore.Cfg (HIx Pay)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents along @main -/

/-- At launch; before the SparseCore call; after it, the rows gathered; before the attention kernel; after it. -/
def V0 (d : Dev nD) : Valuation τ sig (Elt F) := fun b => m (d, b)
def V1 (d : Dev nD) : Valuation τ sig (Elt F) := after opsA (V0 m d)
def tab0 (d : Dev nD) : Buf (Elt F) (tabLoc d) := V1 m d (Proc.devRef .tc main_v3)
def idx0 (d : Dev nD) : Buf (Elt F) (idxLoc d) := V1 m d (Proc.devRef .tc main_v4)
def out0 (d : Dev nD) : Buf (Elt F) (outLoc d) := V1 m d (Proc.devRef .tc main_v5)
def V2 (d : Dev nD) : Valuation τ sig (Elt F) := Function.update (V1 m d) (Proc.devRef .tc main_v5) (gath (tab0 m d) (idx0 m d))
def V3 (d : Dev nD) : Valuation τ sig (Elt F) := after opsB (V2 m d)
/-- The same, read as the region's valuation. -/
def VR (c : Dev nD) (b : Ref sig .tc) : Buf (Elt F) ((c : Thread nD τ).loc b) := V3 m c (Proc.devRef .tc b)
def V4 (d : Dev nD) : Valuation τ sig (Elt F) := Function.update (V3 m d) (Proc.devRef .tc main_v47) (attnArr (VR m) d)
def VP (c : Dev nD) (b : Ref sig .tc) : Buf (Elt F) ((c : Thread nD τ).loc b) := V4 m c (Proc.devRef .tc b)

theorem VP_out (c : Dev nD) : VP m c main_v47 = attnArr (VR m) c := by unfold VP V4; exact Function.update_self _ _ _
theorem VP_ne (c : Dev nD) (b : Ref sig .tc) (h : b ≠ main_v47) : VP m c b = VR m c b := by
  unfold VP V4; exact Function.update_of_ne (fun e => h (Proc.devRef_injective _ e)) _ _

/-! ## The buffers held along @main -/

theorem mem_ucRefs (b : Ref sig .tc) : Proc.devRef (τ := τ) .tc b ∈ ucRefs ↔ b.isScoped = false := by
  unfold ucRefs
  rw [Finset.mem_filter]
  exact ⟨fun h => Bool.eq_false_iff.mpr h.2, fun h => ⟨StableHlo.devRef_mem_tcRefs b, Bool.eq_false_iff.mp h⟩⟩

theorem opsA_sub : ∀ op ∈ (opsA : List (HloOp τ sig (Elt F))), op.bufs ⊆ ucRefs := by
  refine List.forall_iff_forall_mem.mp ?_
  simp only [opsA, List.Forall, StableHlo.nullary_bufs, StableHlo.unary_bufs, StableHlo.binary_bufs, StableHlo.ternary_bufs, StableHlo.reshape_bufs,
    Finset.insert_subset_iff, Finset.singleton_subset_iff]
  repeat' apply And.intro
  all_goals exact (mem_ucRefs _).mpr rfl
theorem opsB_sub : ∀ op ∈ (opsB : List (HloOp τ sig (Elt F))), op.bufs ⊆ ucRefs := by
  refine List.forall_iff_forall_mem.mp ?_
  simp only [opsB, List.Forall, StableHlo.nullary_bufs, StableHlo.unary_bufs, StableHlo.binary_bufs, StableHlo.ternary_bufs, StableHlo.reshape_bufs,
    Finset.insert_subset_iff, Finset.singleton_subset_iff]
  repeat' apply And.intro
  all_goals exact (mem_ucRefs _).mpr rfl
theorem opsA_fresh : ∀ op ∈ (opsA : List (HloOp τ sig (Elt F))), op.fresh = ∅ := by
  refine List.forall_iff_forall_mem.mp ?_
  repeat' apply And.intro
  all_goals rfl
theorem opsB_fresh : ∀ op ∈ (opsB : List (HloOp τ sig (Elt F))), op.fresh = ∅ := by
  refine List.forall_iff_forall_mem.mp ?_
  repeat' apply And.intro
  all_goals rfl

/-- The SparseCore call's buffers. -/
def callRefs : Finset (DevRef τ sig) := {Proc.devRef .tc main_v4, Proc.devRef .tc main_v3, Proc.devRef .tc main_v5}

theorem callRefs_sub : callRefs ⊆ ucRefs := by
  unfold callRefs
  simp only [Finset.insert_subset_iff, Finset.singleton_subset_iff]
  exact ⟨(mem_ucRefs _).mpr rfl, (mem_ucRefs _).mpr rfl, (mem_ucRefs _).mpr rfl⟩

theorem devRef_ne {a b : Ref sig .tc} (h : a ≠ b) : Proc.devRef (τ := τ) .tc a ≠ Proc.devRef .tc b := fun e => h (Proc.devRef_injective _ e)

theorem held_call (d : Dev nD) (W : Valuation τ sig (Elt F)) :
    (held (d.tc : Thread nD τ) callRefs W : sProp 𝕄)
      = iprop((idxLoc d ↦{fullShare} W (Proc.devRef .tc main_v4)) ∗ (tabLoc d ↦{fullShare} W (Proc.devRef .tc main_v3)) ∗ (outLoc d ↦{fullShare} W (Proc.devRef .tc main_v5))) := by
  unfold held callRefs
  rw [SparseCore.bigSep_insert' (by
      rw [Finset.mem_insert, Finset.mem_singleton, not_or]; exact ⟨devRef_ne (by decide), devRef_ne (by decide)⟩),
    SparseCore.bigSep_insert' (by rw [Finset.mem_singleton]; exact devRef_ne (by decide)), bigSep_singleton]

theorem V2_out (d : Dev nD) : V2 m d (Proc.devRef .tc main_v5) = gath (tab0 m d) (idx0 m d) := by unfold V2; exact Function.update_self _ _ _
theorem V2_ne (d : Dev nD) (b : DevRef τ sig) (h : b ≠ Proc.devRef .tc main_v5) : V2 m d b = V1 m d b := by unfold V2; exact Function.update_of_ne h _ _

/-- The call's buffers back with the rows gathered, beside the rest, are every buffer after the call. -/
theorem held_back (d : Dev nD) :
    (iprop(((idxLoc d ↦{fullShare} idx0 m d) ∗ (tabLoc d ↦{fullShare} tab0 m d) ∗ (outLoc d ↦{fullShare} gath (tab0 m d) (idx0 m d)))
      ∗ held (d.tc : Thread nD τ) (ucRefs \ callRefs) (V1 m d)) : sProp 𝕄) = held (d.tc : Thread nD τ) ucRefs (V2 m d) := by
  rw [StableHlo.held_sub_split (d.tc : Thread nD τ) callRefs_sub (V2 m d), held_call, V2_out, V2_ne m d _ (devRef_ne (by decide)), V2_ne m d _ (devRef_ne (by decide)),
    StableHlo.held_congr (d.tc : Thread nD τ) (V := V1 m d) (V' := V2 m d) fun b hb => (V2_ne m d b fun h =>
      (Finset.mem_sdiff.mp hb).2 (h ▸ by unfold callRefs; simp)).symm]
  rfl

/-! ## The ghost state at launch -/

/-- The pipeline's part of the ghost state, on device `d`. -/
def GP (d : Dev nD) : sProp 𝕄 :=
  iprop(Pipeline.cellsGhost (Pipeline.pin (pcfgs (F := F)) adm) EP 0 d ∗ Pipeline.toksInit (Pipeline.pin (pcfgs (F := F)) adm) EP 0 d)

theorem pin_inj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

variable (tab : (d : Dev nD) → Buf (Elt F) (tabLoc d)) (idx : (d : Dev nD) → Buf (Elt F) (idxLoc d)) (out : (d : Dev nD) → Buf (Elt F) (outLoc d))

theorem own_pair : (BI.own ((embR : Emb (UP × Counters) 𝕄) (initOf (Pipeline.cells (Pipeline.pin (pcfgs (F := F)) adm) pin_inj) (Pipeline.launchToks (Pipeline.pin (pcfgs (F := F)) adm) pin_inj), 1)) : sProp 𝕄)
    ⊢ BI.own (EP (initOf (Pipeline.cells (Pipeline.pin (pcfgs (F := F)) adm) pin_inj) (Pipeline.launchToks (Pipeline.pin (pcfgs (F := F)) adm) pin_inj))) := Entails.refl _

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GP (F := F) d)
        ∗ bigSep Finset.univ fun thr : Thread nD τ => bigSep Finset.univ fun q : Fin 1 => (P tab idx out).x q thr) := by
  unfold u₀
  iintro Hu
  ihave H := (ownU_pair _ _) $$ Hu
  icases H with ⟨HH, HP⟩
  ihave HP := own_pair $$ HP
  imod (Pipeline.fund_ghost (Pipeline.pin (pcfgs (F := F)) adm) EP pin_inj) $$ HP with ⟨Hc, Ht⟩
  imodintro
  isplitl [HH]; · iexact HH
  isplitl [Hc Ht]
  · rw [show (bigSep Finset.univ fun d : Dev nD => GP (F := F) d) = (iprop((bigSep Finset.univ fun c : Dev nD => bigSep Finset.univ fun p => Pipeline.cellsGhost (Pipeline.pin (pcfgs (F := F)) adm) EP p c)
        ∗ (bigSep Finset.univ fun c : Dev nD => bigSep Finset.univ fun p => Pipeline.toksInit (Pipeline.pin (pcfgs (F := F)) adm) EP p c)) : sProp 𝕄) from by
      rw [← bigSep_sep']
      exact bigSep_congr fun c _ => by
        rw [bigSep_univ_of_subsingleton (0 : Fin 1), bigSep_univ_of_subsingleton (0 : Fin 1)]; rfl]
    isplitl [Hc] <;> iassumption
  rw [show (bigSep Finset.univ fun thr : Thread nD τ => bigSep Finset.univ fun q : Fin 1 => (P tab idx out).x q thr) = (bigSep Finset.univ fun _ => iprop(emp) : sProp 𝕄) from
    bigSep_congr fun _ _ => bigSep_univ_of_subsingleton (0 : Fin 1), bigSep_emp']
  iempintro

/-! ## @main on the TensorCore -/

/-- After its one call a TensorCore owes nothing. -/
theorem Otc_one (d : Dev nD) : (K (F := F)).Otc d 1 = 0 := by
  unfold SparseCore.Cfg.Otc
  exact Finset.sum_eq_zero fun q _ => if_neg (by have := q.isLt; omega)

theorem tcSt_out (d : Dev nD) : ((K (F := F)).tcSt EH d 1 : sProp 𝕄)
    ⊢ iprop(owesNone (F := F) d ∗ (owesNone (F := F) d -∗ (K (F := F)).tcSt EH d 1)) := by
  unfold SparseCore.Cfg.tcSt owesNone
  rw [Otc_one]
  iintro ⟨HO, Hr⟩
  isplitl [HO]; · iexact HO
  iintro HO
  isplitl [HO]; · iexact HO
  iexact Hr

abbrev FIN (d : Dev nD) : sProp 𝕄 := held (d.tc : Thread nD τ) ucRefs (V4 m d)

/-- The region, from the memory before it. -/
abbrev regM := reg (VR m) (VP m) (VP_out m) (VP_ne m)

theorem regM_pre (d : Dev nD) : (regM m).pre d = (iprop(unscopedBufs d (VR m d) ∗ owesNone d) : sProp 𝕄) := by unfold regM reg; rfl
theorem regM_post (d : Dev nD) : (regM m).post d = (iprop(unscopedBufs d (VP m d) ∗ owesNone d) : sProp 𝕄) := by unfold regM reg; rfl

/-- @main's call of the pipeline is the pipeline's own, lifted. -/
theorem call_eq : (Prog.lift (.customCall (SparseCore.inner (Pipeline.entry 0)) ())
      : Prog (TpuEff nD τ sig (Elt F) (SparseCore.Sig (ΛP (F := F)) 1) .tc) PUnit)
    = SparseCore.liftProg (.op (.customCall (Pipeline.entry 0) ()) fun _ => .ret ⟨⟩) := by
  rw [SparseCore.liftProg_op]
  rfl

/-- A program after another. -/
theorem wp_then (d : Dev nD) {α : Type} (p : Prog (TpuEff nD τ sig (Elt F) (SparseCore.Sig (ΛP (F := F)) 1) .tc) α)
    (k : α → Prog (TpuEff nD τ sig (Elt F) (SparseCore.Sig (ΛP (F := F)) 1) .tc) PUnit) (Q : PUnit → sProp 𝕄) :
    wp frame (wpE ((K (F := F)).defs (D (F := F))) 𝒱 (SparseCore.T d) none) Set.univ p (fun a => wp frame (wpE ((K (F := F)).defs (D (F := F))) 𝒱 (SparseCore.T d) none) Set.univ (k a) Q)
      ⊢ wp frame (wpE ((K (F := F)).defs (D (F := F))) 𝒱 (SparseCore.T d) none) Set.univ (p >>= k) Q :=
  Entails.of_eq (wp_bind ..).symm

/-- A proof about the pipeline's call is a proof about @main's. -/
theorem lift_run (d : Dev nD) (Q : PUnit → sProp 𝕄) :
    wp frame (wpE (D (F := F)) 𝒱 (SparseCore.T d) none) Set.univ
      ((.op (.customCall (Pipeline.entry 0) ()) fun _ => .ret ⟨⟩) : Prog (TpuEff nD τ sig (Elt F) (ΛP (F := F)) .tc) PUnit) Q
      ⊢ wp frame (wpE ((K (F := F)).defs (D (F := F))) 𝒱 (SparseCore.T d) none) Set.univ
        (SparseCore.liftProg ((.op (.customCall (Pipeline.entry 0) ()) fun _ => .ret ⟨⟩) : Prog (TpuEff nD τ sig (Elt F) (ΛP (F := F)) .tc) PUnit)) Q :=
  (K (F := F)).wp_liftProg (D (F := F)) 𝒱 (SparseCore.T d) Set.univ none _ Q

set_option backward.isDefEq.respectTransparency.types false in
theorem hregion [∀ e, Nonempty (Elt F e)] (d : Dev nD) :
    iprop(boundary (SparseCore.T d : Thread nD τ) ∗ held (d.tc : Thread nD τ) ucRefs (V3 m d) ∗ owesNone (F := F) d
        ∗ levAts (K (F := F)).L (K (F := F)).lev ∗ GP (F := F) d)
      ⊢ (wp frame (wpE ((K (F := F)).defs (D (F := F))) 𝒱 (SparseCore.T d) none) Set.univ
          (Prog.lift (.customCall (SparseCore.inner (Pipeline.entry 0)) ()))
          fun _ => iprop(boundary (SparseCore.T d : Thread nD τ) ∗ FIN m d ∗ owesNone (F := F) d) : sProp 𝕄) := by
  rw [call_eq]
  refine BIBase.Entails.trans ?_ (lift_run d _)
  have h := Pipeline.RegionSeg.wp (pcfgs (F := F)) adm (pdats (VR m)) (none : HIx 1) pin_inj EP defs₀ 𝒱₀
    (K (F := F)).L (K (F := F)).lev (regM m) d none (fun _ h => nomatch h) (fun _ : PUnit => (.ret ⟨⟩ : Prog (TpuEff nD τ sig (Elt F) (ΛP (F := F)) .tc) PUnit))
    (fun _ => iprop(boundary (SparseCore.T d : Thread nD τ) ∗ FIN m d ∗ owesNone (F := F) d))
  refine BIBase.Entails.trans ?_ h
  rw [regM_pre, regM_post,
    show (unscopedBufs d (VR m d) : sProp 𝕄) = held (d.tc : Thread nD τ) ucRefs (V3 m d) from unscopedBufs_held d (V3 m d),
    show (unscopedBufs d (VP m d) : sProp 𝕄) = held (d.tc : Thread nD τ) ucRefs (V4 m d) from unscopedBufs_held d (V4 m d)]
  unfold GP
  iintro ⟨Hb, Hh, HO, Hl, Hg, Ht⟩
  isplitr [Hb Hh HO Hl Hg Ht]
  · iintro ⟨Hb, Hh, HO⟩
    rw [wp_ret]
    imodintro
    iframe Hb Hh HO
  iframe Hb Hh HO Hl Hg Ht

theorem hmain [∀ e, Nonempty (Elt F e)] (κ : GSem nD τ sig → ℕ) (d : Dev nD) :
    iprop((K (F := F)).ctx EH (P (tab0 m) (idx0 m) (out0 m)) κ ∗ (K (F := F)).tcSt EH d 0 ∗ (K (F := F)).tcRes m ρ d ∗ GP (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hbufs, Hts, -⟩, HG⟩
  ihave Hh := (show (unscopedBufs d fun b => m ((SparseCore.T d).loc b) : sProp 𝕄) ⊢ held (d.tc : Thread nD τ) ucRefs (V0 m d) from
    Entails.of_eq (unscopedBufs_held d (V0 m d))) $$ Hbufs
  iapply (StableHlo.wp_seq (defs := (K (F := F)).defs (D (F := F))) 𝒱 none Set.univ d ucRefs _ opsA opsA_sub opsA_fresh (V0 m d)) $$ [Hb Hh]
  · isplitl [Hb] <;> iassumption
  iintro ⟨Hb, Hh⟩
  ihave Hh := (show (held (d.tc : Thread nD τ) ucRefs (after opsA (V0 m d)) : sProp 𝕄)
      ⊢ iprop(((idxLoc d ↦{fullShare} idx0 m d) ∗ (tabLoc d ↦{fullShare} tab0 m d) ∗ (outLoc d ↦{fullShare} out0 m d))
        ∗ held (d.tc : Thread nD τ) (ucRefs \ callRefs) (V1 m d)) from
    Entails.of_eq ((StableHlo.held_sub_split (d.tc : Thread nD τ) callRefs_sub (V1 m d)).trans (by rw [held_call]; rfl))) $$ Hh
  iapply (wp_then d)
  icases Hh with ⟨Hcall, Hrest⟩
  iapply ((K (F := F)).wp_run (D (F := F)) 𝒱 (EH := EH) (P := P (tab0 m) (idx0 m) (out0 m)) κ d 0) $$ [Hst Hcall Hrest Hb Hts HG]
  isplitr; · iexact Hctx
  isplitl [Hst]; · iexact Hst
  isplitl [Hcall]
  · rw [st_eq]; iexact Hcall
  iintro ⟨Hst, Hdn⟩
  ihave Hdn' := (Entails.of_eq (dn_eq (tab0 m) (idx0 m) (out0 m) d)) $$ Hdn
  ihave Hh := (Entails.of_eq (held_back m d)) $$ [Hdn' Hrest]
  · isplitl [Hdn'] <;> iassumption
  iapply (StableHlo.wp_seq (defs := (K (F := F)).defs (D (F := F))) 𝒱 none Set.univ d ucRefs _ opsB opsB_sub opsB_fresh (V2 m d)) $$ [Hb Hh]
  · isplitl [Hb] <;> iassumption
  iintro ⟨Hb, Hh⟩
  ihave Hst' := (show ((K (F := F)).tcSt EH d ((0 : Fin 1).val + 1) : sProp 𝕄) ⊢ iprop(owesNone (F := F) d ∗ (owesNone (F := F) d -∗ (K (F := F)).tcSt EH d 1)) from
    tcSt_out d) $$ Hst
  icases Hst' with ⟨HO, Hback⟩
  ihave Hlev := (SparseCore.Cfg.ctx_levAts κ) $$ Hctx
  iapply (wp_wand_r frame _ Set.univ)
  isplitl [Hb Hh HO HG]
  · iapply (hregion m d)
    isplitl [Hb]; · iexact Hb
    isplitl [Hh]; · iexact Hh
    isplitl [HO]; · iexact HO
    isplitr; · iexact Hlev
    iexact HG
  iintro %_ ⟨Hb, Hh, HO⟩
  isplitl [HO Hback]; · iapply Hback; iexact HO
  isplitl [Hh]; · iexact Hh
  isplitl [Hb] <;> iassumption

/-! ## What the final memory holds -/

def fq (d : Dev nD) (s' : Phys nD τ sig (Elt F)) : Prop := ∀ b ∈ (ucRefs : Finset (DevRef τ sig)), s'.mem.mem (d, b) = V4 m d b

theorem held_agree (d : Dev nD) (W : Valuation τ sig (Elt F)) (s' : Phys nD τ sig (Elt F)) (S : Finset (DevRef τ sig)) :
    (iprop(held (d.tc : Thread nD τ) S W ∗ SI s') : sProp 𝕄) ⊢ ⌜∀ b ∈ S, s'.mem.mem (d, b) = W b⌝ := by
  induction S using Finset.induction_on with
  | empty => iintro -; ipureintro; exact fun b hb => absurd hb (Finset.notMem_empty b)
  | insert a S ha ih =>
    rw [show (held (d.tc : Thread nD τ) (insert a S) W : sProp 𝕄) = iprop((((d, a) : Loc nD τ sig) ↦{fullShare} W a) ∗ held (d.tc : Thread nD τ) S W) from
      SparseCore.bigSep_insert' ha]
    iintro ⟨⟨Ha, HS⟩, HSI⟩
    ihave H := (persistent_entails_right (SI_pointsTo_agree (st := s') (ℓ := ((d, a) : Loc nD τ sig)) (I := Finset.univ) (q := fullShare) (f := W a))) $$ [HSI Ha]
    · isplitl [HSI] <;> iassumption
    icases H with ⟨%h1, HSI, -⟩
    ihave H := ih $$ [HS HSI]
    · isplitl [HS] <;> iassumption
    icases H with %h2
    ipureintro
    intro b hb
    rcases Finset.mem_insert.mp hb with rfl | hb
    · exact funext fun i => h1 i (Finset.mem_univ i)
    · exact h2 b hb

theorem hfin (d : Dev nD) (s' : Phys nD τ sig (Elt F)) : iprop(FIN m d ∗ SI s') ⊢ (⌜fq m d s'⌝ : sProp 𝕄) := held_agree d (V4 m d) s' ucRefs

def QC : PUnit × MemSt nD τ sig (Elt F) → Prop := fun r =>
  (∀ c : Dev nD, ∀ b ∈ (ucRefs : Finset (DevRef τ sig)), r.2.mem (c, b) = V4 m c b) ∧ r.2.sem = fun _ => 0

/-- The program's run, the indices naming rows of the table: it ends, every unscoped buffer of the TensorCore at `V4`. -/
theorem run_main [∀ e, Nonempty (Elt F e)] (hidx : ∀ d j, (idx0 m d j : BitVec 32).toNat < 8192) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tab0 m) (idx0 m) (out0 m)) (A := ∅) scFacts v₀
    (fun q hq => match q with | 0 => nomatch hq)
    (fun q _ => match q with | 0 => tileObl _ _ _ hidx)
    (fun q _ => match q with | 0 => SparseCore.Cfg.VecSplit.of_plain (vecSplit _ _ _))
    m ρ main (fun d => GP (F := F) d) (FIN m) (u₀ (F := F)) (sep_elim_left.trans (hu₀ _ _ _)) (hmain m ρ) (fq m) (hfin m) (QC m) (fun _ h hz => ⟨h, hz⟩)

end Cert.KernelIdeal.Pf

end
-- ==== Proof.Ideal.Frame.lean ====
/-
  What the run leaves: every argument as it was, the result at the attention kernel's array, every semaphore at zero.
-/
module

public import proofs.«01_k».proof.Proof.Ideal.Launch

@[expose] public section

set_option maxRecDepth 16384

noncomputable section

namespace Cert.KernelIdeal.Pf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after)
open Idealize.ShloMosaic.SparseCore.Cfg (HIx Pay)

variable {F : FTy → Type} [FloatOps F]

local notation "𝕄" => MT nD τ sig (HIx 1) (Elt F) ℕ UU ℕ

variable (m : (ℓ : Loc nD τ sig) → Buf (Elt F) ℓ) (ρ : Dev nD → PrngReg)

/-- What the host operations before and after the call write. -/
def wrA : List (Ref sig .tc) := [main_cst, main_v0, main_c, main_v1, main_v2, main_v3, main_v4]
def wrB : List (Ref sig .tc) := [main_v6, main_cst_0, main_v7, main_v8, main_c_1, main_v9, main_v10, main_v11, main_cst_2, main_v12, main_v13, main_c_3, main_v14, main_v15, main_v16, main_cst_4, main_v17, main_v18, main_c_5, main_v19, main_v20, main_cst_6, main_v21, main_v22, main_c_7, main_v23, main_v24, main_v25, main_cst_8, main_v26, main_v27, main_c_9, main_v28, main_c_10, main_v29, main_v30, main_v31, main_cst_11, main_v32, main_c_12, main_v33, main_c_13, main_v34, main_v35, main_v36, main_v37, main_v38, main_v39, main_v40, main_v41, main_v42, main_v43, main_v44, main_v45, main_v46]

theorem V1_keep (d : Dev nD) (b : Ref sig .tc) (h : b ∉ wrA) : V1 m d (Proc.devRef .tc b) = m (d, Proc.devRef .tc b) :=
  StableHlo.after_of_writes_sub (W := wrA) opsA (V0 m d) (StableHlo.forall_writes_sub_of_map rfl) h
theorem V2_keep (d : Dev nD) (b : Ref sig .tc) (h : b ∉ main_v5 :: wrA) : V2 m d (Proc.devRef .tc b) = m (d, Proc.devRef .tc b) :=
  (V2_ne m d _ (devRef_ne fun e => h (e ▸ List.mem_cons_self))).trans (V1_keep m d b fun hb => h (List.mem_cons_of_mem _ hb))
theorem V3_keep (d : Dev nD) (b : Ref sig .tc) (h : b ∉ wrB) : V3 m d (Proc.devRef .tc b) = V2 m d (Proc.devRef .tc b) :=
  StableHlo.after_of_writes_sub (W := wrB) opsB (V2 m d) (StableHlo.forall_writes_sub_of_map rfl) h
theorem V3_arg (d : Dev nD) (b : Ref sig .tc) (h : b ∉ wrB ++ main_v5 :: wrA) : V3 m d (Proc.devRef .tc b) = m (d, Proc.devRef .tc b) :=
  (V3_keep m d b fun hb => h (List.mem_append_left _ hb)).trans (V2_keep m d b fun hb => h (List.mem_append_right _ hb))
theorem V4_arg (d : Dev nD) (b : Ref sig .tc) (h : b ∉ main_v47 :: (wrB ++ main_v5 :: wrA)) : V4 m d (Proc.devRef .tc b) = m (d, Proc.devRef .tc b) :=
  (VP_ne m d b fun e => h (e ▸ List.mem_cons_self)).trans (V3_arg m d b fun hb => h (List.mem_cons_of_mem _ hb))

/-- The indices the call reads are the argument's, flattened. -/
theorem idx0_eq (d : Dev nD) : ∃ f : S131072.Idx → S2x16x4096.Idx, ∀ j, idx0 m d j = m (d, Proc.devRef .tc main_arg1) (f j) := by
  refine ⟨fun j => Shape.reshapeEquiv shapeCasts_S2x16x4096_S131072 j, fun j => ?_⟩
  unfold idx0 V1 opsA
  after_results_simp
  rfl
theorem idx0_lt (d : Dev nD) (h : ∀ j : S2x16x4096.Idx, (m (d, Proc.devRef .tc main_arg1) j : BitVec 32).toNat < 8192) (j : S131072.Idx) : (idx0 m d j : BitVec 32).toNat < 8192 := by
  obtain ⟨f, hf⟩ := idx0_eq m d
  rw [hf]; exact h _

/-- A final memory: the result at `attnArr`, the arguments unchanged. -/
def Post (c : Dev nD) (mem : (ℓ : Loc nD τ sig) → Buf (Elt F) ℓ) : Prop :=
  mem ((c.tc : Thread nD τ).loc main_v47) = attnArr (VR m) c
    ∧ mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)
    ∧ mem ((c.tc : Thread nD τ).loc main_arg10) = m ((c.tc : Thread nD τ).loc main_arg10)
    ∧ mem ((c.tc : Thread nD τ).loc main_arg11) = m ((c.tc : Thread nD τ).loc main_arg11)
    ∧ mem ((c.tc : Thread nD τ).loc main_arg12) = m ((c.tc : Thread nD τ).loc main_arg12)
    ∧ mem ((c.tc : Thread nD τ).loc main_arg13) = m ((c.tc : Thread nD τ).loc main_arg13)
    ∧ mem ((c.tc : Thread nD τ).loc main_arg14) = m ((c.tc : Thread nD τ).loc main_arg14)
    ∧ mem ((c.tc : Thread nD τ).loc main_arg15) = m ((c.tc : Thread nD τ).loc main_arg15)
    ∧ mem ((c.tc : Thread nD τ).loc main_arg16) = m ((c.tc : Thread nD τ).loc main_arg16)

theorem post_of (c : Dev nD) (mem : (ℓ : Loc nD τ sig) → Buf (Elt F) ℓ) (h : ∀ b ∈ (ucRefs : Finset (DevRef τ sig)), mem (c, b) = V4 m c b) : Post m c mem := by
  have hk (b : Ref sig .tc) (hs : b.isScoped = false) (hb : b ∉ main_v47 :: (wrB ++ main_v5 :: wrA)) : mem (c, Proc.devRef .tc b) = m (c, Proc.devRef .tc b) :=
    (h _ ((mem_ucRefs b).mpr hs)).trans (V4_arg m c b hb)
  exact ⟨(h _ ((mem_ucRefs main_v47).mpr rfl)).trans (VP_out m c),
    hk main_arg0 rfl (by decide),
    hk main_arg1 rfl (by decide),
    hk main_arg2 rfl (by decide),
    hk main_arg3 rfl (by decide),
    hk main_arg4 rfl (by decide),
    hk main_arg5 rfl (by decide),
    hk main_arg6 rfl (by decide),
    hk main_arg7 rfl (by decide),
    hk main_arg8 rfl (by decide),
    hk main_arg9 rfl (by decide),
    hk main_arg10 rfl (by decide),
    hk main_arg11 rfl (by decide),
    hk main_arg12 rfl (by decide),
    hk main_arg13 rfl (by decide),
    hk main_arg14 rfl (by decide),
    hk main_arg15 rfl (by decide),
    hk main_arg16 rfl (by decide)⟩

/-- The run, the indices naming rows of the table. -/
theorem run_post [∀ e, Nonempty (Elt F e)] (hidx : ∀ (d : Dev nD) (j : S2x16x4096.Idx), (m (d, Proc.devRef .tc main_arg1) j : BitVec 32).toNat < 8192) :
    θ_run (Cert.KernelIdeal.defs (F := F)) (Cert.KernelIdeal.threads (F := F)) ⟨m, fun _ => 0, ρ⟩ fun r => (∀ c : Dev nD, Post m c r.2.mem) ∧ r.2.sem = fun _ => 0 :=
  (θ_run Cert.KernelIdeal.defs _ _).mono (fun _ h => ⟨fun c => post_of m c _ (h.1 c), h.2⟩)
    (run_main m ρ fun d j => idx0_lt m d (hidx d) j)

end Cert.KernelIdeal.Pf

end
-- ==== Proof.Alg.Rows.lean ====
/-
  What the first precondition says: every neighbour's index names a row of the table.
-/
module

public import proofs.«01_k».proof.Defs
public import proofs.«01_k».proof.Proof.Gen.Pre_rows_ok
public import Idealize.ShloMosaic.Lib.ReduceAll

@[expose] public section

set_option maxRecDepth 16384

noncomputable section

namespace Cert.Alg

open Idealize.ShloMosaic

/-- A word between 0 and 8192, signed, is a natural number below 8192. -/
theorem word_lt (v : BitVec 32) (e : IntOp.andi (IntOp.cmpi .sge v 0#32) (IntOp.cmpi .slt v 8192#32) = 1#1) : v.toNat < 8192 := by
  obtain ⟨h0, h1⟩ := IntOp.andi_eq_one.1 e
  have h0 := IntOp.cmpi_sge.1 h0
  have h1 := IntOp.cmpi_slt.1 h1
  rw [show (0#32 : BitVec 32).toInt = 0 from by decide, BitVec.toInt_eq_toNat_cond] at h0
  rw [show (8192#32 : BitVec 32).toInt = 8192 from by decide, BitVec.toInt_eq_toNat_cond] at h1
  split at h0 <;> omega

/-- Every program's rows are in range under the first precondition. -/
theorem rows_ok_of {F : FTy → Type} [FloatOps F] {a0 a1 a2 a3 a4 a5 a6 a7 a8 a9 a10 a11 a12 a13 a14 a15 a16}
    (h : Cert.Pre_rows_ok.fn (F := F) a0 a1 a2 a3 a4 a5 a6 a7 a8 a9 a10 a11 a12 a13 a14 a15 a16 = fun _ => 1#1) (j) : (a1 j).toNat < 8192 :=
  word_lt _ (congrFun h j)

end Cert.Alg

end
-- ==== Proof.Frames.lean ====
/-
  The frames: each program runs to its end, leaves its arguments as they were, and every semaphore at zero.
-/
module

public import proofs.«01_k».proof.Defs
public import proofs.«01_k».proof.Proof.Bits.Frame
public import proofs.«01_k».proof.Proof.Ideal.Frame
public import proofs.«01_k».proof.Proof.Gen.ReferenceIdeal.Run
public import proofs.«01_k».proof.Proof.Alg.Rows
public import Idealize.ShloMosaic.Lib.Quiescent

@[expose] public section

noncomputable section

namespace Cert.Proof

open Idealize.ShloMosaic Idealize.SL.Sem

theorem frame_kernel : Cert.quiescent_Kernel := by
  intro m g hm
  refine (θ_run Cert.Kernel.defs _ _).mono ?_ (Cert.Kernel.Pf.run_post m g fun d j => Cert.Alg.rows_ok_of (hm d) j)
  exact fun r h => ⟨fun c => (h.1 c).2, h.2⟩

theorem frame_kernel_ideal : Cert.quiescent_KernelIdeal := by
  intro m g hm
  refine (θ_run Cert.KernelIdeal.defs _ _).mono ?_ (Cert.KernelIdeal.Pf.run_post m g fun d j => Cert.Alg.rows_ok_of (hm d) j)
  exact fun r h => ⟨fun c => (h.1 c).2, h.2⟩

theorem frame_reference : Cert.quiescent_ReferenceIdeal := by
  intro m g _
  refine (θ_run Cert.ReferenceIdeal.defs _ _).mono ?_ (Cert.ReferenceIdeal.Value.run m g)
  exact fun r h => ⟨fun c => (h c).2, sem_eq_zero_of_no_sems rfl _⟩

end Cert.Proof

end
-- ==== Proof.Alg.Math.lean ====
/-
  The attention over one point's neighbours as plain mathematics over the extended reals, and the identity the kernel's
  fused weights rest on: where the numbers that meet are finite, the first weight layer may be multiplied into the
  feature, neighbour and offset weights beforehand.
-/
module

public import Mathlib.Data.EReal.Operations
public import Mathlib.Algebra.BigOperators.Fin
public import Mathlib.Tactic.Ring
public import Mathlib.Tactic.Abel
public import Mathlib.Tactic.Linarith

@[expose] public section

noncomputable section

namespace Cert.Alg

open Finset

/-- The offset layer's hidden unit `d`, from the coordinates of a point and of its neighbour. -/
def hid (s1w : Fin 3 → Fin 3 → EReal) (s1b ci cj : Fin 3 → EReal) (d : Fin 3) : EReal :=
  max (∑ e, (ci e - cj e) * s1w d e + s1b d) 0

/-- The first layer as the reference states it: the relation of feature, neighbour and offset, then the weights. -/
def plainPre (f : Fin 256 → EReal) (cj h : Fin 3 → EReal) (pw : Fin 256 → Fin 256 → EReal) (pb : Fin 256 → EReal)
    (qw : Fin 256 → Fin 3 → EReal) (qb : Fin 256 → EReal) (sw : Fin 256 → Fin 3 → EReal) (sb : Fin 256 → EReal)
    (g : Fin 256 → EReal) (gb : EReal) : EReal :=
  ∑ e, (((∑ x, f x * pw e x + pb e) - (∑ d, cj d * qw e d + qb e)) + (∑ d, h d * sw e d + sb e)) * g e + gb

/-- The same layer with the weights multiplied in beforehand. -/
def fusedPre (f : Fin 256 → EReal) (cj h : Fin 3 → EReal) (pw : Fin 256 → Fin 256 → EReal) (pb : Fin 256 → EReal)
    (qw : Fin 256 → Fin 3 → EReal) (qb : Fin 256 → EReal) (sw : Fin 256 → Fin 3 → EReal) (sb : Fin 256 → EReal)
    (g : Fin 256 → EReal) (gb : EReal) : EReal :=
  (∑ x, f x * (∑ e, pw e x * g e) + (∑ e, (pb e - qb e + sb e) * g e + gb))
    + (∑ d, cj d * (∑ e, -qw e d * g e) + ∑ d, h d * (∑ e, sw e d * g e))

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem swap {n : ℕ} (x : Fin n → ℝ) (m : Fin 256 → Fin n → ℝ) (g : Fin 256 → ℝ) :
    ∑ e, x e * ∑ c, m c e * g c = ∑ c, (∑ e, x e * m c e) * g c := by
  simp only [Finset.mul_sum, Finset.sum_mul, mul_assoc]
  exact Finset.sum_comm

theorem fused_real (f : Fin 256 → ℝ) (cj h : Fin 3 → ℝ) (pw : Fin 256 → Fin 256 → ℝ) (qw : Fin 256 → Fin 3 → ℝ)
    (sw : Fin 256 → Fin 3 → ℝ) (g : Fin 256 → ℝ) :
    ∑ x, f x * (∑ e, pw e x * g e) + (∑ d, cj d * (∑ e, -qw e d * g e) + ∑ d, h d * (∑ e, sw e d * g e))
    = ∑ e, ((∑ x, f x * pw e x - ∑ d, cj d * qw e d) + ∑ d, h d * sw e d) * g e := by
  rw [swap f pw g, swap cj (fun e d => -qw e d) g, swap h sw g, ← Finset.sum_add_distrib, ← Finset.sum_add_distrib]
  refine Finset.sum_congr rfl fun e _ => ?_
  simp only [mul_neg, Finset.sum_neg_distrib]
  ring

/-- The biases gathered: they may be infinite, what they are added to may not. -/
theorem gather_bias (x y z : ℝ) (p q s : EReal) :
    (((x : EReal) + p) - ((y : EReal) + q)) + ((z : EReal) + s) = ((x - y + z : ℝ) : EReal) + (p - q + s) := by
  rw [sub_eq_add_neg, sub_eq_add_neg p q, EReal.neg_add (.inl (EReal.coe_ne_bot y)) (.inl (EReal.coe_ne_top y)), sub_eq_add_neg, EReal.coe_add,
    EReal.coe_sub, sub_eq_add_neg (x : EReal) (y : EReal)]
  have ac (a b c d u v : EReal) : a + b + (c + d) + (u + v) = a + c + u + (b + d + v) := by ac_rfl
  exact ac _ _ _ _ _ _

/-- A finite number comes out of a product of a sum by a finite number. -/
theorem coe_add_mul_coe (a : ℝ) (b : EReal) (g : ℝ) : ((a : EReal) + b) * (g : EReal) = ((a * g : ℝ) : EReal) + b * (g : EReal) := by
  induction b with
  | coe b => norm_cast; ring
  | top =>
    rcases lt_trichotomy g 0 with h | rfl | h
    · rw [EReal.coe_add_top, EReal.top_mul_coe_of_neg h, EReal.add_bot]
    · simp
    · rw [EReal.coe_add_top, EReal.top_mul_coe_of_pos h, EReal.coe_add_top]
  | bot =>
    rcases lt_trichotomy g 0 with h | rfl | h
    · rw [EReal.add_bot, EReal.bot_mul_coe_of_neg h, EReal.coe_add_top]
    · simp
    · rw [EReal.add_bot, EReal.bot_mul_coe_of_pos h, EReal.add_bot]

/-- A family of finite numbers. -/
def Finite' {ι : Type} (f : ι → EReal) : Prop := ∃ r : ι → ℝ, f = fun i => (r i : EReal)

theorem hid_finite {s1w : Fin 3 → Fin 3 → EReal} {s1b ci cj : Fin 3 → EReal} (hw : ∀ d, Finite' (s1w d)) (hb : Finite' s1b)
    (hi : Finite' ci) (hj : Finite' cj) : Finite' (hid s1w s1b ci cj) := by
  choose w hw using hw
  obtain ⟨b, rfl⟩ := hb
  obtain ⟨i, rfl⟩ := hi
  obtain ⟨j, rfl⟩ := hj
  refine ⟨fun d => max (∑ e, (i e - j e) * w d e + b d) 0, funext fun d => ?_⟩
  unfold hid
  rw [hw d]
  show _ = ((max (∑ e, (i e - j e) * w d e + b d) 0 : ℝ) : EReal)
  rw [EReal.coe_strictMono.monotone.map_max, EReal.coe_add, coe_sum]
  simp only [EReal.coe_mul, EReal.coe_sub, EReal.coe_zero]

section Layers

variable (f : Fin 256 → ℝ) (cj h : Fin 3 → ℝ) (pw : Fin 256 → Fin 256 → ℝ) (pb : Fin 256 → EReal) (qw : Fin 256 → Fin 3 → ℝ)
  (qb : Fin 256 → EReal) (sw : Fin 256 → Fin 3 → ℝ) (sb : Fin 256 → EReal) (g : Fin 256 → ℝ)

/-- One product of the plain layer, the biases apart. -/
theorem plain_term (e : Fin 256) :
    (((∑ x, (f x : EReal) * (pw e x : EReal) + pb e) - (∑ d, (cj d : EReal) * (qw e d : EReal) + qb e))
        + (∑ d, (h d : EReal) * (sw e d : EReal) + sb e)) * (g e : EReal)
      = (((∑ x, f x * pw e x - ∑ d, cj d * qw e d + ∑ d, h d * sw e d) * g e : ℝ) : EReal) + (pb e - qb e + sb e) * (g e : EReal) := by
  have c1 : (∑ x, (f x : EReal) * (pw e x : EReal)) = ((∑ x, f x * pw e x : ℝ) : EReal) := (coe_sum Finset.univ fun x => f x * pw e x).symm
  have c2 : (∑ d, (cj d : EReal) * (qw e d : EReal)) = ((∑ d, cj d * qw e d : ℝ) : EReal) := (coe_sum Finset.univ fun d => cj d * qw e d).symm
  have c3 : (∑ d, (h d : EReal) * (sw e d : EReal)) = ((∑ d, h d * sw e d : ℝ) : EReal) := (coe_sum Finset.univ fun d => h d * sw e d).symm
  rw [c1, c2, c3, gather_bias, coe_add_mul_coe]

/-- The fused layer without its biases. -/
theorem fused_coe :
    ∑ x, (f x : EReal) * (∑ e, (pw e x : EReal) * (g e : EReal))
        + (∑ d, (cj d : EReal) * (∑ e, -(qw e d : EReal) * (g e : EReal)) + ∑ d, (h d : EReal) * (∑ e, (sw e d : EReal) * (g e : EReal)))
      = ((∑ e, ((∑ x, f x * pw e x - ∑ d, cj d * qw e d) + ∑ d, h d * sw e d) * g e : ℝ) : EReal) := by
  rw [← fused_real]
  simp only [EReal.coe_add, EReal.coe_mul, EReal.coe_neg, coe_sum]

end Layers

/-- The two layers agree where all but the biases are finite. -/
theorem fused_eq {f : Fin 256 → EReal} {cj h : Fin 3 → EReal} {pw : Fin 256 → Fin 256 → EReal} (pb : Fin 256 → EReal)
    {qw : Fin 256 → Fin 3 → EReal} (qb : Fin 256 → EReal) {sw : Fin 256 → Fin 3 → EReal} (sb : Fin 256 → EReal)
    {g : Fin 256 → EReal} (gb : EReal) (hf : Finite' f) (hc : Finite' cj) (hh : Finite' h) (hpw : ∀ e, Finite' (pw e))
    (hqw : ∀ e, Finite' (qw e)) (hsw : ∀ e, Finite' (sw e))
    (hg : Finite' g) : fusedPre f cj h pw pb qw qb sw sb g gb = plainPre f cj h pw pb qw qb sw sb g gb := by
  choose pw' hpw using hpw
  choose qw' hqw using hqw
  choose sw' hsw using hsw
  obtain ⟨f, rfl⟩ := hf
  obtain ⟨cj, rfl⟩ := hc
  obtain ⟨h, rfl⟩ := hh
  obtain ⟨g, rfl⟩ := hg
  obtain rfl : pw = fun e x => (pw' e x : EReal) := funext hpw
  obtain rfl : qw = fun e x => (qw' e x : EReal) := funext hqw
  obtain rfl : sw = fun e x => (sw' e x : EReal) := funext hsw
  have hr := (Finset.sum_congr rfl fun e _ => plain_term f cj h pw' pb qw' qb sw' sb g e :
    (∑ e : Fin 256, _) = ∑ e : Fin 256, _).trans Finset.sum_add_distrib
  have hl := fused_coe f cj h pw' qw' sw' g
  rw [coe_sum] at hl
  rw [← hl] at hr
  have ac (a b x : EReal) : a + (b + gb) + x = a + x + b + gb := by ac_rfl
  exact (ac _ _ _).trans (congrArg (· + gb) hr.symm)

/-- Two sums over the halves of thirty-two lanes, only three of each of which carry a weight. -/
theorem sum_lanes (x : Fin 32 → EReal) (w : Fin 32 → EReal) (hl : ∀ m : Fin 16, 3 ≤ m.val → w (Fin.castAdd 16 m) = 0)
    (hr : ∀ m : Fin 16, 3 ≤ m.val → w (Fin.natAdd 16 m) = 0) :
    ∑ m, x m * w m = ∑ d : Fin 3, x (Fin.castAdd 16 (Fin.castAdd 13 d)) * w (Fin.castAdd 16 (Fin.castAdd 13 d))
      + ∑ d : Fin 3, x (Fin.natAdd 16 (Fin.castAdd 13 d)) * w (Fin.natAdd 16 (Fin.castAdd 13 d)) := by
  rw [Fin.sum_univ_add (a := 16) (b := 16), Fin.sum_univ_add (a := 3) (b := 13), Fin.sum_univ_add (a := 3) (b := 13)]
  rw [Finset.sum_eq_zero (s := (Finset.univ : Finset (Fin 13))) (f := fun i => x (Fin.castAdd 16 (Fin.natAdd 3 i)) * w (Fin.castAdd 16 (Fin.natAdd 3 i)))
      (fun i _ => by rw [hl _ (by simp), mul_zero]),
    Finset.sum_eq_zero (s := (Finset.univ : Finset (Fin 13))) (f := fun i => x (Fin.natAdd 16 (Fin.natAdd 3 i)) * w (Fin.natAdd 16 (Fin.natAdd 3 i)))
      (fun i _ => by rw [hr _ (by simp), mul_zero]), add_zero, add_zero]

/-- The same over sixteen lanes. -/
theorem sum_lanes16 (x w : Fin 16 → EReal) (hl : ∀ m : Fin 16, 3 ≤ m.val → w m = 0) :
    ∑ m, x m * w m = ∑ d : Fin 3, x (Fin.castAdd 13 d) * w (Fin.castAdd 13 d) := by
  rw [Fin.sum_univ_add (a := 3) (b := 13)]
  rw [Finset.sum_eq_zero (s := (Finset.univ : Finset (Fin 13))) (f := fun i => x (Fin.natAdd 3 i) * w (Fin.natAdd 3 i))
      (fun i _ => by rw [hl _ (by simp), mul_zero]), add_zero]

end Cert.Alg

end
-- ==== Proof.Alg.Pre.lean ====
/-
  What the second precondition says: the rows are in range, and the inputs it lists are finite.
-/
module

public import proofs.«01_k».proof.Defs
public import proofs.«01_k».proof.Proof.Gen.Pre_args_ok
public import proofs.«01_k».proof.Proof.Alg.Math
public import proofs.«01_k».proof.Proof.Alg.Rows
public import Idealize.ShloMosaic.Lib.ReduceAll

@[expose] public section

set_option maxRecDepth 16384

noncomputable section

namespace Cert.Alg

open Idealize.ShloMosaic

/-- A value whose magnitude lies below `+∞` is a real number. -/
theorem real_of (x : Ideal .f32) (e : FloatOps.cmpf (F := Ideal) .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  have e : Ideal.cmp .olt (max (x : EReal) (-(x : EReal))) (Ideal.ofBits .f32 0x7F800000#32) = 1#1 := e
  have e : BitVec.ofBool (decide (max (x : EReal) (-(x : EReal)) < ⊤)) = 1#1 := by rw [htop] at e; exact e
  have hlt : max (x : EReal) (-(x : EReal)) < ⊤ := by
    by_contra hn
    rw [decide_eq_false hn] at e
    exact absurd e (by decide)
  obtain ⟨h1, h2⟩ := max_lt_iff.1 hlt
  refine ⟨EReal.toReal x, (EReal.coe_toReal h1.ne ?_).symm⟩
  intro hb
  rw [hb] at h2
  exact absurd h2 (by simp)

instance : Subsingleton Cert.Pre_args_ok.S_.Idx := ⟨fun a b => funext fun i => i.elim0⟩

/-- An array that passes the printed test of finiteness holds real numbers. -/
theorem finite_of {s : Shape} {axes : List (Fin s.rank)} (x : FVec Ideal s .f32) (hb) (h : s.ReducesTo axes Cert.Pre_args_ok.S_) (hu : 0 < Cert.Pre_args_ok.S_.numel)
    (j : Cert.Pre_args_ok.S_.Idx)
    (e : Host.reduce IntOp.andi (cmpf .olt (Host.absf x) (broadcastInDim s ![] hb (constant Cert.Pre_args_ok.S_ .f32 0x7F800000#32)))
      (constantI Cert.Pre_args_ok.S_ 1 1#1) h hu j = 1#1) : Finite' (x : s.Idx → EReal) := by
  have h := fun i => real_of (x i) (Host.reduce_andi_all _ _ h hu j e i)
  choose r hr using h
  exact ⟨r, funext hr⟩

section Facts

open Cert.Pre_args_ok Cert.Pre_args_ok.Gen

/-- What the second precondition says of the arrays it lists. -/
structure ArgsOk (a0 : FVec Ideal S2x4096x3 .f32) (a1 : IVec S2x16x4096 32) (a2 : FVec Ideal S2x4096x256 .f32) (a3 : FVec Ideal S256x256 .f32)
    (a5 : FVec Ideal S256x3 .f32) (a7 : FVec Ideal S256x256 .f32)
    (a11 : FVec Ideal S3x3 .f32) (a12 : FVec Ideal S3 .f32) (a13 : FVec Ideal S256x3 .f32) : Prop where
  idx : ∀ j, (a1 j).toNat < 8192
  f0 : Finite' (a0 : _ → EReal)
  f2 : Finite' (a2 : _ → EReal)
  f3 : Finite' (a3 : _ → EReal)
  f5 : Finite' (a5 : _ → EReal)
  f7 : Finite' (a7 : _ → EReal)
  f11 : Finite' (a11 : _ → EReal)
  f12 : Finite' (a12 : _ → EReal)
  f13 : Finite' (a13 : _ → EReal)

theorem args_ok_of {a0 : FVec Ideal S2x4096x3 .f32} {a1 : IVec S2x16x4096 32} {a2 : FVec Ideal S2x4096x256 .f32} {a3 : FVec Ideal S256x256 .f32}
    {a4 : FVec Ideal S256 .f32} {a5 : FVec Ideal S256x3 .f32} {a6 : FVec Ideal S256 .f32} {a7 : FVec Ideal S256x256 .f32} {a8 : FVec Ideal S256 .f32}
    {a9 : FVec Ideal S256x256 .f32} {a10 : FVec Ideal S256 .f32}
    {a11 : FVec Ideal S3x3 .f32} {a12 : FVec Ideal S3 .f32} {a13 : FVec Ideal S256x3 .f32} {a14 : FVec Ideal S256 .f32} {a15 : FVec Ideal S256x3 .f32} {a16 : FVec Ideal S256 .f32}
    (h : Cert.Pre_args_ok.fn a0 a1 a2 a3 a4 a5 a6 a7 a8 a9 a10 a11 a12 a13 a14 a15 a16 = fun _ => 1#1) :
    ArgsOk a0 a1 a2 a3 a5 a7 a11 a12 a13 := by
  have e := congrFun h (Shape.Idx.first h_S_)
  unfold Cert.Pre_args_ok.fn Cert.Pre_args_ok.fn_part1 Cert.Pre_args_ok.fn_part2 at e
  have k13 := finite_of _ _ _ _ _ (IntOp.andi_eq_one.1 e).2
  replace e := (IntOp.andi_eq_one.1 e).1
  have k12 := finite_of _ _ _ _ _ (IntOp.andi_eq_one.1 e).2
  replace e := (IntOp.andi_eq_one.1 e).1
  have k11 := finite_of _ _ _ _ _ (IntOp.andi_eq_one.1 e).2
  replace e := (IntOp.andi_eq_one.1 e).1
  have k7 := finite_of _ _ _ _ _ (IntOp.andi_eq_one.1 e).2
  replace e := (IntOp.andi_eq_one.1 e).1
  have k5 := finite_of _ _ _ _ _ (IntOp.andi_eq_one.1 e).2
  replace e := (IntOp.andi_eq_one.1 e).1
  have k3 := finite_of _ _ _ _ _ (IntOp.andi_eq_one.1 e).2
  replace e := (IntOp.andi_eq_one.1 e).1
  have k2 := finite_of _ _ _ _ _ (IntOp.andi_eq_one.1 e).2
  replace e := (IntOp.andi_eq_one.1 e).1
  have k0 := finite_of _ _ _ _ _ (IntOp.andi_eq_one.1 e).2
  have g1 := (IntOp.andi_eq_one.1 e).1
  clear e h
  have k1 := fun j => word_lt _ (Host.reduce_andi_all _ _ _ _ _ g1 j)
  exact ⟨k1, k0, k2, k3, k5, k7, k11, k12, k13⟩

end Facts

end Cert.Alg

end
-- ==== Proof.FramesArgs.lean ====
/-
  The frames under the second precondition: each program runs to its end, leaves its arguments as they were, and every semaphore at zero.
-/
module

public import proofs.«01_k».proof.Defs
public import proofs.«01_k».proof.Proof.Ideal.Frame
public import proofs.«01_k».proof.Proof.Gen.ReferenceIdeal.Run
public import proofs.«01_k».proof.Proof.Alg.Pre
public import Idealize.ShloMosaic.Lib.Quiescent

@[expose] public section

noncomputable section

namespace Cert.Proof

open Idealize.ShloMosaic Idealize.SL.Sem

theorem frame_kernel_ideal_args_ok : Cert.quiescent_KernelIdeal_pre_args_ok := by
  intro m g hm
  refine (θ_run Cert.KernelIdeal.defs _ _).mono ?_ (Cert.KernelIdeal.Pf.run_post m g fun d j => (Cert.Alg.args_ok_of (hm d)).idx j)
  exact fun r h => ⟨fun c => (h.1 c).2, h.2⟩

theorem frame_reference_args_ok : Cert.quiescent_ReferenceIdeal_pre_args_ok := by
  intro m g _
  refine (θ_run Cert.ReferenceIdeal.defs _ _).mono ?_ (Cert.ReferenceIdeal.Value.run m g)
  exact fun r h => ⟨fun c => (h c).2, sem_eq_zero_of_no_sems rfl _⟩

end Cert.Proof

end
-- ==== Proof.Alg.HostVal.lean ====
/-
  The arrays the host lays out for the kernels, entry by entry: the padded coordinates and weights are the given ones on the first
  three lanes and zero beyond.
-/
module

public import proofs.«01_k».proof.Proof.Ideal.Base
public import Idealize.ShloMosaic.Lib.Pointwise
public import Idealize.ShloMosaic.Lib.Routing.OpsSet
public import Idealize.ShloMosaic.Lib.Routing.OpsPair
public import Idealize.ShloMosaic.Lib.Pipeline.Value

@[expose] public section

set_option maxRecDepth 16384

noncomputable section

namespace Cert.KernelIdeal.Pf

open Cert.KernelIdeal Cert.KernelIdeal.Gen

open Idealize.ShloMosaic Idealize.ShloMosaic.TcCoe

/-- Where the index words are zero, the window starts at the corner. -/
theorem start_zero {s si u : Shape} {w : Nat} (d : ScatterDims s si u) (k : u.Idx) (idx : IVec si w) (h : ∀ j, idx j = 0#w) (a : Fin s.rank) :
    d.start k idx a = 0 := by
  unfold ScatterDims.start
  split
  · rw [h]; exact BitVec.toInt_zero
  · rfl

/-- A scatter at the corner: the entry an update lands on holds that update. -/
theorem corner_hit {α : Type} {s si u : Shape} {w : Nat} (d : ScatterDims s si u) (x : s.Idx → α) (idx : IVec si w) (upd : u.Idx → α) (ι : s.Idx)
    (h : ∀ j, idx j = 0#w) (k : u.Idx) (hk : ∀ a, d.window k a = (ι a).val) (inj : ∀ k', (∀ a, d.window k' a = (ι a).val) → k' = k) :
    Host.scatter d (fun _ b => b) x idx upd ι = upd k := by
  refine Routing.scatter_set_hit d x idx upd ι _ (fun k' hk' => congrArg upd (inj k' fun a => ?_)) k ?_
  · have := (Routing.resultIdx?_eq_some d k' idx ι).1 hk' a
    rw [start_zero d k' idx h] at this
    omega
  · refine (Routing.resultIdx?_eq_some d k idx ι).2 fun a => ?_
    rw [start_zero d k idx h, hk]
    omega

/-- An entry no update lands on is as before. -/
theorem corner_miss {α : Type} {s si u : Shape} {w : Nat} (d : ScatterDims s si u) (x : s.Idx → α) (idx : IVec si w) (upd : u.Idx → α) (ι : s.Idx)
    (h : ∀ j, idx j = 0#w) (a : Fin s.rank) (hm : ∀ k, d.window k a ≠ (ι a).val) :
    Host.scatter d (fun _ b => b) x idx upd ι = x ι := by
  refine Routing.scatter_set_miss d x idx upd ι fun k hk => hm k ?_
  have := (Routing.resultIdx?_eq_some d k idx ι).1 hk a
  rw [start_zero d k idx h] at this
  omega

/-- One and two zero words. -/
def zero1 : IVec S1 32 := broadcastInDim S1 ![] bcast_S_S1 (constantI S_ 32 0#32)
def zero2 : IVec S2 32 := concatenate S2 0 [⟨S1, zero1⟩, ⟨S1, zero1⟩] concatenates_S1_S1_S2_d0
theorem zero1_apply (j : S1.Idx) : zero1 j = 0#32 := rfl
theorem zero2_apply (j : S2.Idx) : zero2 j = 0#32 := by
  rw [show j = ix1 (j 0) from funext fun a => by match a with | ⟨0, _⟩ => rfl]
  generalize (j 0 : Fin 2) = p
  fin_cases p <;> pointwise [zero2, zero1]

/-- The coordinates on sixteen lanes. -/
def padC (a0 : FVec Ideal S2x4096x3 .f32) : FVec Ideal S2x4096x16 .f32 :=
  Host.scatter scatter_S2x4096x16_S1_S2x4096x3_012_n_2_0 (fun _ b => b) (broadcastInDim S2x4096x16 ![] bcast_S_S2x4096x16 (constant S_ .f32 0x00000000#32)) zero1 a0
/-- A weight of three lanes on sixteen. -/
def pad3 (w : FVec Ideal S256x3 .f32) : FVec Ideal S16x256 .f32 :=
  Host.scatter scatter_S16x256_S1_S3x256_01_n_0_0 (fun _ b => b) (broadcastInDim S16x256 ![] bcast_S_S16x256 (constant S_ .f32 0x00000000#32)) zero1
    (transpose S3x256 [1, 0] w transposes_S256x3_S3x256_1_0)
/-- Two such weights, one under the other; the first of them negated. -/
def catV (w w' : FVec Ideal S256x3 .f32) : FVec Ideal S32x256 .f32 :=
  concatenate S32x256 0 [⟨S16x256, pad3 w⟩, ⟨S16x256, pad3 w'⟩] concatenates_S16x256_S16x256_S32x256_d0
def catA (w w' : FVec Ideal S256x3 .f32) : FVec Ideal S32x256 .f32 :=
  concatenate S32x256 0 [⟨S16x256, Host.negf (pad3 w)⟩, ⟨S16x256, pad3 w'⟩] concatenates_S16x256_S16x256_S32x256_d0
/-- The offset layer's weight and bias on sixteen lanes. -/
def padS (w : FVec Ideal S3x3 .f32) : FVec Ideal S16x16 .f32 :=
  Host.scatter scatter_S16x16_S2_S3x3_01_n_01_0 (fun _ b => b) (broadcastInDim S16x16 ![] bcast_S_S16x16 (constant S_ .f32 0x00000000#32)) zero2
    (transpose S3x3 [1, 0] w transposes_S3x3_S3x3_1_0)
def padB (v : FVec Ideal S3 .f32) : FVec Ideal S1x16 .f32 :=
  Host.scatter scatter_S1x16_S2_S3_0_0_01_0 (fun _ b => b) (broadcastInDim S1x16 ![] bcast_S_S1x16 (constant S_ .f32 0x00000000#32)) zero2 v

theorem padC_apply (a0 : FVec Ideal S2x4096x3 .f32) (b : Fin 2) (n : Fin 4096) (d : Fin 3) :
    padC a0 (ix3 b n (⟨d.val, by omega⟩ : Fin 16)) = a0 (ix3 b n d) := by
  refine corner_hit _ _ _ _ _ zero1_apply (ix3 b n d) (fun a => ?_) fun k hk => funext fun a => Fin.ext ?_
  · match a with
    | ⟨0, _⟩ => rfl
    | ⟨1, _⟩ => rfl
    | ⟨2, _⟩ => rfl
  · match a with
    | ⟨0, _⟩ => exact hk 0
    | ⟨1, _⟩ => exact hk 1
    | ⟨2, _⟩ => exact hk 2

theorem pad3_lo (w : FVec Ideal S256x3 .f32) (d : Fin 3) (l : Fin 256) : pad3 w (ix2 (⟨d.val, by omega⟩ : Fin 16) l) = w (ix2 l d) := by
  refine (corner_hit _ _ _ _ _ zero1_apply (ix2 d l) (fun a => ?_) fun k hk => funext fun a => Fin.ext ?_).trans ?_
  · match a with
    | ⟨0, _⟩ => rfl
    | ⟨1, _⟩ => rfl
  · match a with
    | ⟨0, _⟩ => exact hk 0
    | ⟨1, _⟩ => exact hk 1
  · pointwise
theorem pad3_hi (w : FVec Ideal S256x3 .f32) (m : Fin 16) (hm : 3 ≤ m.val) (l : Fin 256) : pad3 w (ix2 m l) = (0 : EReal) := by
  refine (corner_miss _ _ _ _ _ zero1_apply 0 fun k hk => ?_).trans ?_
  · have h : (k 0).val = m.val := hk
    have : (k 0).val < 3 := (k 0).isLt
    omega
  · pointwise

theorem padS_lo (w : FVec Ideal S3x3 .f32) (e d : Fin 3) : padS w (ix2 (⟨e.val, by omega⟩ : Fin 16) (⟨d.val, by omega⟩ : Fin 16)) = w (ix2 d e) := by
  refine (corner_hit _ _ _ _ _ zero2_apply (ix2 e d) (fun a => ?_) fun k hk => funext fun a => Fin.ext ?_).trans ?_
  · match a with
    | ⟨0, _⟩ => rfl
    | ⟨1, _⟩ => rfl
  · match a with
    | ⟨0, _⟩ => exact hk 0
    | ⟨1, _⟩ => exact hk 1
  · pointwise
theorem padS_hi (w : FVec Ideal S3x3 .f32) (m : Fin 16) (hm : 3 ≤ m.val) (d : Fin 16) : padS w (ix2 m d) = (0 : EReal) := by
  refine (corner_miss _ _ _ _ _ zero2_apply 0 fun k hk => ?_).trans ?_
  · have h : (k 0).val = m.val := hk
    have : (k 0).val < 3 := (k 0).isLt
    omega
  · pointwise

theorem padB_lo (v : FVec Ideal S3 .f32) (d : Fin 3) : padB v (ix2 0 (⟨d.val, by omega⟩ : Fin 16)) = v (ix1 d) := by
  refine corner_hit _ _ _ _ _ zero2_apply (ix1 d) (fun a => ?_) fun k hk => funext fun a => Fin.ext ?_
  · match a with
    | ⟨0, _⟩ => rfl
    | ⟨1, _⟩ => rfl
  · match a with
    | ⟨0, _⟩ => exact hk 1

section
variable (w w' : FVec Ideal S256x3 .f32) (d : Fin 3) (l : Fin 256) (m : Fin 16)

theorem catV_fst : catV w w' (ix2 (⟨m.val, by omega⟩ : Fin 32) l) = pad3 w (ix2 m l) := by
  refine concatenate_pair_apply_left (t := S32x256) (s₁ := S16x256) (s₂ := S16x256) 0 _ _ _ _ rfl (ix2 m l) fun a => ?_
  match a with
  | ⟨0, _⟩ => rfl
  | ⟨1, _⟩ => rfl
theorem catA_fst : catA w w' (ix2 (⟨m.val, by omega⟩ : Fin 32) l) = -(pad3 w (ix2 m l) : EReal) := by
  refine concatenate_pair_apply_left (t := S32x256) (s₁ := S16x256) (s₂ := S16x256) 0 (Host.negf (pad3 w)) _ _ _ rfl (ix2 m l) fun a => ?_
  match a with
  | ⟨0, _⟩ => rfl
  | ⟨1, _⟩ => rfl
theorem catV_snd : catV w w' (ix2 (⟨16 + m.val, by omega⟩ : Fin 32) l) = pad3 w' (ix2 m l) := by
  refine concatenate_pair_apply_right (t := S32x256) (s₁ := S16x256) (s₂ := S16x256) 0 _ _ _ _ rfl rfl (ix2 m l) (fun a ha => ?_) (Nat.add_comm m.val 16)
  match a with
  | ⟨0, _⟩ => exact absurd rfl ha
  | ⟨1, _⟩ => rfl
theorem catA_snd : catA w w' (ix2 (⟨16 + m.val, by omega⟩ : Fin 32) l) = pad3 w' (ix2 m l) := by
  refine concatenate_pair_apply_right (t := S32x256) (s₁ := S16x256) (s₂ := S16x256) 0 _ _ _ _ rfl rfl (ix2 m l) (fun a ha => ?_) (Nat.add_comm m.val 16)
  match a with
  | ⟨0, _⟩ => exact absurd rfl ha
  | ⟨1, _⟩ => rfl

end

/-- The gathered rows of the padded coordinates. -/
def knn (a0 : FVec Ideal S2x4096x3 .f32) (a1 : IVec S2x16x4096 32) : FVec Ideal S2x16x4096x16 .f32 :=
  shapeCast S2x16x4096x16 (gath (F := Ideal) (shapeCast S8192x16 (padC a0) shapeCasts_S2x4096x16_S8192x16)
    (shapeCast S131072 a1 shapeCasts_S2x16x4096_S131072) : FVec Ideal S131072x16 .f32) shapeCasts_S131072x16_S2x16x4096x16

theorem table_apply (x : FVec Ideal S2x4096x16 .f32) (ρ : Fin 8192) (d : Fin 16) : shapeCast S8192x16 x shapeCasts_S2x4096x16_S8192x16 (ix2 ρ d)
    = x (ix3 (⟨ρ.val / 4096, by omega⟩ : Fin 2) (⟨ρ.val % 4096, by omega⟩ : Fin 4096) d) := by
  pointwise
theorem flat_at (x : IVec S2x16x4096 32) (j : Fin 131072) : shapeCast S131072 x shapeCasts_S2x16x4096_S131072 (ix1 j)
    = x (ix3 (⟨j.val / 65536, by omega⟩ : Fin 2) (⟨j.val / 4096 % 16, by omega⟩ : Fin 16) (⟨j.val % 4096, by omega⟩ : Fin 4096)) := by
  pointwise
theorem flat_apply (x : IVec S2x16x4096 32) (b : Fin 2) (k : Fin 16) (n : Fin 4096) :
    shapeCast S131072 x shapeCasts_S2x16x4096_S131072 (ix1 (⟨b.val * 65536 + k.val * 4096 + n.val, by omega⟩ : Fin 131072)) = x (ix3 b k n) := by
  refine (flat_at x _).trans (congrArg x (funext fun a => Fin.ext ?_))
  match a with
  | ⟨0, _⟩ => show (b.val * 65536 + k.val * 4096 + n.val) / 65536 = b.val; omega
  | ⟨1, _⟩ => show (b.val * 65536 + k.val * 4096 + n.val) / 4096 % 16 = k.val; omega
  | ⟨2, _⟩ => show (b.val * 65536 + k.val * 4096 + n.val) % 4096 = n.val; omega
theorem rows_apply (x : FVec Ideal S131072x16 .f32) (b : Fin 2) (k : Fin 16) (n : Fin 4096) (d : Fin 16) :
    shapeCast S2x16x4096x16 x shapeCasts_S131072x16_S2x16x4096x16 (ix4 b k n d) = x (ix2 (⟨b.val * 65536 + k.val * 4096 + n.val, by omega⟩ : Fin 131072) d) := by
  pointwise

/-- A neighbour's gathered coordinates are those of the point its index names. -/
theorem knn_apply (a0 : FVec Ideal S2x4096x3 .f32) (a1 : IVec S2x16x4096 32) (b : Fin 2) (k : Fin 16) (n : Fin 4096) (d : Fin 3)
    (h : (a1 (ix3 b k n)).toNat < 8192) :
    knn a0 a1 (ix4 b k n (⟨d.val, by omega⟩ : Fin 16))
      = a0 (ix3 (⟨(a1 (ix3 b k n)).toNat / 4096, by omega⟩ : Fin 2) (⟨(a1 (ix3 b k n)).toNat % 4096, by omega⟩ : Fin 4096) d) := by
  unfold knn
  rw [rows_apply]
  have e : gath (F := Ideal) (shapeCast S8192x16 (padC a0) shapeCasts_S2x4096x16_S8192x16) (shapeCast S131072 a1 shapeCasts_S2x16x4096_S131072)
      (ix2 (⟨b.val * 65536 + k.val * 4096 + n.val, by omega⟩ : Fin 131072) (⟨d.val, by omega⟩ : Fin 16))
      = shapeCast S8192x16 (padC a0) shapeCasts_S2x4096x16_S8192x16 (ix2 (⟨(a1 (ix3 b k n)).toNat, h⟩ : Fin 8192) (⟨d.val, by omega⟩ : Fin 16)) := by
    unfold gath
    refine congrArg (shapeCast S8192x16 (padC a0) shapeCasts_S2x4096x16_S8192x16) (funext fun a => Fin.ext ?_)
    match a with
    | ⟨0, _⟩ =>
      have hf := flat_apply a1 b k n
      show (shapeCast S131072 a1 shapeCasts_S2x16x4096_S131072 _ : BitVec 32).toNat % 8192 = (a1 (ix3 b k n)).toNat
      rw [← hf] at h ⊢
      refine (congrArg (fun i => (shapeCast S131072 a1 shapeCasts_S2x16x4096_S131072 i : BitVec 32).toNat % 8192) (funext fun a => ?_)).trans (Nat.mod_eq_of_lt h)
      match a with
      | ⟨0, _⟩ => rfl
    | ⟨1, _⟩ => rfl
  rw [e, table_apply, padC_apply]

end Cert.KernelIdeal.Pf

end
-- ==== Proof.Alg.KerHost.lean ====
/-
  What the attention kernel's operands hold: each is a host layout of the program's arguments.
-/
module

public import proofs.«01_k».proof.Proof.Ideal.Frame
public import proofs.«01_k».proof.Proof.Alg.HostVal

@[expose] public section

set_option maxRecDepth 16384

noncomputable section

namespace Cert.KernelIdeal.Pf

open Cert.KernelIdeal Cert.KernelIdeal.Gen

open Idealize.ShloMosaic Idealize.ShloMosaic.TcCoe

variable (m : (ℓ : Loc nD τ sig) → Buf (Elt Ideal) ℓ) (c : Dev nD)

/-- A row of 256. -/
def row (v : FVec Ideal S256 .f32) : FVec Ideal S1x256 .f32 := broadcastInDim S1x256 ![1] bcast_S256_S1x256_1 v
/-- A square weight transposed. -/
def turn (w : FVec Ideal S256x256 .f32) : FVec Ideal S256x256 .f32 := transpose S256x256 [1, 0] w transposes_S256x256_S256x256_1_0

theorem row_apply (v : FVec Ideal S256 .f32) (l : Fin 256) : row v (ix2 0 l) = v (ix1 l) := by pointwise [row]
theorem turn_apply (w : FVec Ideal S256x256 .f32) (x l : Fin 256) : turn w (ix2 x l) = w (ix2 l x) := by pointwise [turn]

theorem cat_congr {x x' y y' : FVec Ideal S16x256 .f32} (hx : x = x') (hy : y = y') :
    concatenate S32x256 0 [⟨S16x256, x⟩, ⟨S16x256, y⟩] concatenates_S16x256_S16x256_S32x256_d0
      = concatenate S32x256 0 [⟨S16x256, x'⟩, ⟨S16x256, y'⟩] concatenates_S16x256_S16x256_S32x256_d0 := by rw [hx, hy]

/-- Argument `b` of the program. -/
abbrev arg (b : Ref sig .tc) : (Proc.devRef (τ := τ) .tc b).ty.Contents (Elt Ideal) := m (c, Proc.devRef .tc b)

theorem VR_features : VR m c main_arg2 = arg m c main_arg2 := V3_arg m c main_arg2 (by decide)

theorem VR_coords : VR m c main_v2 = padC (arg m c main_arg0) := by
  refine (V3_keep m c main_v2 (by decide)).trans ((V2_ne m c _ (devRef_ne (by decide))).trans ?_)
  unfold V1 opsA
  after_results_simp
  rfl
theorem tab0_val : tab0 m c = shapeCast S8192x16 (padC (arg m c main_arg0)) shapeCasts_S2x4096x16_S8192x16 := by
  unfold tab0 V1 opsA
  after_results_simp
  rfl
theorem idx0_val : idx0 m c = shapeCast S131072 (arg m c main_arg1) shapeCasts_S2x16x4096_S131072 := by
  unfold idx0 V1 opsA
  after_results_simp
  rfl
theorem VR_nbrs : VR m c main_v6 = knn (arg m c main_arg0) (arg m c main_arg1) := by
  unfold VR V3 opsB
  after_results_simp
  rw [V2_out, tab0_val, idx0_val]
  rfl
theorem VR_v16 : VR m c main_v16 = catA (arg m c main_arg5) (arg m c main_arg13) := by
  unfold VR V3 opsB
  after_results_simp
  refine cat_congr ?_ ?_
  · after_results_simp
    rw [V2_keep m c main_arg5 (by decide)]
    rfl
  · after_results_simp
    rw [V2_keep m c main_arg13 (by decide)]
    rfl
theorem VR_v25 : VR m c main_v25 = catV (arg m c main_arg15) (arg m c main_arg13) := by
  unfold VR V3 opsB
  after_results_simp
  refine cat_congr ?_ ?_
  · after_results_simp
    rw [V2_keep m c main_arg15 (by decide)]
    rfl
  · after_results_simp
    rw [V2_keep m c main_arg13 (by decide)]
    rfl
theorem VR_v31 : VR m c main_v31 = padS (arg m c main_arg11) := by
  unfold VR V3 opsB
  after_results_simp
  rw [V2_keep m c main_arg11 (by decide)]
  rfl
theorem VR_v36 : VR m c main_v36 = padB (arg m c main_arg12) := by
  unfold VR V3 opsB
  after_results_simp
  rw [V2_keep m c main_arg12 (by decide)]
  rfl
theorem VR_v39 : VR m c main_v39 = row (addf (subf (arg m c main_arg4) (arg m c main_arg6)) (arg m c main_arg14)) := by
  unfold VR V3 opsB
  after_results_simp
  rw [V2_keep m c main_arg4 (by decide), V2_keep m c main_arg6 (by decide), V2_keep m c main_arg14 (by decide)]
  rfl
theorem VR_v41 : VR m c main_v41 = row (addf (arg m c main_arg16) (arg m c main_arg14)) := by
  unfold VR V3 opsB
  after_results_simp
  rw [V2_keep m c main_arg16 (by decide), V2_keep m c main_arg14 (by decide)]
  rfl
theorem VR_v42 : VR m c main_v42 = turn (arg m c main_arg3) := by
  unfold VR V3 opsB
  after_results_simp
  rw [V2_keep m c main_arg3 (by decide)]
  rfl
theorem VR_v43 : VR m c main_v43 = turn (arg m c main_arg7) := by
  unfold VR V3 opsB
  after_results_simp
  rw [V2_keep m c main_arg7 (by decide)]
  rfl
theorem VR_v44 : VR m c main_v44 = turn (arg m c main_arg9) := by
  unfold VR V3 opsB
  after_results_simp
  rw [V2_keep m c main_arg9 (by decide)]
  rfl
theorem VR_v45 : VR m c main_v45 = row (arg m c main_arg8) := by
  unfold VR V3 opsB
  after_results_simp
  rw [V2_keep m c main_arg8 (by decide)]
  rfl
theorem VR_v46 : VR m c main_v46 = row (arg m c main_arg10) := by
  unfold VR V3 opsB
  after_results_simp
  rw [V2_keep m c main_arg10 (by decide)]
  rfl

end Cert.KernelIdeal.Pf

end
-- ==== Proof.Alg.KerStep.lean ====
/-
  One grid point of the attention kernel in exact arithmetic, entry by entry.
-/
module

public import proofs.«01_k».proof.Proof.Ideal.AttnVal

@[expose] public section

set_option maxRecDepth 16384

noncomputable section

namespace Cert.KernelIdeal.Pf

open Cert.KernelIdeal Cert.KernelIdeal.Gen

open Idealize.ShloMosaic Idealize.ShloMosaic.TcCoe

variable (x0 : Vec Ideal S1x256x256 .f32) (x1 : Vec Ideal S1x256x16 .f32) (x5 : Vec Ideal S256x256 .f32) (x7 : Vec Ideal S32x256 .f32)
  (x8 : Vec Ideal S16x16 .f32) (x9 : Vec Ideal S1x16 .f32) (x12 x13 : Vec Ideal S1x256 .f32) (af : Vec Ideal S256x256 .f32)
  (uc : Vec Ideal S32x256 .f32) (bu : Vec Ideal S1x256 .f32)

/-- The hidden units of a neighbour, on sixteen lanes. -/
def stepH (c : Vec Ideal S1x1x256x16 .f32) (r : Fin 256) (d : Fin 16) : EReal :=
  max (∑ y : Fin 16, (x1 (ix3 0 r y) - c (ix4 0 0 r y)) * x8 (ix2 y d) + x9 (ix2 0 d)) 0

/-- Thirty-two lanes, the coordinates and then the hidden units, through a weight. -/
def stepCat (w : Vec Ideal S32x256 .f32) (c : Vec Ideal S1x1x256x16 .f32) (r l : Fin 256) : EReal :=
  ∑ y : Fin 16, c (ix4 0 0 r y) * w (ix2 (⟨y.val, by omega⟩ : Fin 32) l) + ∑ y : Fin 16, stepH x1 x8 x9 c r y * w (ix2 (⟨16 + y.val, by omega⟩ : Fin 32) l)

/-- The logits of a neighbour. -/
def stepL (c : Vec Ideal S1x1x256x16 .f32) (r l : Fin 256) : EReal :=
  ∑ x : Fin 256, max ((∑ y : Fin 256, x0 (ix3 0 r y) * af (ix2 y x) + bu (ix2 0 x)) + stepCat x1 x8 x9 uc c r x) 0 * x5 (ix2 x l) + x12 (ix2 0 l)

theorem nbrStep_apply (acc : FVec Ideal S256x256 .f32) (c : Vec Ideal S1x1x256x16 .f32) (r l : Fin 256) :
    nbrStep x0 x1 x5 x7 x8 x9 x12 x13 af uc bu acc c (ix2 r l)
      = acc (ix2 r l)
        + Ideal.div (Ideal.exp (stepL x0 x1 x5 x8 x9 x12 af uc bu c r l
              - Finset.fold max (Ideal.ofBits FTy.f32 0xFF800000#32) (fun e : Fin 256 => stepL x0 x1 x5 x8 x9 x12 af uc bu c r e) Finset.univ))
            (∑ x : Fin 256, Ideal.exp (stepL x0 x1 x5 x8 x9 x12 af uc bu c r x
              - Finset.fold max (Ideal.ofBits FTy.f32 0xFF800000#32) (fun e : Fin 256 => stepL x0 x1 x5 x8 x9 x12 af uc bu c r e) Finset.univ))
          * (stepCat x1 x8 x9 x7 c r l + x13 (ix2 0 l)) := by
  unfold stepL stepCat stepH
  pointwise [nbrStep, k1_pay15, k1_pay6, k1_pay7, k1_pay8, k1_pay9, k1_pay10, k1_pay11, k1_pay12, k1_pay13]

theorem afOf_apply (x3 x4 : Vec Ideal S256x256 .f32) (r l : Fin 256) : afOf x3 x4 (ix2 r l) = ∑ e : Fin 256, x3 (ix2 r e) * x4 (ix2 e l) := by
  pointwise [afOf, k1_pay3, k1_pay2]
theorem ucOf_apply (x4 : Vec Ideal S256x256 .f32) (x6 : Vec Ideal S32x256 .f32) (r : Fin 32) (l : Fin 256) :
    ucOf x4 x6 (ix2 r l) = ∑ e : Fin 256, x6 (ix2 r e) * x4 (ix2 e l) := by
  pointwise [ucOf, k1_pay4, k1_pay2]
theorem buOf_apply (x4 : Vec Ideal S256x256 .f32) (x10 x11 : Vec Ideal S1x256 .f32) (l : Fin 256) :
    buOf x4 x10 x11 (ix2 0 l) = ∑ e : Fin 256, x10 (ix2 0 e) * x4 (ix2 e l) + x11 (ix2 0 l) := by
  pointwise [buOf, k1_pay5, k1_pay2]

/-- A neighbour's contribution to an entry of the block. -/
def stepOut (c : Vec Ideal S1x1x256x16 .f32) (r l : Fin 256) : EReal :=
  Ideal.div (Ideal.exp (stepL x0 x1 x5 x8 x9 x12 af uc bu c r l
        - Finset.fold max (Ideal.ofBits FTy.f32 0xFF800000#32) (fun e : Fin 256 => stepL x0 x1 x5 x8 x9 x12 af uc bu c r e) Finset.univ))
      (∑ x : Fin 256, Ideal.exp (stepL x0 x1 x5 x8 x9 x12 af uc bu c r x
        - Finset.fold max (Ideal.ofBits FTy.f32 0xFF800000#32) (fun e : Fin 256 => stepL x0 x1 x5 x8 x9 x12 af uc bu c r e) Finset.univ))
    * (stepCat x1 x8 x9 x7 c r l + x13 (ix2 0 l))

theorem foldl_apply (x2 : Vec Ideal S1x16x256x16 .f32) (r l : Fin 256) (L : List (Fin 16)) (acc : FVec Ideal S256x256 .f32) :
    (L.foldl (fun acc k => nbrStep x0 x1 x5 x7 x8 x9 x12 x13 af uc bu acc (nbr x2 k)) acc) (ix2 r l)
      = acc (ix2 r l) + (L.map fun k => stepOut x0 x1 x5 x7 x8 x9 x12 x13 af uc bu (nbr x2 k) r l).sum := by
  induction L generalizing acc with
  | nil => exact (add_zero (acc (ix2 r l) : EReal)).symm
  | cons k L ih =>
    rw [List.foldl_cons, ih, List.map_cons, List.sum_cons, nbrStep_apply, ← add_assoc]
    rfl

theorem attnBlk_apply (x2 : Vec Ideal S1x16x256x16 .f32) (r l : Fin 256) :
    attnBlk x0 x1 x2 x5 x7 x8 x9 x12 x13 af uc bu (ix3 0 r l) = ∑ k : Fin 16, stepOut x0 x1 x5 x7 x8 x9 x12 x13 af uc bu (nbr x2 k) r l := by
  have h (v : FVec Ideal S256x256 .f32) : shapeCast S1x256x256 v shapeCasts_S256x256_S1x256x256 (ix3 0 r l) = v (ix2 r l) := by
    pointwise
  have z : (k1_pay14 : FVec Ideal S256x256 .f32) (ix2 r l) = (0 : EReal) := by
    pointwise [k1_pay14]
  unfold attnBlk
  rw [h, foldl_apply, z, zero_add, Fin.sum_univ_def]

end Cert.KernelIdeal.Pf

end
-- ==== Proof.Alg.RefOps.lean ====
/-
  The reference's result as a composition of a few named steps, each read at an index.
-/
module

public import proofs.«01_k».proof.Proof.Gen.ReferenceIdeal.Run
public import Idealize.ShloMosaic.Lib.Pointwise

@[expose] public section

set_option maxRecDepth 16384

noncomputable section

namespace Cert.ReferenceIdeal.Steps

open Cert.ReferenceIdeal Cert.ReferenceIdeal.Gen

open Idealize.ShloMosaic Idealize.ShloMosaic.TcCoe

/-- The coordinates of every point's neighbours, `[batch, point, neighbour, axis]`. -/
def nbrs (a0 : FVec Ideal S2x4096x3 .f32) (a1 : IVec S2x16x4096 32) : FVec Ideal S2x4096x16x3 .f32 :=
  transpose S2x4096x16x3 [0, 2, 1, 3] (Host.gather gather_S8192x3_S2x16x4096x1_S2x16x4096x3_3_0_n_n_0_3_13 (shapeCast _ a0 shapeCasts_S2x4096x3_S8192x3) (broadcastInDim S2x16x4096x1 ![0, 1, 2] bcast_S2x16x4096_S2x16x4096x1_0_1_2 (select (cmpi .slt a1 (broadcastInDim S2x16x4096 ![] bcast_S_S2x16x4096 (constantI S_ 32 0#32))) (addi a1 (broadcastInDim S2x16x4096 ![] bcast_S_S2x16x4096 (constantI S_ 32 8192#32))) a1))) transposes_S2x16x4096x3_S2x4096x16x3_0_2_1_3

/-- The offset layer's hidden units. -/
def hidden (a0 : FVec Ideal S2x4096x3 .f32) (x : FVec Ideal S2x4096x16x3 .f32) (a11 : FVec Ideal S3x3 .f32) (a12 : FVec Ideal S3 .f32) : FVec Ideal S2x4096x16x3 .f32 :=
  maximumf (addf (Host.dotGeneral dot_S2x4096x16x3_S3x3_S2x4096x16x3_3_0_012_1_n_n none (subf (broadcastInDim S2x4096x16x3 ![0, 1, 2, 3] bcast_S2x4096x1x3_S2x4096x16x3_0_1_2_3 (broadcastInDim S2x4096x1x3 ![0, 1, 3] bcast_S2x4096x3_S2x4096x1x3_0_1_3 a0)) x) (transpose S3x3 [1, 0] a11 transposes_S3x3_S3x3_1_0)) (broadcastInDim S2x4096x16x3 ![0, 1, 2, 3] bcast_S1x1x1x3_S2x4096x16x3_0_1_2_3 (broadcastInDim S1x1x1x3 ![3] bcast_S3_S1x1x1x3_3 a12))) (broadcastInDim S2x4096x16x3 ![] bcast_S_S2x4096x16x3 (constant S_ .f32 0x00000000#32))

/-- A linear layer from three lanes to the channels, at every neighbour. -/
def lin3 (x : FVec Ideal S2x4096x16x3 .f32) (w : FVec Ideal S256x3 .f32) (b : FVec Ideal S256 .f32) : FVec Ideal S2x4096x16x256 .f32 :=
  addf (Host.dotGeneral dot_S2x4096x16x3_S3x256_S2x4096x16x256_3_0_012_1_n_n none x (transpose S3x256 [1, 0] w transposes_S256x3_S3x256_1_0)) (broadcastInDim S2x4096x16x256 ![0, 1, 2, 3] bcast_S1x1x1x256_S2x4096x16x256_0_1_2_3 (broadcastInDim S1x1x1x256 ![3] bcast_S256_S1x1x1x256_3 b))

/-- A linear layer of the channels, at every neighbour. -/
def lin256 (x : FVec Ideal S2x4096x16x256 .f32) (w : FVec Ideal S256x256 .f32) (b : FVec Ideal S256 .f32) : FVec Ideal S2x4096x16x256 .f32 :=
  addf (Host.dotGeneral dot_S2x4096x16x256_S256x256_S2x4096x16x256_3_0_012_1_n_n none x (transpose S256x256 [1, 0] w transposes_S256x256_S256x256_1_0)) (broadcastInDim S2x4096x16x256 ![0, 1, 2, 3] bcast_S1x1x1x256_S2x4096x16x256_0_1_2_3 (broadcastInDim S1x1x1x256 ![3] bcast_S256_S1x1x1x256_3 b))

/-- The features' layer, the same for every neighbour. -/
def query (a2 : FVec Ideal S2x4096x256 .f32) (w : FVec Ideal S256x256 .f32) (b : FVec Ideal S256 .f32) : FVec Ideal S2x4096x16x256 .f32 :=
  broadcastInDim S2x4096x16x256 ![0, 1, 2, 3] bcast_S2x4096x1x256_S2x4096x16x256_0_1_2_3 (addf (Host.dotGeneral dot_S2x4096x1x256_S256x256_S2x4096x1x256_3_0_012_1_n_n none (broadcastInDim S2x4096x1x256 ![0, 1, 3] bcast_S2x4096x256_S2x4096x1x256_0_1_3 a2) (transpose S256x256 [1, 0] w transposes_S256x256_S256x256_1_0)) (broadcastInDim S2x4096x1x256 ![0, 1, 2, 3] bcast_S1x1x1x256_S2x4096x1x256_0_1_2_3 (broadcastInDim S1x1x1x256 ![3] bcast_S256_S1x1x1x256_3 b)))

/-- The positive part. -/
def relu (x : FVec Ideal S2x4096x16x256 .f32) : FVec Ideal S2x4096x16x256 .f32 :=
  maximumf x (broadcastInDim S2x4096x16x256 ![] bcast_S_S2x4096x16x256 (constant S_ .f32 0x00000000#32))

/-- The exponentials of the logits less their row's largest, `y`. -/
def less (x : FVec Ideal S2x4096x16x256 .f32) (y : FVec Ideal S2x4096x16 .f32) : FVec Ideal S2x4096x16x256 .f32 :=
  Host.exp (subf x (broadcastInDim S2x4096x16x256 ![0, 1, 2, 3] bcast_S2x4096x16x1_S2x4096x16x256_0_1_2_3 (broadcastInDim S2x4096x16x1 ![0, 1, 2] bcast_S2x4096x16_S2x4096x16x1_0_1_2 (maximumf (broadcastInDim S2x4096x16 ![] bcast_S_S2x4096x16 (constant S_ .f32 0xFF800000#32)) y))))

/-- The same with the largest taken. -/
def expo (x : FVec Ideal S2x4096x16x256 .f32) : FVec Ideal S2x4096x16x256 .f32 :=
  less x (Host.reduce FloatOps.maximumf x (constant S_ .f32 0xFF800000#32) reducesTo_S2x4096x16x256_S2x4096x16_d3 h_S_)

/-- The weights: the exponentials over their row's sum. -/
def weights (e : FVec Ideal S2x4096x16x256 .f32) : FVec Ideal S2x4096x16x256 .f32 :=
  Host.divf e (broadcastInDim S2x4096x16x256 ![0, 1, 2, 3] bcast_S2x4096x16x1_S2x4096x16x256_0_1_2_3 (broadcastInDim S2x4096x16x1 ![0, 1, 2] bcast_S2x4096x16_S2x4096x16x1_0_1_2 (Host.reduceAdd e (constant S_ .f32 0x00000000#32) reducesTo_S2x4096x16x256_S2x4096x16_d3 h_S_)))

/-- The sum over the neighbours. -/
def total (x : FVec Ideal S2x4096x16x256 .f32) : FVec Ideal S2x4096x256 .f32 :=
  Host.reduceAdd x (constant S_ .f32 0x00000000#32) reducesTo_S2x4096x16x256_S2x4096x256_d2 h_S_

/-- The offset's contribution. -/
def place (a0 : FVec Ideal S2x4096x3 .f32) (a1 : IVec S2x16x4096 32) (a11 : FVec Ideal S3x3 .f32) (a12 : FVec Ideal S3 .f32) (a13 : FVec Ideal S256x3 .f32)
    (a14 : FVec Ideal S256 .f32) : FVec Ideal S2x4096x16x256 .f32 :=
  lin3 (hidden a0 (nbrs a0 a1) a11 a12) a13 a14

/-- The logits. -/
def logits (a0 : FVec Ideal S2x4096x3 .f32) (a1 : IVec S2x16x4096 32) (a2 : FVec Ideal S2x4096x256 .f32) (a3 : FVec Ideal S256x256 .f32)
    (a4 : FVec Ideal S256 .f32) (a5 : FVec Ideal S256x3 .f32) (a6 : FVec Ideal S256 .f32) (a7 : FVec Ideal S256x256 .f32) (a8 : FVec Ideal S256 .f32)
    (a9 : FVec Ideal S256x256 .f32) (a10 : FVec Ideal S256 .f32) (a11 : FVec Ideal S3x3 .f32) (a12 : FVec Ideal S3 .f32) (a13 : FVec Ideal S256x3 .f32)
    (a14 : FVec Ideal S256 .f32) : FVec Ideal S2x4096x16x256 .f32 :=
  lin256 (relu (lin256 (addf (subf (query a2 a3 a4) (lin3 (nbrs a0 a1) a5 a6)) (place a0 a1 a11 a12 a13 a14)) a7 a8)) a9 a10

/-- The result is these steps, composed. -/
theorem result_eq (m : (ℓ : Loc nD τ sig) → Buf (Elt Ideal) ℓ) (c : Dev nD) :
    Value.res_main_v66 m c = total (mulf (weights (expo (logits (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10))
        (m ((c.tc : Thread nD τ).loc main_arg11)) (m ((c.tc : Thread nD τ).loc main_arg12)) (m ((c.tc : Thread nD τ).loc main_arg13))
        (m ((c.tc : Thread nD τ).loc main_arg14)))))
      (addf (lin3 (nbrs (m ((c.tc : Thread nD τ).loc main_arg0)) (m ((c.tc : Thread nD τ).loc main_arg1))) (m ((c.tc : Thread nD τ).loc main_arg15)) (m ((c.tc : Thread nD τ).loc main_arg16)))
        (place (m ((c.tc : Thread nD τ).loc main_arg0)) (m ((c.tc : Thread nD τ).loc main_arg1)) (m ((c.tc : Thread nD τ).loc main_arg11)) (m ((c.tc : Thread nD τ).loc main_arg12))
          (m ((c.tc : Thread nD τ).loc main_arg13)) (m ((c.tc : Thread nD τ).loc main_arg14))))) := by
  unfold Value.res_main_v66
  rfl

end Cert.ReferenceIdeal.Steps

end
-- ==== Proof.Alg.RefAt.lean ====
/-
  The reference's steps read at an index.
-/
module

public import proofs.«01_k».proof.Proof.Alg.RefOps

@[expose] public section

set_option maxRecDepth 16384

noncomputable section

namespace Cert.ReferenceIdeal.Steps

open Cert.ReferenceIdeal Cert.ReferenceIdeal.Gen

open Idealize.ShloMosaic Idealize.ShloMosaic.TcCoe

variable (b : Fin 2) (n : Fin 4096) (k : Fin 16)

theorem hidden_apply (a0 : FVec Ideal S2x4096x3 .f32) (x : FVec Ideal S2x4096x16x3 .f32) (a11 : FVec Ideal S3x3 .f32) (a12 : FVec Ideal S3 .f32) (d : Fin 3) :
    hidden a0 x a11 a12 (ix4 b n k d) = max (∑ e : Fin 3, (a0 (ix3 b n e) - x (ix4 b n k e)) * a11 (ix2 d e) + a12 (ix1 d)) 0 := by
  pointwise [hidden]
theorem lin3_apply (x : FVec Ideal S2x4096x16x3 .f32) (w : FVec Ideal S256x3 .f32) (y : FVec Ideal S256 .f32) (l : Fin 256) :
    lin3 x w y (ix4 b n k l) = ∑ d : Fin 3, x (ix4 b n k d) * w (ix2 l d) + y (ix1 l) := by
  pointwise [lin3]
theorem lin256_apply (x : FVec Ideal S2x4096x16x256 .f32) (w : FVec Ideal S256x256 .f32) (y : FVec Ideal S256 .f32) (l : Fin 256) :
    lin256 x w y (ix4 b n k l) = ∑ d : Fin 256, x (ix4 b n k d) * w (ix2 l d) + y (ix1 l) := by
  pointwise [lin256]
theorem query_apply (x : FVec Ideal S2x4096x256 .f32) (w : FVec Ideal S256x256 .f32) (y : FVec Ideal S256 .f32) (l : Fin 256) :
    query x w y (ix4 b n k l) = ∑ d : Fin 256, x (ix3 b n d) * w (ix2 l d) + y (ix1 l) := by
  pointwise [query]
theorem relu_apply (x : FVec Ideal S2x4096x16x256 .f32) (l : Fin 256) : relu x (ix4 b n k l) = max (x (ix4 b n k l)) 0 := by
  pointwise [relu]
theorem reduces3 : S2x4096x16x256.Reduces [3] S2x4096x16 := by decide
theorem lift3 (e : Fin 256) : reduces3.lift (ix3 b n k) e = ix4 b n k e := by
  funext a
  match a with
  | ⟨0, _⟩ => rfl
  | ⟨1, _⟩ => rfl
  | ⟨2, _⟩ => rfl
  | ⟨3, _⟩ => rfl
/-- The largest of a row of logits. -/
theorem rowMax_apply (x : FVec Ideal S2x4096x16x256 .f32) :
    Host.reduce FloatOps.maximumf x (constant S_ .f32 0xFF800000#32) reducesTo_S2x4096x16x256_S2x4096x16_d3 h_S_ (ix3 b n k)
      = Finset.fold max (Ideal.ofBits FTy.f32 0xFF800000#32) (fun e : Fin 256 => x (ix4 b n k e)) Finset.univ := by
  rw [Host.reduce_eq_fold_single _ _ _ _ reduces3]
  exact congrArg (fun f => Finset.fold max (Ideal.ofBits FTy.f32 0xFF800000#32) f Finset.univ) (funext fun e => congrArg x (lift3 b n k e))
theorem max_fold_self {ι : Type} (s : Finset ι) (z : EReal) (f : ι → EReal) : max z (s.fold max z f) = s.fold max z f := by
  refine max_eq_right ?_
  classical
  induction s using Finset.induction_on with
  | empty => simp
  | insert a s ha ih => rw [Finset.fold_insert ha]; exact le_max_of_le_right ih
theorem less_apply (x : FVec Ideal S2x4096x16x256 .f32) (y : FVec Ideal S2x4096x16 .f32) (l : Fin 256) :
    less x y (ix4 b n k l) = Ideal.exp (x (ix4 b n k l) - max (Ideal.ofBits FTy.f32 0xFF800000#32) (y (ix3 b n k))) := by
  pointwise [less]
theorem expo_apply (x : FVec Ideal S2x4096x16x256 .f32) (l : Fin 256) :
    expo x (ix4 b n k l) = Ideal.exp (x (ix4 b n k l) - Finset.fold max (Ideal.ofBits FTy.f32 0xFF800000#32) (fun e : Fin 256 => x (ix4 b n k e)) Finset.univ) := by
  unfold expo
  rw [less_apply, rowMax_apply, max_fold_self]
theorem weights_apply (x : FVec Ideal S2x4096x16x256 .f32) (l : Fin 256) :
    weights x (ix4 b n k l) = Ideal.div (x (ix4 b n k l)) (∑ e : Fin 256, x (ix4 b n k e)) := by
  pointwise [weights]
theorem total_apply (x : FVec Ideal S2x4096x16x256 .f32) (l : Fin 256) : total x (ix3 b n l) = ∑ k : Fin 16, x (ix4 b n k l) := by
  pointwise [total]

end Cert.ReferenceIdeal.Steps

end
-- ==== Proof.Alg.RefNbrs.lean ====
/-
  The reference's neighbours: the coordinates of the point each index names.
-/
module

public import proofs.«01_k».proof.Proof.Alg.RefOps
public import Idealize.ShloMosaic.Lib.Routing.OpsPair

@[expose] public section

set_option maxRecDepth 16384

noncomputable section

namespace Cert.ReferenceIdeal.Steps

open Cert.ReferenceIdeal Cert.ReferenceIdeal.Gen

open Idealize.ShloMosaic Idealize.ShloMosaic.TcCoe

theorem table_apply (x : FVec Ideal S2x4096x3 .f32) (ρ : Fin 8192) (d : Fin 3) : shapeCast S8192x3 x shapeCasts_S2x4096x3_S8192x3 (ix2 ρ d)
    = x (ix3 (⟨ρ.val / 4096, by omega⟩ : Fin 2) (⟨ρ.val % 4096, by omega⟩ : Fin 4096) d) := by
  pointwise

/-- The reference's gather reads the row its index names, held within the table. -/
theorem take_apply (x : FVec Ideal S8192x3 .f32) (idx : IVec S2x16x4096x1 32) (b : Fin 2) (k : Fin 16) (n : Fin 4096) (d : Fin 3) :
    Host.gather gather_S8192x3_S2x16x4096x1_S2x16x4096x3_3_0_n_n_0_3_13 x idx (ix4 b k n d)
      = x (ix2 (⟨min (idx (ix4 b k n 0)).toInt.toNat 8191, by omega⟩ : Fin 8192) d) := by
  unfold Host.gather
  refine congrArg x (funext fun a => Fin.ext ?_)
  show GatherDims.start gather_S8192x3_S2x16x4096x1_S2x16x4096x3_3_0_n_n_0_3_13 (ix4 b k n d) idx a
    + GatherDims.batchCoord gather_S8192x3_S2x16x4096x1_S2x16x4096x3_3_0_n_n_0_3_13 (ix4 b k n d) a
    + GatherDims.offCoord gather_S8192x3_S2x16x4096x1_S2x16x4096x3_3_0_n_n_0_3_13 (ix4 b k n d) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    refine (dif_pos (show (0 : Fin 2) ∈ gather_S8192x3_S2x16x4096x1_S2x16x4096x3_3_0_n_n_0_3_13.startIndexMap from List.mem_singleton.mpr rfl)).trans ?_
    refine congrArg (fun i => min (idx i : BitVec 32).toInt.toNat 8191) (funext fun e => Fin.ext ?_)
    match e with
    | ⟨0, _⟩ => rfl
    | ⟨1, _⟩ => rfl
    | ⟨2, _⟩ => rfl
    | ⟨3, _⟩ => rfl
  | ⟨1, _⟩ =>
    have z : GatherDims.start gather_S8192x3_S2x16x4096x1_S2x16x4096x3_3_0_n_n_0_3_13 (ix4 b k n d) idx (1 : Fin 2) = 0 :=
      dif_neg (show (1 : Fin 2) ∉ [(0 : Fin 2)] by decide)
    refine (congrArg (· + GatherDims.offCoord gather_S8192x3_S2x16x4096x1_S2x16x4096x3_3_0_n_n_0_3_13 (ix4 b k n d) (1 : Fin 2)) z).trans ?_
    rw [Nat.zero_add]
    rfl

/-- A word below 8192 is itself as a signed number. -/
theorem toInt_lt (x : BitVec 32) (h : x.toNat < 8192) : min x.toInt.toNat 8191 = x.toNat := by
  rw [BitVec.toInt_eq_toNat_of_lt (by omega)]
  omega

theorem nbrs_apply (a0 : FVec Ideal S2x4096x3 .f32) (a1 : IVec S2x16x4096 32) (b : Fin 2) (n : Fin 4096) (k : Fin 16) (d : Fin 3)
    (h : (a1 (ix3 b k n)).toNat < 8192) :
    nbrs a0 a1 (ix4 b n k d)
      = a0 (ix3 (⟨(a1 (ix3 b k n)).toNat / 4096, by omega⟩ : Fin 2) (⟨(a1 (ix3 b k n)).toNat % 4096, by omega⟩ : Fin 4096) d) := by
  have e : ∀ x : FVec Ideal S2x16x4096x3 .f32, transpose S2x4096x16x3 [0, 2, 1, 3] x transposes_S2x16x4096x3_S2x4096x16x3_0_2_1_3 (ix4 b n k d) = x (ix4 b k n d) := by
    intro x
    pointwise
  unfold nbrs
  rw [e, take_apply]
  have w : broadcastInDim S2x16x4096x1 ![0, 1, 2] bcast_S2x16x4096_S2x16x4096x1_0_1_2 (select (cmpi .slt a1 (broadcastInDim S2x16x4096 ![] bcast_S_S2x16x4096 (constantI S_ 32 0#32)))
      (addi a1 (broadcastInDim S2x16x4096 ![] bcast_S_S2x16x4096 (constantI S_ 32 8192#32))) a1) (ix4 b k n 0) = a1 (ix3 b k n) := by
    refine Eq.trans ?_ (Routing.wrap_of_lt (a1 (ix3 b k n)) (IntOp.addi (a1 (ix3 b k n)) 8192#32) (by omega))
    pointwise
  refine Eq.trans (congrArg (fun ρ => shapeCast S8192x3 a0 shapeCasts_S2x4096x3_S8192x3 (ix2 ρ d))
    (Fin.ext ((congrArg (fun v : BitVec 32 => min v.toInt.toNat 8191) w).trans (toInt_lt _ h)) : _ = (⟨(a1 (ix3 b k n)).toNat, h⟩ : Fin 8192))) ?_
  exact table_apply a0 _ d

end Cert.ReferenceIdeal.Steps

end
-- ==== Proof.Alg.Final.lean ====
/-
  The kernel's array is the reference's, entry by entry.
-/
module

public import proofs.«01_k».proof.Proof.Alg.KerHost
public import proofs.«01_k».proof.Proof.Alg.KerStep
public import proofs.«01_k».proof.Proof.Alg.Math
public import proofs.«01_k».proof.Proof.Alg.Pre
public import proofs.«01_k».proof.Proof.Alg.RefAt
public import proofs.«01_k».proof.Proof.Alg.RefNbrs

@[expose] public section

set_option maxRecDepth 16384

noncomputable section

namespace Cert.KernelIdeal.Pf

open Cert.KernelIdeal Cert.KernelIdeal.Gen

open Idealize.ShloMosaic Idealize.ShloMosaic.TcCoe

/-- Sixteen lanes against weights that vanish beyond the third. -/
theorem lanes (x w : Fin 16 → EReal) (x' w' : Fin 3 → EReal) (hl : ∀ m : Fin 16, 3 ≤ m.val → w m = 0) (hx : ∀ d : Fin 3, x ⟨d.val, by omega⟩ = x' d)
    (hw : ∀ d : Fin 3, w ⟨d.val, by omega⟩ = w' d) : ∑ m, x m * w m = ∑ d, x' d * w' d := by
  rw [Cert.Alg.sum_lanes16 x w hl]
  exact Finset.sum_congr rfl fun d _ => congrArg₂ (· * ·) (hx d) (hw d)

section
variable (w w' : FVec Ideal S256x3 .f32) (w7 : FVec Ideal S256x256 .f32) (v39 v45 : FVec Ideal S256 .f32)

/-- The lane weights through the first layer. -/
theorem uc_fst_lo (d : Fin 3) (x : Fin 256) :
    ucOf (F := Ideal) (turn w7) (catA w w') (ix2 (⟨d.val, by omega⟩ : Fin 32) x) = ∑ e : Fin 256, -(w (ix2 e d) : EReal) * w7 (ix2 x e) := by
  rw [ucOf_apply]
  refine Finset.sum_congr rfl fun e _ => ?_
  rw [catA_fst w w' e ⟨d.val, by omega⟩, pad3_lo, turn_apply]
theorem uc_snd_lo (d : Fin 3) (x : Fin 256) :
    ucOf (F := Ideal) (turn w7) (catA w w') (ix2 (⟨16 + d.val, by omega⟩ : Fin 32) x) = ∑ e : Fin 256, (w' (ix2 e d) : EReal) * w7 (ix2 x e) := by
  rw [ucOf_apply]
  refine Finset.sum_congr rfl fun e _ => ?_
  rw [catA_snd w w' e ⟨d.val, by omega⟩, pad3_lo, turn_apply]
theorem uc_fst_hi (m : Fin 16) (hm : 3 ≤ m.val) (x : Fin 256) : ucOf (F := Ideal) (turn w7) (catA w w') (ix2 (⟨m.val, by omega⟩ : Fin 32) x) = (0 : EReal) := by
  rw [ucOf_apply]
  refine Finset.sum_eq_zero fun e _ => ?_
  rw [catA_fst w w' e m, pad3_hi _ m hm, neg_zero, zero_mul]
theorem uc_snd_hi (m : Fin 16) (hm : 3 ≤ m.val) (x : Fin 256) : ucOf (F := Ideal) (turn w7) (catA w w') (ix2 (⟨16 + m.val, by omega⟩ : Fin 32) x) = (0 : EReal) := by
  rw [ucOf_apply]
  refine Finset.sum_eq_zero fun e _ => ?_
  rw [catA_snd w w' e m, pad3_hi _ m hm, zero_mul]
end

section
variable (a0 : FVec Ideal S2x4096x3 .f32) (a1 : IVec S2x16x4096 32) (a2 : FVec Ideal S2x4096x256 .f32) (a3 : FVec Ideal S256x256 .f32)
  (a4 : FVec Ideal S256 .f32) (a5 : FVec Ideal S256x3 .f32) (a6 : FVec Ideal S256 .f32) (a7 : FVec Ideal S256x256 .f32) (a8 : FVec Ideal S256 .f32)
  (a9 : FVec Ideal S256x256 .f32) (a10 : FVec Ideal S256 .f32) (a11 : FVec Ideal S3x3 .f32) (a12 : FVec Ideal S3 .f32) (a13 : FVec Ideal S256x3 .f32)
  (a14 : FVec Ideal S256 .f32) (a15 : FVec Ideal S256x3 .f32) (a16 : FVec Ideal S256 .f32)
  (b : Fin 2) (t : Fin 16) (r : Fin 256) (k : Fin 16)

/-- Point `r` of block `t`. -/
abbrev pnt : Fin 4096 := ⟨256 * t.val + r.val, by omega⟩

/-- The coordinates of a point, of its `k`-th neighbour, and the hidden units of the offset layer. -/
def ci (d : Fin 3) : EReal := a0 (ix3 b (pnt t r) d)
def cj (d : Fin 3) : EReal := Cert.ReferenceIdeal.Steps.nbrs a0 a1 (ix4 b (pnt t r) k d)
def hj (d : Fin 3) : EReal := Cert.Alg.hid (fun d e => a11 (ix2 d e)) (fun d => a12 (ix1 d)) (ci a0 b t r) (cj a0 a1 b t r k) d

variable (hidx : ∀ j, (a1 j).toNat < 8192)
include hidx

theorem lane_cj (d : Fin 3) : nbr (F := Ideal) (blkN (F := Ideal) (knn a0 a1) b t) k (ix4 0 0 r (⟨d.val, by omega⟩ : Fin 16)) = cj a0 a1 b t r k d := by
  refine Eq.trans ?_ (Cert.ReferenceIdeal.Steps.nbrs_apply a0 a1 b (pnt t r) k d (hidx _)).symm
  exact knn_apply a0 a1 b k (pnt t r) d (hidx _)

theorem stepH_eq (d : Fin 3) : stepH (blkC (F := Ideal) (padC a0) b t) (padS a11) (padB a12) (nbr (F := Ideal) (blkN (F := Ideal) (knn a0 a1) b t) k) r (⟨d.val, by omega⟩ : Fin 16)
    = hj a0 a1 a11 a12 b t r k d := by
  unfold stepH hj Cert.Alg.hid
  rw [padB_lo]
  refine congrArg (fun z : EReal => max (z + a12 (ix1 d)) 0) ?_
  refine lanes _ _ (fun e => ci a0 b t r e - cj a0 a1 b t r k e) _ (fun m hm => padS_hi a11 m hm _) (fun e => ?_) (fun e => padS_lo a11 e d)
  refine congrArg₂ (fun p q : EReal => p - q) ?_ (lane_cj a0 a1 b t r k hidx e)
  exact padC_apply a0 b (pnt t r) e

/-- The lanes through the value weights. -/
theorem stepCat_val (l : Fin 256) :
    stepCat (blkC (F := Ideal) (padC a0) b t) (padS a11) (padB a12) (catV a15 a13) (nbr (F := Ideal) (blkN (F := Ideal) (knn a0 a1) b t) k) r l
      = ∑ d, cj a0 a1 b t r k d * a15 (ix2 l d) + ∑ d, hj a0 a1 a11 a12 b t r k d * a13 (ix2 l d) := by
  unfold stepCat
  refine congrArg₂ (fun p q : EReal => p + q) ?_ ?_
  · refine lanes _ _ _ _ (fun m hm => ?_) (lane_cj a0 a1 b t r k hidx) fun d => ?_
    · exact (catV_fst a15 a13 l m).trans (pad3_hi a15 m hm l)
    · exact (catV_fst a15 a13 l ⟨d.val, by omega⟩).trans (pad3_lo a15 d l)
  · refine lanes _ _ _ _ (fun m hm => ?_) (stepH_eq a0 a1 a11 a12 b t r k hidx) fun d => ?_
    · exact (catV_snd a15 a13 l m).trans (pad3_hi a13 m hm l)
    · exact (catV_snd a15 a13 l ⟨d.val, by omega⟩).trans (pad3_lo a13 d l)

/-- The lanes through the fused weights. -/
theorem stepCat_uc (x : Fin 256) :
    stepCat (blkC (F := Ideal) (padC a0) b t) (padS a11) (padB a12) (ucOf (F := Ideal) (turn a7) (catA a5 a13)) (nbr (F := Ideal) (blkN (F := Ideal) (knn a0 a1) b t) k) r x
      = ∑ d, cj a0 a1 b t r k d * (∑ e : Fin 256, -(a5 (ix2 e d) : EReal) * a7 (ix2 x e))
        + ∑ d, hj a0 a1 a11 a12 b t r k d * (∑ e : Fin 256, (a13 (ix2 e d) : EReal) * a7 (ix2 x e)) := by
  unfold stepCat
  refine congrArg₂ (fun p q : EReal => p + q) ?_ ?_
  · exact lanes _ _ _ _ (fun m hm => uc_fst_hi a5 a13 a7 m hm x) (lane_cj a0 a1 b t r k hidx) fun d => uc_fst_lo a5 a13 a7 d x
  · exact lanes _ _ _ _ (fun m hm => uc_snd_hi a5 a13 a7 m hm x) (stepH_eq a0 a1 a11 a12 b t r k hidx) fun d => uc_snd_lo a5 a13 a7 d x

end

section
variable (a0 : FVec Ideal S2x4096x3 .f32) (a1 : IVec S2x16x4096 32) (a2 : FVec Ideal S2x4096x256 .f32) (a3 : FVec Ideal S256x256 .f32)
  (a4 : FVec Ideal S256 .f32) (a5 : FVec Ideal S256x3 .f32) (a6 : FVec Ideal S256 .f32) (a7 : FVec Ideal S256x256 .f32) (a8 : FVec Ideal S256 .f32)
  (a9 : FVec Ideal S256x256 .f32) (a10 : FVec Ideal S256 .f32) (a11 : FVec Ideal S3x3 .f32) (a12 : FVec Ideal S3 .f32) (a13 : FVec Ideal S256x3 .f32)
  (a14 : FVec Ideal S256 .f32) (a15 : FVec Ideal S256x3 .f32) (a16 : FVec Ideal S256 .f32)
  (b : Fin 2) (t : Fin 16) (r : Fin 256) (k : Fin 16)

/-- A sub-family of real numbers is one. -/
theorem finite_comp {ι κ : Type} {f : ι → EReal} (h : Cert.Alg.Finite' f) (g : κ → ι) : Cert.Alg.Finite' (fun i => f (g i)) := by
  obtain ⟨r, rfl⟩ := h
  exact ⟨fun i => r (g i), rfl⟩

theorem place_eq (e : Fin 256) : Cert.ReferenceIdeal.Steps.place a0 a1 a11 a12 a13 a14 (ix4 b (pnt t r) k e)
    = ∑ d, hj a0 a1 a11 a12 b t r k d * a13 (ix2 e d) + a14 (ix1 e) := by
  unfold Cert.ReferenceIdeal.Steps.place
  rw [Cert.ReferenceIdeal.Steps.lin3_apply]
  refine congrArg (fun z : EReal => z + a14 (ix1 e)) (Finset.sum_congr rfl fun d _ => congrArg (fun z : EReal => z * a13 (ix2 e d)) ?_)
  exact Cert.ReferenceIdeal.Steps.hidden_apply b (pnt t r) k a0 _ a11 a12 d

variable (ok : Cert.Alg.ArgsOk a0 a1 a2 a3 a5 a7 a11 a12 a13)
include ok

/-- The first layer's sum, before its threshold. -/
theorem pre_eq (x : Fin 256) :
    (∑ y : Fin 256, blkF (F := Ideal) a2 b t (ix3 0 r y) * afOf (F := Ideal) (turn a3) (turn a7) (ix2 y x)
        + buOf (F := Ideal) (turn a7) (row (addf (subf a4 a6) a14)) (row a8) (ix2 0 x) : EReal)
      + stepCat (blkC (F := Ideal) (padC a0) b t) (padS a11) (padB a12) (ucOf (F := Ideal) (turn a7) (catA a5 a13)) (nbr (F := Ideal) (blkN (F := Ideal) (knn a0 a1) b t) k) r x
      = Cert.ReferenceIdeal.Steps.lin256 (addf (subf (Cert.ReferenceIdeal.Steps.query a2 a3 a4) (Cert.ReferenceIdeal.Steps.lin3 (Cert.ReferenceIdeal.Steps.nbrs a0 a1) a5 a6))
          (Cert.ReferenceIdeal.Steps.place a0 a1 a11 a12 a13 a14)) a7 a8 (ix4 b (pnt t r) k x) := by
  rw [stepCat_uc a0 a1 a5 a7 a11 a12 a13 b t r k ok.idx x, Cert.ReferenceIdeal.Steps.lin256_apply]
  have hc : Cert.Alg.Finite' (cj a0 a1 b t r k) := by
    rw [show cj a0 a1 b t r k = fun d => a0 (ix3 _ _ d) from funext fun d => Cert.ReferenceIdeal.Steps.nbrs_apply a0 a1 b (pnt t r) k d (ok.idx _)]
    exact finite_comp ok.f0 _
  have hh : Cert.Alg.Finite' (hj a0 a1 a11 a12 b t r k) :=
    Cert.Alg.hid_finite (fun d => finite_comp ok.f11 fun e => ix2 d e) (finite_comp ok.f12 fun d => ix1 d) (finite_comp ok.f0 fun d => ix3 b (pnt t r) d) hc
  have key := Cert.Alg.fused_eq (f := fun y => a2 (ix3 b (pnt t r) y)) (cj := cj a0 a1 b t r k) (h := hj a0 a1 a11 a12 b t r k)
    (pw := fun e y => a3 (ix2 e y)) (fun e => a4 (ix1 e)) (qw := fun e d => a5 (ix2 e d)) (fun e => a6 (ix1 e)) (sw := fun e d => a13 (ix2 e d)) (fun e => a14 (ix1 e))
    (g := fun e => a7 (ix2 x e)) (a8 (ix1 x))
    (finite_comp ok.f2 _) hc hh (fun e => finite_comp ok.f3 _) (fun e => finite_comp ok.f5 _) (fun e => finite_comp ok.f13 _) (finite_comp ok.f7 _)
  refine Eq.trans ?_ (key.trans ?_)
  · unfold Cert.Alg.fusedPre
    refine congrArg (fun z : EReal => z + _) (congrArg₂ (fun p q : EReal => p + q) ?_ ?_)
    · refine Finset.sum_congr rfl fun y _ => congrArg (fun z : EReal => a2 (ix3 b (pnt t r) y) * z) ?_
      rw [afOf_apply]
      exact Finset.sum_congr rfl fun e _ => congrArg₂ (fun p q : EReal => p * q) (turn_apply a3 y e) (turn_apply a7 e x)
    · rw [buOf_apply]
      refine congrArg₂ (fun p q : EReal => p + q) (Finset.sum_congr rfl fun e _ => congrArg₂ (fun p q : EReal => p * q) (row_apply _ e) (turn_apply a7 e x)) (row_apply a8 x)
  · unfold Cert.Alg.plainPre
    refine congrArg (fun z : EReal => z + a8 (ix1 x)) (Finset.sum_congr rfl fun e _ => congrArg (fun z : EReal => z * a7 (ix2 x e)) ?_)
    refine congrArg₂ (fun p q : EReal => p + q) (congrArg₂ (fun p q : EReal => p - q) ?_ ?_) ?_
    · exact (Cert.ReferenceIdeal.Steps.query_apply b (pnt t r) k a2 a3 a4 e).symm
    · exact (Cert.ReferenceIdeal.Steps.lin3_apply b (pnt t r) k _ a5 a6 e).symm
    · exact (place_eq a0 a1 a11 a12 a13 a14 b t r k e).symm

/-- A neighbour's logits are the reference's. -/
theorem stepL_eq (l : Fin 256) :
    stepL (blkF (F := Ideal) a2 b t) (blkC (F := Ideal) (padC a0) b t) (turn a9) (padS a11) (padB a12) (row a10) (afOf (F := Ideal) (turn a3) (turn a7))
        (ucOf (F := Ideal) (turn a7) (catA a5 a13)) (buOf (F := Ideal) (turn a7) (row (addf (subf a4 a6) a14)) (row a8))
        (nbr (F := Ideal) (blkN (F := Ideal) (knn a0 a1) b t) k) r l
      = Cert.ReferenceIdeal.Steps.logits a0 a1 a2 a3 a4 a5 a6 a7 a8 a9 a10 a11 a12 a13 a14 (ix4 b (pnt t r) k l) := by
  unfold Cert.ReferenceIdeal.Steps.logits stepL
  rw [Cert.ReferenceIdeal.Steps.lin256_apply]
  refine congrArg₂ (fun p q : EReal => p + q) (Finset.sum_congr rfl fun x _ => congrArg₂ (fun p q : EReal => p * q) ?_ (turn_apply a9 x l)) (row_apply a10 l)
  rw [Cert.ReferenceIdeal.Steps.relu_apply]
  exact congrArg (fun z : EReal => max z 0) (pre_eq a0 a1 a2 a3 a4 a5 a6 a7 a8 a11 a12 a13 a14 b t r k ok x)

/-- A neighbour's contribution is the reference's. -/
theorem stepOut_eq (l : Fin 256) :
    stepOut (blkF (F := Ideal) a2 b t) (blkC (F := Ideal) (padC a0) b t) (turn a9) (catV a15 a13) (padS a11) (padB a12) (row a10) (row (addf a16 a14))
        (afOf (F := Ideal) (turn a3) (turn a7)) (ucOf (F := Ideal) (turn a7) (catA a5 a13)) (buOf (F := Ideal) (turn a7) (row (addf (subf a4 a6) a14)) (row a8))
        (nbr (F := Ideal) (blkN (F := Ideal) (knn a0 a1) b t) k) r l
      = mulf (Cert.ReferenceIdeal.Steps.weights (Cert.ReferenceIdeal.Steps.expo (Cert.ReferenceIdeal.Steps.logits a0 a1 a2 a3 a4 a5 a6 a7 a8 a9 a10 a11 a12 a13 a14)))
          (addf (Cert.ReferenceIdeal.Steps.lin3 (Cert.ReferenceIdeal.Steps.nbrs a0 a1) a15 a16) (Cert.ReferenceIdeal.Steps.place a0 a1 a11 a12 a13 a14))
          (ix4 b (pnt t r) k l) := by
  unfold stepOut
  simp only [stepL_eq a0 a1 a2 a3 a4 a5 a6 a7 a8 a9 a10 a11 a12 a13 a14 b t r k ok]
  refine congrArg₂ (fun p q : EReal => p * q) ?_ ?_
  · rw [Cert.ReferenceIdeal.Steps.weights_apply]
    simp only [Cert.ReferenceIdeal.Steps.expo_apply]
  · rw [stepCat_val a0 a1 a11 a12 a13 a15 b t r k ok.idx l]
    refine (congrArg (fun z : EReal => _ + z) (row_apply (addf a16 a14) l)).trans ((add_add_add_comm _ _ _ _).trans ?_)
    refine congrArg₂ (fun p q : EReal => p + q) ?_ ?_
    · exact (Cert.ReferenceIdeal.Steps.lin3_apply b (pnt t r) k _ a15 a16 l).symm
    · exact (place_eq a0 a1 a11 a12 a13 a14 b t r k l).symm

/-- A block's entries are the reference's. -/
theorem block_eq (l : Fin 256) :
    attnBlk (F := Ideal) (blkF (F := Ideal) a2 b t) (blkC (F := Ideal) (padC a0) b t) (blkN (F := Ideal) (knn a0 a1) b t) (turn a9) (catV a15 a13) (padS a11) (padB a12)
        (row a10) (row (addf a16 a14)) (afOf (F := Ideal) (turn a3) (turn a7)) (ucOf (F := Ideal) (turn a7) (catA a5 a13))
        (buOf (F := Ideal) (turn a7) (row (addf (subf a4 a6) a14)) (row a8)) (ix3 0 r l)
      = Cert.ReferenceIdeal.Steps.total (mulf (Cert.ReferenceIdeal.Steps.weights (Cert.ReferenceIdeal.Steps.expo
            (Cert.ReferenceIdeal.Steps.logits a0 a1 a2 a3 a4 a5 a6 a7 a8 a9 a10 a11 a12 a13 a14)))
          (addf (Cert.ReferenceIdeal.Steps.lin3 (Cert.ReferenceIdeal.Steps.nbrs a0 a1) a15 a16) (Cert.ReferenceIdeal.Steps.place a0 a1 a11 a12 a13 a14)))
          (ix3 b (pnt t r) l) := by
  rw [attnBlk_apply, Cert.ReferenceIdeal.Steps.total_apply]
  exact Finset.sum_congr rfl fun k _ => stepOut_eq a0 a1 a2 a3 a4 a5 a6 a7 a8 a9 a10 a11 a12 a13 a14 a15 a16 b t r k ok l

end

end Cert.KernelIdeal.Pf

end
-- ==== Proof.Algebraic.lean ====
/-
  The value claim: over the extended reals both programs end with the same array.
-/
module

public import proofs.«01_k».proof.Defs
public import proofs.«01_k».proof.Proof.Alg.Final
public import proofs.«01_k».proof.Proof.Gen.ReferenceIdeal.Run

@[expose] public section

set_option maxRecDepth 16384

noncomputable section

namespace Cert.Proof

open Idealize.ShloMosaic Idealize.ShloMosaic.TcCoe Idealize.SL.Sem
open Cert.KernelIdeal.Pf Cert.ReferenceIdeal.Steps

/-- The array the attention kernel leaves is the reference's steps on the arguments. -/
theorem attnArr_eq (m : (ℓ : Loc Cert.KernelIdeal.nD Cert.KernelIdeal.τ Cert.KernelIdeal.sig) → Buf (Elt Ideal) ℓ) (c : Dev Cert.KernelIdeal.nD)
    (ok : Cert.Alg.ArgsOk (arg m c Cert.KernelIdeal.main_arg0) (arg m c Cert.KernelIdeal.main_arg1) (arg m c Cert.KernelIdeal.main_arg2)
      (arg m c Cert.KernelIdeal.main_arg3) (arg m c Cert.KernelIdeal.main_arg5) (arg m c Cert.KernelIdeal.main_arg7) (arg m c Cert.KernelIdeal.main_arg11)
      (arg m c Cert.KernelIdeal.main_arg12) (arg m c Cert.KernelIdeal.main_arg13)) :
    attnArr (VR m) c = total (mulf (weights (expo (logits (arg m c Cert.KernelIdeal.main_arg0) (arg m c Cert.KernelIdeal.main_arg1)
        (arg m c Cert.KernelIdeal.main_arg2) (arg m c Cert.KernelIdeal.main_arg3) (arg m c Cert.KernelIdeal.main_arg4) (arg m c Cert.KernelIdeal.main_arg5)
        (arg m c Cert.KernelIdeal.main_arg6) (arg m c Cert.KernelIdeal.main_arg7) (arg m c Cert.KernelIdeal.main_arg8) (arg m c Cert.KernelIdeal.main_arg9)
        (arg m c Cert.KernelIdeal.main_arg10) (arg m c Cert.KernelIdeal.main_arg11) (arg m c Cert.KernelIdeal.main_arg12) (arg m c Cert.KernelIdeal.main_arg13)
        (arg m c Cert.KernelIdeal.main_arg14))))
      (addf (lin3 (nbrs (arg m c Cert.KernelIdeal.main_arg0) (arg m c Cert.KernelIdeal.main_arg1)) (arg m c Cert.KernelIdeal.main_arg15) (arg m c Cert.KernelIdeal.main_arg16))
        (place (arg m c Cert.KernelIdeal.main_arg0) (arg m c Cert.KernelIdeal.main_arg1) (arg m c Cert.KernelIdeal.main_arg11) (arg m c Cert.KernelIdeal.main_arg12)
          (arg m c Cert.KernelIdeal.main_arg13) (arg m c Cert.KernelIdeal.main_arg14)))) := by
  funext i
  have hi : i = ix3 (i 0 : Fin 2) (pnt ⟨(i 1).val / 256, by have : (i 1).val < 4096 := (i 1).isLt; omega⟩ ⟨(i 1).val % 256, Nat.mod_lt _ (by decide)⟩) (i 2 : Fin 256) := by
    funext a
    match a with
    | ⟨0, _⟩ => rfl
    | ⟨1, _⟩ => exact Fin.ext (Nat.div_add_mod _ _).symm
    | ⟨2, _⟩ => rfl
  refine Eq.trans ?_ (congrArg _ hi.symm)
  refine Eq.trans ?_ (block_eq _ _ _ _ _ _ _ _ _ _ _ _ _ _ _ _ _ (i 0 : Fin 2) _ _ ok (i 2 : Fin 256))
  unfold attnArr AF UC BU
  rw [VR_features, VR_coords, VR_nbrs, VR_v16, VR_v25, VR_v31, VR_v36, VR_v39, VR_v41, VR_v42, VR_v43, VR_v44, VR_v45, VR_v46]
  rfl

theorem algebraic : Cert.algebraic_KernelIdeal_ReferenceIdeal_pre_args_ok := by
  intro m g m' g' hm hmm
  have ok := fun c => Cert.Alg.args_ok_of (hm c)
  refine ⟨fun c => attnArr (VR m) c, ?_, ?_⟩
  · exact (θ_run Cert.KernelIdeal.defs _ _).mono (fun r h => h.1) (run_post m g fun d j => (ok d).idx j)
  · refine (θ_run Cert.ReferenceIdeal.defs _ _).mono (fun r h c => ?_) (Cert.ReferenceIdeal.Value.run m' g')
    refine ⟨(h c).1.trans ?_, (h c).2⟩
    refine (result_eq m' c).trans ((attnArr_eq m c (ok c)).trans ?_).symm
    obtain ⟨h0, h1, h2, h3, h4, h5, h6, h7, h8, h9, h10, h11, h12, h13, h14, h15, h16⟩ := hmm c
    rw [h0, h1, h2, h3, h4, h5, h6, h7, h8, h9, h10, h11, h12, h13, h14, h15, h16]

end Cert.Proof

end
-- ==== Proof.Knn.Frames.lean ====
/-
  The frames of the search: each of its programs runs to its end, leaves its argument as it was, and every semaphore at zero.
-/
module

public import proofs.«01_k».proof.Defs
public import proofs.«01_k».proof.Proof.Gen.Nearest.Frame
public import proofs.«01_k».proof.Proof.Gen.NearestIdeal.Frame
public import proofs.«01_k».proof.Proof.Gen.FindKnnIdeal.Run
public import proofs.«01_k».proof.Proof.Gen.Pre_coords_ok
public import Idealize.ShloMosaic.Lib.Quiescent

@[expose] public section

noncomputable section

namespace Cert.Proof

open Idealize.ShloMosaic Idealize.SL.Sem

theorem frame_nearest : Cert.quiescent_Nearest := fun m g _ => Cert.Nearest.Gen.frame m g

theorem frame_nearest_ideal : Cert.quiescent_NearestIdeal := fun m g _ => Cert.NearestIdeal.Gen.frame m g

theorem frame_nearest_ideal_coords_ok : Cert.quiescent_NearestIdeal_pre_coords_ok := fun m g _ => Cert.NearestIdeal.Gen.frame m g

theorem frame_find_knn : Cert.quiescent_FindKnnIdeal := by
  intro m g _
  refine (θ_run Cert.FindKnnIdeal.defs _ _).mono ?_ (Cert.FindKnnIdeal.Value.run m g)
  exact fun r h => ⟨fun c => (h c).2, sem_eq_zero_of_no_sems rfl _⟩

theorem frame_find_knn_coords_ok : Cert.quiescent_FindKnnIdeal_pre_coords_ok := fun m g _ => frame_find_knn m g trivial

end Cert.Proof

end
-- ==== Proof.Knn.Core.lean ====
/-
  Taking the smallest entry sixteen times over, each time striking it out, lists the entries in the order of a stable sort.
-/
module

public import Idealize.ShloMosaic.Lib.SortFacts
public import Idealize.ShloMosaic.PureOps.Ideal.Laws
public import Mathlib.Data.EReal.Operations

@[expose] public section

noncomputable section

namespace Cert.Knn

open Idealize.ShloMosaic

/-- `i` is the first position of the smallest value of `f`. -/
structure IsFirst {n : Nat} (f : Fin n → EReal) (i : Fin n) : Prop where
  le : ∀ j, f i ≤ f j
  lt : ∀ j, j < i → f i < f j

theorem IsFirst.unique {n : Nat} {f : Fin n → EReal} {i j : Fin n} (hi : IsFirst f i) (hj : IsFirst f j) : i = j := by
  rcases lt_trichotomy i j with h | h | h
  · exact absurd (hj.lt i h) (not_lt.2 (hi.le j))
  · exact h
  · exact absurd (hi.lt j h) (not_lt.2 (hj.le i))

theorem exists_isFirst {n : Nat} [NeZero n] (f : Fin n → EReal) : ∃ i, IsFirst f i := by
  classical
  obtain ⟨i, -, hi⟩ := Finset.exists_min_image (Finset.univ : Finset (Fin n)) (fun i => toLex (f i, i)) Finset.univ_nonempty
  refine ⟨i, fun j => ?_, fun j hj => ?_⟩
  · rcases (Prod.Lex.toLex_le_toLex.1 (hi j (Finset.mem_univ j))) with h | h
    · exact le_of_lt h
    · exact le_of_eq h.1
  · rcases (Prod.Lex.toLex_le_toLex.1 (hi j (Finset.mem_univ j))) with h | h
    · exact h
    · exact absurd hj (not_lt.2 h.2)

/-- The order of the sort: by value, and by position where the values agree. -/
def Before {n : Nat} (f : Fin n → EReal) (a b : Fin n) : Prop := f a < f b ∨ f a = f b ∧ a < b

theorem Before.trans {n : Nat} {f : Fin n → EReal} {a b c : Fin n} (h : Before f a b) (h' : Before f b c) : Before f a c := by
  rcases h with h | ⟨h, l⟩ <;> rcases h' with h' | ⟨h', l'⟩
  · exact Or.inl (h.trans h')
  · exact Or.inl (h' ▸ h)
  · exact Or.inl (h ▸ h')
  · exact Or.inr ⟨h.trans h', l.trans l'⟩

theorem pairwise_insert {n : Nat} (f : Fin n → EReal) (a : Fin n) (l : List (Fin n)) (ha : ∀ b ∈ l, a < b) (hl : l.Pairwise (Before f)) :
    (insertBefore (fun i j => decide (f i < f j)) a l).Pairwise (Before f) := by
  induction l with
  | nil => exact List.pairwise_singleton _ _
  | cons b l ih =>
    rw [List.pairwise_cons] at hl
    unfold insertBefore
    split
    · rename_i h
      have h : f b < f a := by simpa using h
      refine List.pairwise_cons.2 ⟨fun c hc => ?_, ih (fun c hc => ha c (List.mem_cons_of_mem b hc)) hl.2⟩
      rcases List.mem_cons.1 ((perm_insertBefore _ a l).mem_iff.1 hc) with rfl | hc
      · exact Or.inl h
      · exact hl.1 c hc
    · rename_i h
      have h : ¬f b < f a := by simpa using h
      have hab : Before f a b := (lt_or_eq_of_le (not_lt.1 h)).imp id fun e => ⟨e, ha b List.mem_cons_self⟩
      refine List.pairwise_cons.2 ⟨fun c hc => ?_, List.pairwise_cons.2 hl⟩
      rcases List.mem_cons.1 hc with rfl | hc
      · exact hab
      · exact hab.trans (hl.1 c hc)

theorem pairwise_sort {n : Nat} (f : Fin n → EReal) (l : List (Fin n)) (hl : l.Pairwise (· < ·)) :
    (stableSort (fun i j => decide (f i < f j)) l).Pairwise (Before f) := by
  induction l with
  | nil => exact List.Pairwise.nil
  | cons a l ih =>
    rw [List.pairwise_cons] at hl
    unfold stableSort
    exact pairwise_insert f a _ (fun b hb => hl.1 b ((perm_stableSort _ l).mem_iff.1 hb)) (ih hl.2)

/-- The source of an earlier place of the sorted row comes before that of a later one. -/
theorem sorted_before {n : Nat} (f : Fin n → EReal) (i j : Fin n) (hij : i < j) :
    Before f (sortedFrom (fun i j => decide (f i < f j)) i) (sortedFrom (fun i j => decide (f i < f j)) j) := by
  have hp : ∀ a b : Fin (sortPositions n fun i j => decide (f i < f j)).length, a < b →
      Before f ((sortPositions n fun i j => decide (f i < f j)).get a) ((sortPositions n fun i j => decide (f i < f j)).get b) :=
    List.pairwise_iff_get.1 (pairwise_sort f (List.finRange n) (List.pairwise_lt_finRange n))
  exact hp (i.cast (length_sortPositions n _).symm) (j.cast (length_sortPositions n _).symm) hij

/-- A row with one entry struck out. -/
def strike {n : Nat} (f : Fin n → EReal) (p : Fin n) (j : Fin n) : EReal := if j = p then ⊤ else f j

/-- The rounds: each takes the first position of the smallest value and strikes it out. -/
structure Rounds {n : Nat} (D : ℕ → Fin n → EReal) (p : ℕ → Fin n) : Prop where
  first : ∀ k, IsFirst (D k) (p k)
  next : ∀ k, D (k + 1) = strike (D k) (p k)

/-- Of values below `⊤`, the rounds list the positions in sorted order. -/
theorem Rounds.eq_sorted {n : Nat} {D : ℕ → Fin n → EReal} {p : ℕ → Fin n} (h : Rounds D p) (hf : ∀ j, D 0 j < ⊤) (k : ℕ) (hk : k < n) :
    p k = sortedFrom (fun i j => decide (D 0 i < D 0 j)) ⟨k, hk⟩ := by
  set σ := sortedFrom (fun i j => decide (D 0 i < D 0 j)) with hσ
  have inj : Function.Injective σ := sortedFrom_injective _
  have sur : Function.Surjective σ := sortedFrom_surjective _
  suffices H : ∀ k, (hk : k < n) → (∀ l : Fin n, D k (σ l) = if l.val < k then ⊤ else D 0 (σ l)) ∧ p k = σ ⟨k, hk⟩ from (H k hk).2
  have pick : ∀ k, (hk : k < n) → (∀ l : Fin n, D k (σ l) = if l.val < k then ⊤ else D 0 (σ l)) → p k = σ ⟨k, hk⟩ := by
    intro k hk hD
    refine (h.first k).unique ⟨fun j => ?_, fun j hj => ?_⟩
    · obtain ⟨l, rfl⟩ := sur j
      rw [hD, hD, if_neg (lt_irrefl k)]
      split
      · exact le_top
      · rename_i hl
        rcases lt_or_eq_of_le (not_lt.1 hl) with hl | hl
        · rcases sorted_before (D 0) ⟨k, hk⟩ l hl with e | e
          · exact le_of_lt e
          · exact le_of_eq e.1
        · rw [show (⟨k, hk⟩ : Fin n) = l from Fin.ext hl]
    · obtain ⟨l, rfl⟩ := sur j
      rw [hD, hD, if_neg (lt_irrefl k)]
      split
      · exact hf _
      · rename_i hl
        rcases lt_or_eq_of_le (not_lt.1 hl) with hl | hl
        · rcases sorted_before (D 0) ⟨k, hk⟩ l hl with e | e
          · exact e
          · exact absurd hj (not_lt.2 (le_of_lt e.2))
        · exact absurd hj (by rw [show (⟨k, hk⟩ : Fin n) = l from Fin.ext hl]; exact lt_irrefl _)
  intro k
  induction k with
  | zero =>
    intro hk
    have hD : ∀ l : Fin n, D 0 (σ l) = if l.val < 0 then ⊤ else D 0 (σ l) := fun l => (if_neg (Nat.not_lt_zero _)).symm
    exact ⟨hD, pick 0 hk hD⟩
  | succ k ih =>
    intro hk
    obtain ⟨hD, hp⟩ := ih (Nat.lt_of_succ_lt hk)
    have hD' : ∀ l : Fin n, D (k + 1) (σ l) = if l.val < k + 1 then ⊤ else D 0 (σ l) := by
      intro l
      rw [h.next k, strike, hp, hD]
      by_cases e : l.val = k
      · rw [if_pos (by rw [show l = ⟨k, Nat.lt_of_succ_lt hk⟩ from Fin.ext e]), if_pos (by omega)]
      · rw [if_neg fun he => e (congrArg Fin.val (inj he))]
        by_cases e' : l.val < k
        · rw [if_pos e', if_pos (by omega)]
        · rw [if_neg e', if_neg (by omega)]
    exact ⟨hD', pick (k + 1) hk hD'⟩

end Cert.Knn

end
-- ==== Proof.Knn.Round.lean ====
/-
  One round of the search in exact arithmetic, row by row.
-/
module

public import proofs.«01_k».proof.Proof.Knn.Core
public import proofs.«01_k».proof.Proof.Gen.NearestIdeal.Frame
public import Idealize.ShloMosaic.Lib.Pointwise
public import Idealize.ShloMosaic.Lib.SortNet.Extract

@[expose] public section

set_option maxRecDepth 16384

noncomputable section

namespace Cert.Knn

open Cert.NearestIdeal Cert.NearestIdeal.Gen

open Idealize.ShloMosaic Idealize.ShloMosaic.TcCoe

section
variable {F : FTy → Type} [FloatOps F]

/-- The columns' numbers. -/
def cols : IVec S256x4096 32 := iota .tc S256x4096 32 [1] iota_S256x4096_d1_w32

/-- Every row's smallest distance. -/
def least (D : FVec F S256x4096 .f32) : FVec F S256x1 .f32 :=
  shapeCast S256x1 (multiReduction .minimumf [1] S256 D 0x7F800000#32 reduces_S256x4096_S256 (.inl rfl) rfl) shapeCasts_S256_S256x1

/-- The columns that hold it; every other entry is 4096. -/
def where' (D : FVec F S256x4096 .f32) : IVec S256x4096 32 :=
  select (cmpf .oeq D (broadcastTo S256x4096 (least D) broadcasts_S256x1_S256x4096)) cols (broadcast S256x4096 4096#32)

/-- The first of them. -/
def pick (D : FVec F S256x4096 .f32) : IVec S256 32 :=
  multiReductionI .minsi [1] S256 (where' D) 2147483647#32 reduces_S256x4096_S256 rfl

/-- The picked columns. -/
def picked (D : FVec F S256x4096 .f32) : IVec S256x4096 1 :=
  cmpi .eq cols (broadcastTo S256x4096 (shapeCast S256x1 (pick D) shapeCasts_S256_S256x1) broadcasts_S256x1_S256x4096)

/-- The distances with the picked columns struck out. -/
def mask (D : FVec F S256x4096 .f32) : FVec F S256x4096 .f32 :=
  select (picked D) (broadcast S256x4096 (Scalar.ofBits .f32 0x7F800000#32)) D

/-- The row a round stores. -/
def row (b : BitVec 32) (D : FVec F S256x4096 .f32) : IVec S1x1x256 32 :=
  shapeCast S1x1x256 (addi (pick D) (broadcast S256 b)) shapeCasts_S256_S1x1x256

variable (v : BitVec 32) (D : FVec F S256x4096 .f32)

theorem pay5_eq (x : Vec F S1x256x16 .f32) (y : Vec F S1x16x4096 .f32) : k0_pay5 x y = mask (k0_pay2 x y) := rfl
theorem pay6_eq (x : Vec F S1x256x16 .f32) (y : Vec F S1x16x4096 .f32) : k0_pay6 x y = least (mask (k0_pay2 x y)) := rfl
theorem pay4_eq (i : grid0.Coords) (x : Vec F S1x256x16 .f32) (y : Vec F S1x16x4096 .f32) :
    k0_pay4 i x y = row (Scalar.muli (BitVec.ofNat 32 (i 0).val) 4096#32) (k0_pay2 x y) := rfl
theorem pay8_eq : k0_pay8 cols v D (least D) = row v D := rfl
theorem pay11_eq : k0_pay11 cols v D (least D) = row v (mask D) := rfl
theorem pay12_eq : k0_pay12 cols D (least D) = mask (mask D) := rfl
theorem pay13_eq : k0_pay13 cols D (least D) = pick (mask (mask D)) := rfl
theorem pay15_eq : k0_pay15 (k0_pay14 cols v D (least D)) = row v (mask (mask D)) := rfl
theorem pay18_eq : k0_pay18 cols v D (pick D) = row v (mask D) := rfl
theorem pay19_eq : k0_pay19 cols D (pick D) = mask (mask D) := rfl
theorem pay21_eq : k0_pay21 cols v D (pick D) = row v (mask (mask D)) := rfl
theorem pay22_eq : k0_pay22 cols D (pick D) = picked (mask (mask D)) := rfl
theorem pay25_eq : k0_pay25 cols v D (picked D) (Scalar.ofBits .f32 0x7F800000#32) = row v (mask D) := rfl
theorem pay28_eq : k0_pay28 cols v D (picked D) (Scalar.ofBits .f32 0x7F800000#32) = row v (mask (mask D)) := rfl
theorem pay29_eq : k0_pay29 cols D (picked D) (Scalar.ofBits .f32 0x7F800000#32) = mask (mask (mask D)) := rfl
theorem pay30_eq : k0_pay30 cols D (picked D) (Scalar.ofBits .f32 0x7F800000#32) = where' (mask (mask (mask D))) := rfl
theorem pay32_eq : k0_pay32 v (where' D) = row v D := rfl
theorem pay35_eq : k0_pay35 cols v D (where' D) = row v (mask D) := rfl
theorem pay36_eq : k0_pay36 cols D (where' D) = mask (mask D) := rfl
theorem pay37_eq : k0_pay37 cols D (where' D) = pick (mask (mask D)) := rfl
theorem pay38_eq : k0_pay38 cols v D (where' D) = row v (mask (mask D)) := rfl
theorem pay41_eq : k0_pay41 cols v D (pick D) = row v (mask D) := rfl
theorem pay44_eq : k0_pay44 cols v D (pick D) = row v (mask (mask D)) := rfl
theorem pay45_eq : k0_pay45 cols D (pick D) = mask (mask (mask D)) := rfl
theorem pay46_eq : k0_pay46 cols D (pick D) = least (mask (mask (mask D))) := rfl
theorem pay48_eq : k0_pay48 cols v D (least D) = row v D := rfl
theorem pay51_eq : k0_pay51 cols v D (least D) = row v (mask D) := rfl
theorem pay52_eq : k0_pay1 (k0_pay52 cols v D (least D)) = row v (mask (mask D)) := rfl

end

end Cert.Knn

end
-- ==== Proof.Knn.Rows.lean ====
/-
  The rounds read row by row.
-/
module

public import proofs.«01_k».proof.Proof.Knn.Round

@[expose] public section

set_option maxRecDepth 16384

noncomputable section

namespace Cert.Knn

open Cert.NearestIdeal Cert.NearestIdeal.Gen

open Idealize.ShloMosaic Idealize.ShloMosaic.TcCoe

variable (D : FVec Ideal S256x4096 .f32) (r : Fin 256) (j : Fin 4096)

/-- A row of the distances. -/
def rowOf (D : FVec Ideal S256x4096 .f32) (r : Fin 256) (j : Fin 4096) : EReal := D (ix2 r j)

theorem least_apply : least D (ix2 r 0) = Finset.fold min (Ideal.ofBits .f32 0x7F800000#32) (rowOf D r) Finset.univ := by
  unfold rowOf
  pointwise [least]

theorem where_apply : where' D (ix2 r j) = Scalar.select (Ideal.cmp .oeq (rowOf D r j) (least D (ix2 r 0))) (BitVec.ofNat 32 j.val) 4096#32 := by
  unfold rowOf
  pointwise [where', cols]

theorem pick_apply : pick D (ix1 r) = Finset.fold IntOp.minsi 2147483647#32 (fun j => where' D (ix2 r j)) Finset.univ := by
  pointwise [pick]

theorem mask_apply : mask D (ix2 r j) = Scalar.select (IntOp.cmpi .eq (BitVec.ofNat 32 j.val) (pick D (ix1 r))) (Ideal.ofBits .f32 0x7F800000#32 : EReal) (rowOf D r j) := by
  unfold rowOf
  pointwise [mask, picked, cols]

theorem row_apply (b : BitVec 32) : row b D (ix3 0 0 r) = pick D (ix1 r) + b := by
  pointwise [row]
  rfl

theorem dist_apply (x : Vec Ideal S1x256x16 .f32) (y : Vec Ideal S1x16x4096 .f32) :
    k0_pay2 x y (ix2 r j) = ((∑ m : Fin 16, x (ix3 0 r m) * x (ix3 0 r m) + ∑ m : Fin 16, y (ix3 0 m j) * y (ix3 0 m j))
      - Ideal.ofBits .f32 0x40000000#32 * ∑ m : Fin 16, x (ix3 0 r m) * y (ix3 0 m j) : EReal) := by
  pointwise [k0_pay2]

theorem inf_top : (Ideal.ofBits .f32 0x7F800000#32 : EReal) = ⊤ := by simp [Ideal.ofBits, Ideal.ieee]

variable {D r}

theorem least_eq {p : Fin 4096} (h : IsFirst (rowOf D r) p) : (least D (ix2 r 0) : EReal) = rowOf D r p := by
  rw [least_apply, inf_top]
  refine le_antisymm ?_ ?_
  · exact Finset.fold_min_le _ |>.2 (Or.inr ⟨p, Finset.mem_univ p, le_rfl⟩)
  · exact Finset.le_fold_min _ |>.2 ⟨le_top, fun j _ => h.le j⟩

theorem where_eq {p : Fin 4096} (h : IsFirst (rowOf D r) p) : where' D (ix2 r j) = if rowOf D r j = rowOf D r p then BitVec.ofNat 32 j.val else 4096#32 := by
  rw [where_apply, least_eq h]
  by_cases e : rowOf D r j = rowOf D r p
  · rw [if_pos e]; simp [Ideal.cmp, Scalar.select, e]
  · rw [if_neg e]; simp [Ideal.cmp, Scalar.select, e]

theorem toInt_col (j : Fin 4096) : (BitVec.ofNat 32 j.val).toInt = (j.val : Int) := by
  have := j.isLt
  rw [BitVec.toInt_eq_toNat_of_lt (by simp; omega)]
  simp
  omega

/-- The picked column of a row is the first that holds its smallest distance. -/
theorem pick_eq {p : Fin 4096} (h : IsFirst (rowOf D r) p) : pick D (ix1 r) = BitVec.ofNat 32 p.val := by
  have hp : (p.val : Int) < 4096 := by have := p.isLt; omega
  have hw : ∀ j : Fin 4096, (p.val : Int) ≤ (where' D (ix2 r j)).toInt := by
    intro j
    rw [where_eq j h]
    split
    · rename_i e
      rw [toInt_col]
      by_contra hn
      exact absurd (h.lt j (by rw [Fin.lt_def]; omega)) (by rw [e]; exact lt_irrefl _)
    · exact le_of_lt hp
  refine BitVec.eq_of_toInt_eq ?_
  rw [pick_apply, toInt_col, ← Finset.fold_hom (op' := min) SortNet.toInt_minsi]
  refine le_antisymm ?_ ?_
  · refine Finset.fold_min_le _ |>.2 (Or.inr ⟨p, Finset.mem_univ p, ?_⟩)
    rw [where_eq p h, if_pos rfl, toInt_col]
  · refine Finset.le_fold_min _ |>.2 ⟨?_, fun j _ => hw j⟩
    have : (2147483647#32 : BitVec 32).toInt = 2147483647 := by decide
    omega

/-- A round strikes it out. -/
theorem mask_eq {p : Fin 4096} (h : IsFirst (rowOf D r) p) : rowOf (mask D) r = strike (rowOf D r) p := by
  funext j
  refine (mask_apply D r j).trans ?_
  rw [pick_eq h, inf_top, strike]
  by_cases e : j = p
  · rw [if_pos e, e]; simp [Scalar.select, IntOp.cmpi]
  · have : BitVec.ofNat 32 j.val ≠ BitVec.ofNat 32 p.val := fun hn => e (Fin.ext (by
      have := congrArg BitVec.toInt hn
      rw [toInt_col, toInt_col] at this
      omega))
    rw [if_neg e]
    have hc : IntOp.cmpi .eq (BitVec.ofNat 32 j.val) (BitVec.ofNat 32 p.val) = 0#1 := congrArg BitVec.ofBool (beq_false_of_ne this)
    exact if_neg (by rw [hc]; decide)

/-- The distances after `k` rounds, and the column round `k` picks. -/
def after (D : FVec Ideal S256x4096 .f32) (k : ℕ) : FVec Ideal S256x4096 .f32 := mask^[k] D
def col (D : FVec Ideal S256x4096 .f32) (r : Fin 256) (k : ℕ) : Fin 4096 := Classical.choose (exists_isFirst (rowOf (after D k) r))

theorem rounds (D : FVec Ideal S256x4096 .f32) (r : Fin 256) : Rounds (fun k => rowOf (after D k) r) (col D r) where
  first k := Classical.choose_spec (exists_isFirst (rowOf (after D k) r))
  next k := by
    unfold after
    rw [Function.iterate_succ_apply']
    exact mask_eq (Classical.choose_spec (exists_isFirst (rowOf (after D k) r)))

/-- Of distances below `⊤`, round `k` picks the column that a stable sort of the row puts at place `k`. -/
theorem pick_after (D : FVec Ideal S256x4096 .f32) (r : Fin 256) (hD : ∀ j, rowOf D r j < ⊤) (k : ℕ) (hk : k < 4096) :
    pick (after D k) (ix1 r) = BitVec.ofNat 32 (sortedFrom (fun i j => decide (rowOf D r i < rowOf D r j)) ⟨k, hk⟩).val := by
  have h := (rounds D r).eq_sorted hD k hk
  rw [pick_eq ((rounds D r).first k), h]
  rfl

end Cert.Knn

end
-- ==== Proof.Knn.Block.lean ====
/-
  The block a grid point leaves: round `k` fills row `k`.
-/
module

public import proofs.«01_k».proof.Proof.Knn.Rows
public import Idealize.ShloMosaic.Lib.Pipeline.ValueKit.Tiles

@[expose] public section

set_option maxRecDepth 16384

noncomputable section

namespace Cert.Knn

open Cert.NearestIdeal Cert.NearestIdeal.Gen

open Idealize.ShloMosaic Idealize.ShloMosaic.TcCoe

section
variable (i : grid0.Coords) (x0 : Vec Ideal S1x256x16 .f32) (x1 : Vec Ideal S1x16x4096 .f32)

/-- The first row of a batch, as a word, and the point's distances. -/
def base (i : grid0.Coords) : BitVec 32 := Scalar.muli (BitVec.ofNat 32 (i 0).val) 4096#32
def dist (x0 : Vec Ideal S1x256x16 .f32) (x1 : Vec Ideal S1x16x4096 .f32) : FVec Ideal S256x4096 .f32 := k0_pay2 x0 x1

theorem ld0 : View.ld x0 r0_0 = x0 := View.ld_unit_zero (by decide) _ _
theorem ld1 : View.ld x1 r0_1 = x1 := View.ld_unit_zero (by decide) _ _

theorem mask_after (D : FVec Ideal S256x4096 .f32) (k : ℕ) : mask (after D k) = after D (k + 1) := (Function.iterate_succ_apply' mask k D).symm
theorem dist_after : k0_pay2 x0 x1 = after (dist x0 x1) 0 := rfl

theorem out_eq : out0_2 i x0 x1 = View.canon [⟨r0_17, row (base i) (after (dist x0 x1) 15)⟩, ⟨r0_16, row (base i) (after (dist x0 x1) 14)⟩,
    ⟨r0_15, row (base i) (after (dist x0 x1) 13)⟩, ⟨r0_14, row (base i) (after (dist x0 x1) 12)⟩,
    ⟨r0_13, row (base i) (after (dist x0 x1) 11)⟩, ⟨r0_12, row (base i) (after (dist x0 x1) 10)⟩,
    ⟨r0_11, row (base i) (after (dist x0 x1) 9)⟩, ⟨r0_10, row (base i) (after (dist x0 x1) 8)⟩,
    ⟨r0_9, row (base i) (after (dist x0 x1) 7)⟩, ⟨r0_8, row (base i) (after (dist x0 x1) 6)⟩,
    ⟨r0_7, row (base i) (after (dist x0 x1) 5)⟩, ⟨r0_6, row (base i) (after (dist x0 x1) 4)⟩,
    ⟨r0_5, row (base i) (after (dist x0 x1) 3)⟩, ⟨r0_4, row (base i) (after (dist x0 x1) 2)⟩,
    ⟨r0_3, row (base i) (after (dist x0 x1) 1)⟩, ⟨r0_2, row (base i) (after (dist x0 x1) 0)⟩] := by
  have h53 : k0_pay53 i x0 x1 = cols := rfl
  have h54 : k0_pay54 i x0 x1 = after (dist x0 x1) 1 := by unfold k0_pay54; rw [ld0, ld1, pay5_eq, dist_after, mask_after]
  have h55 : k0_pay55 i x0 x1 = least (after (dist x0 x1) 1) := by unfold k0_pay55; rw [ld0, ld1, pay6_eq, dist_after, mask_after]
  have h56 : k0_pay56 i x0 x1 = after (dist x0 x1) 3 := by unfold k0_pay56; rw [h53, h54, h55, pay12_eq]; simp only [mask_after, Nat.reduceAdd]
  have h57 : k0_pay57 i x0 x1 = pick (after (dist x0 x1) 3) := by unfold k0_pay57; rw [h53, h54, h55, pay13_eq]; simp only [mask_after, Nat.reduceAdd]
  have h58 : k0_pay58 i x0 x1 = after (dist x0 x1) 5 := by unfold k0_pay58; rw [h53, h56, h57, pay19_eq]; simp only [mask_after, Nat.reduceAdd]
  have h59 : k0_pay59 i x0 x1 = picked (after (dist x0 x1) 5) := by unfold k0_pay59; rw [h53, h56, h57, pay22_eq]; simp only [mask_after, Nat.reduceAdd]
  have h60 : k0_pay60 i x0 x1 = after (dist x0 x1) 8 := by unfold k0_pay60; rw [h53, h58, h59, pay29_eq]; simp only [mask_after, Nat.reduceAdd]
  have h61 : k0_pay61 i x0 x1 = where' (after (dist x0 x1) 8) := by unfold k0_pay61; rw [h53, h58, h59, pay30_eq]; simp only [mask_after, Nat.reduceAdd]
  have h62 : k0_pay62 i x0 x1 = after (dist x0 x1) 10 := by unfold k0_pay62; rw [h53, h60, h61, pay36_eq]; simp only [mask_after, Nat.reduceAdd]
  have h63 : k0_pay63 i x0 x1 = pick (after (dist x0 x1) 10) := by unfold k0_pay63; rw [h53, h60, h61, pay37_eq]; simp only [mask_after, Nat.reduceAdd]
  have h64 : k0_pay64 i x0 x1 = after (dist x0 x1) 13 := by unfold k0_pay64; rw [h53, h62, h63, pay45_eq]; simp only [mask_after, Nat.reduceAdd]
  have h65 : k0_pay65 i x0 x1 = least (after (dist x0 x1) 13) := by unfold k0_pay65; rw [h53, h62, h63, pay46_eq]; simp only [mask_after, Nat.reduceAdd]
  unfold out0_2
  rw [ld0, ld1, h53, h54, h55, h56, h57, h58, h59, h60, h61, h62, h63, h64, h65, pay52_eq, pay51_eq, pay48_eq, pay44_eq, pay41_eq, pay38_eq, pay35_eq,
    pay32_eq, pay28_eq, pay25_eq, pay21_eq, pay18_eq, pay15_eq, pay11_eq, pay8_eq, pay4_eq, dist_after]
  simp only [mask_after, Nat.reduceAdd]
  rfl

/-- Row `k` of the block holds round `k`'s columns, counted from the batch's first row. -/
theorem out_apply (k : Fin 16) (r : Fin 256) : out0_2 i x0 x1 (ix3 0 k r) = pick (after (dist x0 x1) k.val) (ix1 r) + base i := by
  rw [out_eq]
  refine View.canon_eq_of_allAt _ _ _ (cover0_2 _ _ _ _ _ _ _ _ _ _ _ _ _ _ _ _ _) ?_
  have h (n : ℕ) (inb : ∀ a, (![0, n, 0] : Fin 3 → ℕ) a + S1x1x256.size a ≤ S1x16x256.size a) : View.RectAt (Val := Elt Ideal) (e := .i32) (ix3 0 k r : S1x16x256.Idx) (Rect.unit (s := S1x16x256) ![0, n, 0] S1x1x256.size inb)
      (row (base i) (after (dist x0 x1) n)) (pick (after (dist x0 x1) k.val) (ix1 r) + base i) := by
    intro x hx
    have h1 : n + 1 * (x 1).val = k.val := congrArg (fun z : S1x16x256.Idx => (z 1).val) hx
    have h2 : 0 + 1 * (x 2).val = r.val := congrArg (fun z : S1x16x256.Idx => (z 2).val) hx
    have h3 : (x 0).val < 1 := (x 0).isLt
    have h4 : (x 1).val < 1 := (x 1).isLt
    have hx' : x = (ix3 0 0 r : S1x1x256.Idx) := by
      funext a
      match a with
      | ⟨0, _⟩ => exact Fin.ext (Nat.lt_one_iff.1 h3)
      | ⟨1, _⟩ => exact Fin.ext (Nat.lt_one_iff.1 h4)
      | ⟨2, _⟩ => exact Fin.ext (by show (x 2).val = r.val; omega)
    rw [hx', show k.val = n by omega]
    exact row_apply _ r (base i)
  intro p hp
  simp only [List.mem_cons, List.not_mem_nil, or_false] at hp
  rcases hp with rfl | rfl | rfl | rfl | rfl | rfl | rfl | rfl | rfl | rfl | rfl | rfl | rfl | rfl | rfl | rfl
  all_goals exact h _ (by decide +kernel)

end

end Cert.Knn

end
-- ==== Proof.Knn.Spec.lean ====
/-
  The search as mathematics: the squared distances between the points of a batch, and the nearest of them in order.
-/
module

public import Idealize.ShloMosaic.PureOps.Ideal
public import Idealize.ShloMosaic.PureOps.ShapeOps
public import proofs.«01_k».proof.Proof.Alg.Math
public import Mathlib.Tactic.NormNum

@[expose] public section

noncomputable section

namespace Cert.Knn

open Idealize.ShloMosaic

/-- The factor of the mixed term, the number two as its word spells it. -/
def two : EReal := Ideal.ofBits .f32 0x40000000#32

/-- The squared distance of points `n` and `j`, expanded. -/
def sqd (p : Fin 4096 → Fin 3 → EReal) (n j : Fin 4096) : EReal :=
  (∑ d, p n d * p n d + ∑ d, p j d * p j d) - two * ∑ d, p n d * p j d

/-- The `k`-th nearest point of `n`: ties go to the smaller index. -/
def near (p : Fin 4096 → Fin 3 → EReal) (n : Fin 4096) (k : Fin 16) : Fin 4096 :=
  sortedFrom (fun i j => decide (sqd p n i < sqd p n j)) ⟨k.val, by omega⟩

/-- The same as a row of the table of all points. -/
def nearRow (p : Fin 2 → Fin 4096 → Fin 3 → EReal) (b : Fin 2) (n : Fin 4096) (k : Fin 16) : BitVec 32 :=
  BitVec.ofNat 32 (near (p b) n k).val + BitVec.ofNat 32 b.val * 4096#32

theorem two_real : ∃ r : ℝ, two = (r : EReal) := by
  refine ⟨2, ?_⟩
  simp [two, Ideal.ofBits, Ideal.ieee]
  rw [← EReal.coe_mul]
  exact congrArg _ (by norm_num)

/-- Finite coordinates lie at finite distances. -/
theorem sqd_lt_top {p : Fin 4096 → Fin 3 → EReal} (hp : ∃ r : Fin 4096 → Fin 3 → ℝ, ∀ n d, p n d = (r n d : EReal)) (n j : Fin 4096) : sqd p n j < ⊤ := by
  obtain ⟨r, hr⟩ := hp
  obtain ⟨t, ht⟩ := two_real
  have h (i l : Fin 4096) : (∑ d, p i d * p l d) = ((∑ d, r i d * r l d : ℝ) : EReal) := by
    rw [Cert.Alg.coe_sum]
    exact Finset.sum_congr rfl fun d _ => by rw [hr, hr, EReal.coe_mul]
  unfold sqd
  rw [h, h, h, ht, ← EReal.coe_add, ← EReal.coe_mul, ← EReal.coe_sub]
  exact EReal.coe_lt_top _

end Cert.Knn

end
-- ==== Proof.Knn.Host.lean ====
/-
  The array the search leaves: every point's nearest points, in order.
-/
module

public import proofs.«01_k».proof.Proof.Knn.Block
public import proofs.«01_k».proof.Proof.Knn.Spec
public import proofs.«01_k».proof.Proof.Alg.HostVal
public import Idealize.ShloMosaic.Lib.Pipeline.ValueKit.Geometry

@[expose] public section

set_option maxRecDepth 16384

noncomputable section

namespace Cert.Knn

open Cert.NearestIdeal Cert.NearestIdeal.Gen

open Idealize.ShloMosaic Idealize.ShloMosaic.TcCoe

variable (m : (ℓ : Loc nD τ sig) → Buf (Elt Ideal) ℓ) (c : Dev nD)

/-! ## What the host lays out -/

/-- The coordinates given. -/
def coords : FVec Ideal S2x4096x3 .f32 := m ((c.tc : Thread nD τ).loc main_arg0)
def zeroIx : IVec S1 32 := broadcastInDim S1 ![] bcast_S_S1 (constantI S_ 32 0#32)
theorem zeroIx_apply (j : S1.Idx) : zeroIx j = 0#32 := rfl
/-- The coordinates on sixteen lanes. -/
def lanes (a0 : FVec Ideal S2x4096x3 .f32) : FVec Ideal S2x4096x16 .f32 :=
  Host.scatter scatter_S2x4096x16_S1_S2x4096x3_012_n_2_0 (fun _ b => b) (broadcastInDim S2x4096x16 ![] bcast_S_S2x4096x16 (constant S_ .f32 0x00000000#32)) zeroIx a0

theorem lanes_lo (a0 : FVec Ideal S2x4096x3 .f32) (b : Fin 2) (n : Fin 4096) (d : Fin 3) : lanes a0 (ix3 b n (Fin.castAdd 13 d)) = a0 (ix3 b n d) := by
  refine Cert.KernelIdeal.Pf.corner_hit _ _ _ _ _ zeroIx_apply (ix3 b n d) (fun a => ?_) fun k hk => funext fun a => Fin.ext ?_
  · match a with
    | ⟨0, _⟩ => rfl
    | ⟨1, _⟩ => rfl
    | ⟨2, _⟩ => rfl
  · match a with
    | ⟨0, _⟩ => exact hk 0
    | ⟨1, _⟩ => exact hk 1
    | ⟨2, _⟩ => exact hk 2
theorem lanes_hi (a0 : FVec Ideal S2x4096x3 .f32) (b : Fin 2) (n : Fin 4096) (l : Fin 16) (hl : 3 ≤ l.val) : lanes a0 (ix3 b n l) = (0 : EReal) := by
  refine (Cert.KernelIdeal.Pf.corner_miss _ _ _ _ _ zeroIx_apply 2 fun k hk => ?_).trans ?_
  · have h : (k 2).val = l.val := hk
    have : (k 2).val < 3 := (k 2).isLt
    omega
  · pointwise

theorem V_v2 : V m c main_v2 = lanes (coords m c) := by
  unfold V
  after_results_simp
  rfl
theorem V_v3 : V m c main_v3 = transpose S2x16x4096 [0, 2, 1] (lanes (coords m c)) transposes_S2x4096x16_S2x16x4096_0_2_1 := by
  unfold V
  after_results_simp
  rfl

/-! ## The blocks -/

/-- The grid coordinates of a point. -/
def pb (t : Fin cfg0.N) : Fin 2 := ⟨t.val / 16, by have : t.val < 32 := Nat.lt_of_lt_of_eq t.isLt (by decide); omega⟩
def pt (t : Fin cfg0.N) : Fin 16 := ⟨t.val % 16, Nat.mod_lt _ (by decide)⟩
def pnt (t : Fin 16) (r : Fin 256) : Fin 4096 := ⟨256 * t.val + r.val, by omega⟩

theorem coordVal0 (t : Fin cfg0.N) : (grid0.coords t 0).val = (pb t).val := by
  have ht : t.val < 32 := Nat.lt_of_lt_of_eq t.isLt (by decide)
  have e0 : (grid0.coords t 0).val = t.val / 16 % 2 := Pipeline.Grid.coords_val t 0 (by decide) rfl
  rw [e0]; show _ = t.val / 16; omega
theorem coord0 (t : Fin cfg0.N) : (BitVec.ofNat 32 (grid0.coords t 0).val).toNat = (pb t).val := by
  have := (pb t).isLt
  rw [BitVec.toNat_ofNat, coordVal0]; omega
theorem coord1 (t : Fin cfg0.N) : (BitVec.ofNat 32 (grid0.coords t 1).val).toNat = (pt t).val := by
  have ht : t.val < 32 := Nat.lt_of_lt_of_eq t.isLt (by decide)
  have e1 : (grid0.coords t 1).val = t.val / 1 % 16 := Pipeline.Grid.coords_val t 1 (by decide) rfl
  rw [BitVec.toNat_ofNat, e1]; show _ = t.val % 16; omega

theorem iblk0 (t : Fin cfg0.N) (r : Fin 256) (l : Fin 16) : iblk m c 0 t (ix3 0 r l) = lanes (coords m c) (ix3 (pb t) (pnt (pt t) r) l) := by
  rw [← V_v2]
  refine congrArg (V m c main_v2) (funext fun a => Fin.ext ?_)
  match a with
  | ⟨0, _⟩ => show (BitVec.ofNat 32 (grid0.coords t 0).val).toNat * 1 + 1 * 0 = (pb t).val; rw [coord0]; omega
  | ⟨1, _⟩ => show (BitVec.ofNat 32 (grid0.coords t 1).val).toNat * 256 + 1 * r.val = 256 * (pt t).val + r.val; rw [coord1]; omega
  | ⟨2, _⟩ => show 0 * 16 + 1 * l.val = l.val; omega
theorem iblk1 (t : Fin cfg0.N) (l : Fin 16) (j : Fin 4096) : iblk m c 1 t (ix3 0 l j) = lanes (coords m c) (ix3 (pb t) j l) := by
  have h : V m c main_v3 (ix3 (pb t) l j) = lanes (coords m c) (ix3 (pb t) j l) := by
    rw [V_v3]
    pointwise
  rw [← h]
  refine congrArg (V m c main_v3) (funext fun a => Fin.ext ?_)
  match a with
  | ⟨0, _⟩ => show (BitVec.ofNat 32 (grid0.coords t 0).val).toNat * 1 + 1 * 0 = (pb t).val; rw [coord0]; omega
  | ⟨1, _⟩ => show 0 * 16 + 1 * l.val = l.val; omega
  | ⟨2, _⟩ => show 0 * 4096 + 1 * j.val = j.val; omega

/-- The points' coordinates, as the mathematics takes them. -/
def pts (a0 : FVec Ideal S2x4096x3 .f32) (b : Fin 2) (n : Fin 4096) (d : Fin 3) : EReal := a0 (ix3 b n d)

theorem sum_lanes (a0 : FVec Ideal S2x4096x3 .f32) (b : Fin 2) (n j : Fin 4096) :
    (∑ l : Fin 16, (lanes a0 (ix3 b n l) * lanes a0 (ix3 b j l) : EReal)) = ∑ d, pts a0 b n d * pts a0 b j d := by
  refine (Cert.Alg.sum_lanes16 (fun l => lanes a0 (ix3 b n l)) (fun l => lanes a0 (ix3 b j l)) fun l hl => lanes_hi a0 b j l hl).trans ?_
  exact Finset.sum_congr rfl fun d _ => by
    show (lanes a0 (ix3 b n (Fin.castAdd 13 d)) * lanes a0 (ix3 b j (Fin.castAdd 13 d)) : EReal) = _
    rw [lanes_lo, lanes_lo]; rfl

/-- The distances the body works from. -/
theorem row_dist (t : Fin cfg0.N) (r : Fin 256) : rowOf (dist (iblk m c 0 t) (iblk m c 1 t)) r = sqd (pts (coords m c) (pb t)) (pnt (pt t) r) := by
  funext j
  refine (dist_apply r j (iblk m c 0 t) (iblk m c 1 t)).trans ?_
  simp only [iblk0, iblk1]
  rw [sum_lanes, sum_lanes, sum_lanes]
  rfl

/-! ## The result -/

/-- Every point's nearest points. -/
def result (a0 : FVec Ideal S2x4096x3 .f32) : IVec S2x16x4096 32 := fun i => nearRow (pts a0) (i 0) (i 2) (i 1)

theorem block_apply (t : Fin cfg0.N) (hf : ∀ b n j, sqd (pts (coords m c) b) n j < ⊤) (k : Fin 16) (r : Fin 256) :
    out0_2 (grid0.coords t) (iblk m c 0 t) (iblk m c 1 t) (ix3 0 k r) = nearRow (pts (coords m c)) (pb t) (pnt (pt t) r) k := by
  rw [out_apply, pick_after _ r (fun j => by rw [row_dist]; exact hf _ _ _) k.val (by omega), row_dist]
  show _ + BitVec.ofNat 32 (grid0.coords t 0).val * 4096#32 = _
  rw [coordVal0]
  rfl

theorem final (hf : ∀ b n j, sqd (pts (coords m c) b) n j < ⊤) : (dats m 0 c).arrAt 2 cfg0.N = result (coords m c) := by
  refine (dats m 0 c).arrAt_eq_of_covers 2 _ (by decide +kernel) fun t _ y => ?_
  have hy : y = (ix3 0 (y 1) (y 2) : S1x16x256.Idx) := by
    funext a
    match a with
    | ⟨0, _⟩ => exact Fin.ext (Nat.lt_one_iff.1 (y 0).isLt)
    | ⟨1, _⟩ => rfl
    | ⟨2, _⟩ => rfl
  have he : ((cfg0.win 2).blk t).view.emb y = (ix3 (pb t) (y 1) (pnt (pt t) (y 2)) : S2x16x4096.Idx) := by
    have h0 : (y 0).val < 1 := (y 0).isLt
    refine funext fun a => Fin.ext ?_
    match a with
    | ⟨0, _⟩ => show (BitVec.ofNat 32 (grid0.coords t 0).val).toNat * 1 + 1 * (y 0).val = (pb t).val; rw [coord0]; omega
    | ⟨1, _⟩ => show 0 * 16 + 1 * (y 1).val = (y 1).val; omega
    | ⟨2, _⟩ => show (BitVec.ofNat 32 (grid0.coords t 1).val).toNat * 256 + 1 * (y 2).val = 256 * (pt t).val + (y 2).val; rw [coord1]; omega
  rw [he]
  refine Eq.trans ?_ (block_apply m c t hf (y 1) (y 2))
  rw [← hy, ← after0_2]
  rfl

end Cert.Knn

end
-- ==== Proof.Knn.Ref.lean ====
/-
  The search's reference read at an index.
-/
module

public import proofs.«01_k».proof.Proof.Gen.FindKnnIdeal.Run
public import proofs.«01_k».proof.Proof.Knn.Spec
public import Idealize.ShloMosaic.Lib.Pointwise

@[expose] public section

set_option maxRecDepth 16384

noncomputable section

namespace Cert.FindKnnIdeal.Steps

open Cert.FindKnnIdeal Cert.FindKnnIdeal.Gen

open Idealize.ShloMosaic Idealize.ShloMosaic.TcCoe

/-- The points' coordinates, as the mathematics takes them. -/
def pts (a0 : FVec Ideal S2x4096x3 .f32) (b : Fin 2) (n : Fin 4096) (d : Fin 3) : EReal := a0 (ix3 b n d)

/-- The squared lengths, the mixed products, and the negated distances. -/
def sq (a0 : FVec Ideal S2x4096x3 .f32) : FVec Ideal S2x4096 .f32 :=
  Host.reduceAdd (mulf a0 a0) (constant S_ .f32 0x00000000#32) reducesTo_S2x4096x3_S2x4096_d2 h_S_
def mixed (a0 : FVec Ideal S2x4096x3 .f32) : FVec Ideal S2x4096x4096 .f32 :=
  Host.dotGeneral dot_S2x4096x3_S2x4096x3_S2x4096x4096_2_2_1_1_0_0 none a0 a0
def neg (a0 : FVec Ideal S2x4096x3 .f32) : FVec Ideal S2x4096x4096 .f32 :=
  Host.negf (subf (addf (broadcastInDim S2x4096x4096 ![0, 1, 2] bcast_S2x4096x1_S2x4096x4096_0_1_2 (broadcastInDim S2x4096x1 ![0, 1] bcast_S2x4096_S2x4096x1_0_1 (sq a0)))
    (broadcastInDim S2x4096x4096 ![0, 1, 2] bcast_S2x1x4096_S2x4096x4096_0_1_2 (broadcastInDim S2x1x4096 ![0, 2] bcast_S2x4096_S2x1x4096_0_2 (sq a0))))
    (mulf (broadcastInDim S2x4096x4096 ![] bcast_S_S2x4096x4096 (constant S_ .f32 0x40000000#32)) (mixed a0)))
/-- The first row of every batch. -/
def firsts : IVec S2x4096x16 32 :=
  broadcastInDim S2x4096x16 ![0, 1, 2] bcast_S2x1x1_S2x4096x16_0_1_2 (muli (broadcastInDim S2x1x1 ![] bcast_S_S2x1x1 (constantI S_ 32 4096#32)) (broadcastInDim S2x1x1 ![0] bcast_S2_S2x1x1_0 (iotaInDim S2 32 0)))
def places (x : FVec Ideal S2x4096x4096 .f32) : IVec S2x4096x16 32 :=
  (Host.topK S2x4096x16 2 (FloatOps.cmpfTotal .gt) x sliceFits_S2x4096x4096_S2x4096x16).2
def found (a0 : FVec Ideal S2x4096x3 .f32) : IVec S2x16x4096 32 :=
  transpose S2x16x4096 [0, 2, 1] (addi (places (neg a0)) firsts) transposes_S2x4096x16_S2x16x4096_0_2_1

variable (a0 : FVec Ideal S2x4096x3 .f32) (b : Fin 2) (n j : Fin 4096) (k : Fin 16)

theorem sq_apply : sq a0 (ix2 b n) = (∑ d, pts a0 b n d * pts a0 b n d : EReal) := by
  unfold pts
  pointwise [sq]

theorem mixed_apply : mixed a0 (ix3 b n j) = (∑ d, pts a0 b n d * pts a0 b j d : EReal) := by
  unfold pts
  pointwise [mixed]

theorem neg_apply : neg a0 (ix3 b n j) = (-(Cert.Knn.sqd (pts a0 b) n j) : EReal) := by
  have h : neg a0 (ix3 b n j) = (-((sq a0 (ix2 b n) + sq a0 (ix2 b j)) - Ideal.ofBits .f32 0x40000000#32 * mixed a0 (ix3 b n j)) : EReal) := by
    pointwise [neg]
  rw [h, sq_apply, sq_apply, mixed_apply]
  rfl

theorem firsts_apply : firsts (ix3 b n k) = 4096#32 * BitVec.ofNat 32 b.val := by
  pointwise [firsts]
  rfl

/-- An index of the first entries, as an index of the whole array. -/
def lift {s t : Shape} (h : s.Slices (fun _ => 0) t) (j : t.Idx) : s.Idx := fun a =>
  ⟨0 + (j (a.cast h.1.symm)).val, Nat.lt_of_lt_of_le (Nat.add_lt_add_left (j _).isLt _) (h.2 a)⟩

/-- The places a top-k takes are those of the stable sort of the line the index lies on. -/
theorem topK_places {s : Shape} {α : Type} (t : Shape) (d : ℕ) (hd : d < s.rank) (gt : α → α → BitVec 1) (x : s.Idx → α) (h : s.Slices (fun _ => 0) t) (j : t.Idx) :
    (Host.topK t d gt x h).2 j = BitVec.ofNat 32 (sortedFrom (fun i i' =>
      gt (x ((lift h j).along ⟨d, hd⟩ i)) (x ((lift h j).along ⟨d, hd⟩ i')) == 1#1) (lift h j ⟨d, hd⟩)).val := by
  unfold Host.topK Host.sort2
  simp only [hd, dif_pos]
  show BitVec.ofNat 32 (((lift h j).along ⟨d, hd⟩ _) ⟨d, hd⟩).val = _
  unfold Shape.Idx.along
  rw [Function.update_self]
  rfl

/-- Entry `(b, n, k)` of the places, as an index of the whole table. -/
def up (b : Fin 2) (n : Fin 4096) (k : Fin 16) : S2x4096x4096.Idx := lift sliceFits_S2x4096x4096_S2x4096x16 (ix3 b n k)

theorem up_along (i : Fin 4096) : (up b n k).along (2 : Fin 3) i = (ix3 b n i : S2x4096x4096.Idx) := by
  funext a
  match a with
  | ⟨0, _⟩ => exact Fin.ext (Nat.zero_add _)
  | ⟨1, _⟩ => exact Fin.ext (Nat.zero_add _)
  | ⟨2, _⟩ => rfl

theorem up_two : (up b n k) (2 : Fin 3) = (⟨k.val, by omega⟩ : Fin 4096) := Fin.ext (Nat.zero_add _)

theorem greater (u v : EReal) : (Ideal.cmp .ogt u v == 1#1) = decide (v < u) := by
  show (BitVec.ofBool (decide (v < u)) == 1#1) = decide (v < u)
  by_cases h : v < u
  · rw [decide_eq_true h]; rfl
  · rw [decide_eq_false h]; rfl

/-- The places a top-k takes are those of a stable sort, the greater first. -/
theorem places_apply (x : FVec Ideal S2x4096x4096 .f32) :
    places x (ix3 b n k) = BitVec.ofNat 32 (sortedFrom (fun i j => decide ((x (ix3 b n j) : EReal) < x (ix3 b n i))) (⟨k.val, by omega⟩ : Fin 4096)).val := by
  have hd : 2 < S2x4096x4096.rank := by decide
  have hb (i j : Fin 4096) : (FloatOps.cmpfTotal .gt (x ((up b n k).along ⟨2, hd⟩ i)) (x ((up b n k).along ⟨2, hd⟩ j)) == 1#1)
      = decide ((x (ix3 b n j) : EReal) < x (ix3 b n i)) := by
    refine (greater _ _).trans ?_
    exact congrArg₂ (fun u v : EReal => decide (u < v)) (congrArg x (up_along b n k j)) (congrArg x (up_along b n k i))
  refine (topK_places S2x4096x16 2 hd (FloatOps.cmpfTotal .gt) x _ _).trans ?_
  refine congrArg (BitVec.ofNat 32) (congrArg Fin.val ?_)
  exact congr (congrArg (sortedFrom (n := 4096)) (funext fun i => funext fun j => hb i j)) (up_two b n k)

theorem found_apply : found a0 (ix3 b k n) = Cert.Knn.nearRow (pts a0) b n k := by
  have h : found a0 (ix3 b k n) = places (neg a0) (ix3 b n k) + firsts (ix3 b n k) := by
    pointwise [found]
    rfl
  have hs : (fun i j : Fin 4096 => decide ((neg a0 (ix3 b n j) : EReal) < neg a0 (ix3 b n i)))
      = fun i j => decide (Cert.Knn.sqd (pts a0 b) n i < Cert.Knn.sqd (pts a0 b) n j) := by
    funext i j
    rw [neg_apply, neg_apply]
    exact decide_eq_decide.2 EReal.neg_lt_neg_iff
  rw [h, places_apply, firsts_apply, hs, BitVec.mul_comm]
  rfl

end Cert.FindKnnIdeal.Steps

end
-- ==== Proof.Knn.Algebraic.lean ====
/-
  The search's value claim: over the extended reals both programs end with the same neighbours, in the same order.
-/
module

public import proofs.«01_k».proof.Defs
public import proofs.«01_k».proof.Proof.Knn.Host
public import proofs.«01_k».proof.Proof.Knn.Ref
public import proofs.«01_k».proof.Proof.Gen.Pre_coords_ok
public import proofs.«01_k».proof.Proof.Alg.Pre

@[expose] public section

set_option maxRecDepth 16384

noncomputable section

namespace Cert.Proof

open Idealize.ShloMosaic Idealize.ShloMosaic.TcCoe Idealize.SL.Sem

section Facts

open Cert.Pre_coords_ok Cert.Pre_coords_ok.Gen

instance : Subsingleton Cert.Pre_coords_ok.S_.Idx := ⟨fun a b => funext fun i => i.elim0⟩

/-- The precondition says that the coordinates are real numbers. -/
theorem coords_real {a0 : FVec Ideal S2x4096x3 .f32} (h : Cert.Pre_coords_ok.fn a0 = fun _ => 1#1) (j : S2x4096x3.Idx) :
    ∃ r : ℝ, (a0 j : EReal) = (r : EReal) :=
  Cert.Alg.real_of (a0 j) (Host.reduce_andi_all _ _ _ _ _ (congrFun h (Shape.Idx.first h_S_)) j)

end Facts

open Cert.NearestIdeal Cert.NearestIdeal.Gen Cert.Knn

theorem coords_lt (m : (ℓ : Loc nD τ sig) → Buf (Elt Ideal) ℓ) (h : Cert.Pre_NearestIdeal_coords_ok m) (c : Dev nD) (b : Fin 2) (n j : Fin 4096) :
    sqd (pts (coords m c) b) n j < ⊤ := by
  have hr := fun i => coords_real (h c) i
  choose r hr using hr
  exact sqd_lt_top ⟨fun n d => r (ix3 b n d), fun n d => hr (ix3 b n d)⟩ n j

theorem algebraic_knn : Cert.algebraic_NearestIdeal_FindKnnIdeal_pre_coords_ok := by
  intro m g m' g' hm hmm
  refine ⟨fun c => result (coords m c), ?_, ?_⟩
  · refine (θ_run Cert.NearestIdeal.defs _ _).mono (fun r h c => ⟨?_, ?_⟩) (θ_run_and (run_main m g) (unchanged m g))
    · exact (h.1.out_eq c 2).trans (final m c (coords_lt m hm c))
    · exact h.2 c
  · refine (θ_run Cert.FindKnnIdeal.defs _ _).mono (fun r h c => ⟨(h c).1.trans ?_, (h c).2⟩) (Cert.FindKnnIdeal.Value.run m' g')
    show Cert.FindKnnIdeal.Steps.found (m' ((c.tc : Thread Cert.FindKnnIdeal.nD Cert.FindKnnIdeal.τ).loc Cert.FindKnnIdeal.main_arg0)) = result (coords m c)
    rw [hmm c]
    funext i
    have hi : i = (ix3 (i 0 : Fin 2) (i 1 : Fin 16) (i 2 : Fin 4096) : S2x16x4096.Idx) := by
      funext a
      match a with
      | ⟨0, _⟩ => rfl
      | ⟨1, _⟩ => rfl
      | ⟨2, _⟩ => rfl
    refine (congrArg _ hi).trans ?_
    exact Cert.FindKnnIdeal.Steps.found_apply _ (i 0 : Fin 2) (i 2 : Fin 4096) (i 1 : Fin 16)

end Cert.Proof

end
-- ==== Proof.lean ====
/-
  The claims, assembled.
-/
module

public import proofs.«01_k».proof.Defs
public import proofs.«01_k».proof.Proof.Frames
public import proofs.«01_k».proof.Proof.FramesArgs
public import proofs.«01_k».proof.Proof.Algebraic
public import proofs.«01_k».proof.Proof.Knn.Frames
public import proofs.«01_k».proof.Proof.Knn.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Nearest.Gen.facts,
  Cert.NearestIdeal.Gen.facts, Cert.FindKnnIdeal.Gen.facts, Cert.Pre_rows_ok.Gen.facts, Cert.Pre_args_ok.Gen.facts, Cert.Pre_coords_ok.Gen.facts,
  frame_kernel, frame_kernel_ideal, frame_kernel_ideal_args_ok, frame_reference, frame_reference_args_ok, frame_nearest, frame_nearest_ideal,
  frame_nearest_ideal_coords_ok, frame_find_knn, frame_find_knn_coords_ok, trivial, algebraic, trivial, algebraic_knn⟩

end Cert.Proof

end
